-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x577x384 : Shape := ⟨3, ![32, 577, 384]⟩
abbrev S384 : Shape := ⟨1, ![384]⟩
abbrev S384x1152 : Shape := ⟨2, ![384, 1152]⟩
abbrev S1152 : Shape := ⟨1, ![1152]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  bcast_S_S384x1152 : S_.BroadcastsInDim S384x1152 (![] : Fin 0 → Fin S384x1152.rank)
  reducesTo_S384x1152_S_d0_1 : S384x1152.ReducesTo [0, 1] S_
  bcast_S_S1152 : S_.BroadcastsInDim S1152 (![] : Fin 0 → Fin S1152.rank)
  reducesTo_S1152_S_d0 : S1152.ReducesTo [0] S_

variable [Facts]

def fn_part1 {F : FTy → Type} [FloatOps F] (main_v13 : IVec S_ 1) (main_v16 : IVec S1152 1) : IVec S_ 1 :=
  let main_c_5 : IVec S_ 1 := constantI S_ 1 1#1
  let main_v17 : IVec S_ 1 := (fun x v => Host.reduce IntOp.andi x v reducesTo_S1152_S_d0 h_S_) main_v16 main_c_5
  let main_v18 : IVec S_ 1 := andi main_v13 main_v17
  main_v18

def fn {F : FTy → Type} [FloatOps F] (main_arg0 : FVec F S32x577x384 .f32) (main_arg1 : FVec F S384 .f32) (main_arg2 : FVec F S384 .f32) (main_arg3 : FVec F S384x1152 .f32) (main_arg4 : FVec F S1152 .f32) (main_arg5 : FVec F S384x384 .f32) (main_arg6 : FVec F S384 .f32) (main_arg7 : FVec F S384 .f32) (main_arg8 : FVec F S384 .f32) (main_arg9 : FVec F S384x1536 .f32) (main_arg10 : FVec F S1536 .f32) (main_arg11 : FVec F S1536x384 .f32) (main_arg12 : FVec F S384 .f32) : IVec S_ 1 :=
  let main_v0 : FVec F S384 .f32 := Host.absf main_arg1
  let main_cst : FVec F S_ .f32 := constant S_ .f32 0x7F800000#32
  let main_v1 : FVec F S384 .f32 := broadcastInDim S384 ![] bcast_S_S384 main_cst
  let main_v2 : IVec S384 1 := cmpf .olt main_v0 main_v1
  let main_c : IVec S_ 1 := constantI S_ 1 1#1
  let main_v3 : IVec S_ 1 := (fun x v => Host.reduce IntOp.andi x v reducesTo_S384_S_d0 h_S_) main_v2 main_c
  let main_v4 : FVec F S384 .f32 := Host.absf main_arg2
  let main_cst_0 : FVec F S_ .f32 := constant S_ .f32 0x7F800000#32
  let main_v5 : FVec F S384 .f32 := broadcastInDim S384 ![] bcast_S_S384 main_cst_0
  let main_v6 : IVec S384 1 := cmpf .olt main_v4 main_v5
  let main_c_1 : IVec S_ 1 := constantI S_ 1 1#1
  let main_v7 : IVec S_ 1 := (fun x v => Host.reduce IntOp.andi x v reducesTo_S384_S_d0 h_S_) main_v6 main_c_1
  let main_v8 : IVec S_ 1 := andi main_v3 main_v7
  let main_v9 : FVec F S384x1152 .f32 := Host.absf main_arg3
  let main_cst_2 : FVec F S_ .f32 := constant S_ .f32 0x7F800000#32
  let main_v10 : FVec F S384x1152 .f32 := broadcastInDim S384x1152 ![] bcast_S_S384x1152 main_cst_2
  let main_v11 : IVec S384x1152 1 := cmpf .olt main_v9 main_v10
  let main_c_3 : IVec S_ 1 := constantI S_ 1 1#1
  let main_v12 : IVec S_ 1 := (fun x v => Host.reduce IntOp.andi x v reducesTo_S384x1152_S_d0_1 h_S_) main_v11 main_c_3
  let main_v13 : IVec S_ 1 := andi main_v8 main_v12
  let main_v14 : FVec F S1152 .f32 := Host.absf main_arg4
  let main_cst_4 : FVec F S_ .f32 := constant S_ .f32 0x7F800000#32
  let main_v15 : FVec F S1152 .f32 := broadcastInDim S1152 ![] bcast_S_S1152 main_cst_4
  let main_v16 : IVec S1152 1 := cmpf .olt main_v14 main_v15
  fn_part1 (F := F) main_v13 main_v16
-- ==== Kernel.lean ====
abbrev S32x577x384 : Shape := ⟨3, ![32, 577, 384]⟩
abbrev S384 : Shape := ⟨1, ![384]⟩
abbrev S384x1152 : Shape := ⟨2, ![384, 1152]⟩
abbrev S1152 : Shape := ⟨1, ![1152]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S_ : Shape := ⟨0, ![]⟩
abbrev S32x577 : Shape := ⟨2, ![32, 577]⟩
abbrev S32x577x1 : Shape := ⟨3, ![32, 577, 1]⟩
abbrev S1x1x384 : Shape := ⟨3, ![1, 1, 384]⟩
abbrev S32x577x1152 : Shape := ⟨3, ![32, 577, 1152]⟩
abbrev S1x1x1152 : Shape := ⟨3, ![1, 1, 1152]⟩
abbrev S32x577x3x6x64 : Shape := ⟨5, ![32, 577, 3, 6, 64]⟩
abbrev S32x577x1x6x64 : Shape := ⟨5, ![32, 577, 1, 6, 64]⟩
abbrev S32x577x6x64 : Shape := ⟨4, ![32, 577, 6, 64]⟩
abbrev S32x577x64 : Shape := ⟨3, ![32, 577, 64]⟩
abbrev S32x576x64 : Shape := ⟨3, ![32, 576, 64]⟩
abbrev S32x576 : Shape := ⟨2, ![32, 576]⟩
abbrev S32x576x1 : Shape := ⟨3, ![32, 576, 1]⟩
abbrev S32x288x64 : Shape := ⟨3, ![32, 288, 64]⟩
abbrev S32x288x288 : Shape := ⟨3, ![32, 288, 288]⟩
abbrev S32x288 : Shape := ⟨2, ![32, 288]⟩
abbrev S32x16 : Shape := ⟨2, ![32, 16]⟩
abbrev S32 : Shape := ⟨1, ![32]⟩
abbrev S32x1 : Shape := ⟨2, ![32, 1]⟩
abbrev S32x16x1 : Shape := ⟨3, ![32, 16, 1]⟩
abbrev S32x16x2 : Shape := ⟨3, ![32, 16, 2]⟩
abbrev S32x1x288 : Shape := ⟨3, ![32, 1, 288]⟩
abbrev S32x3x288 : Shape := ⟨3, ![32, 3, 288]⟩
abbrev S32x8x288 : Shape := ⟨3, ![32, 8, 288]⟩
abbrev S32x576x384 : Shape := ⟨3, ![32, 576, 384]⟩
abbrev S32x288x768 : Shape := ⟨3, ![32, 288, 768]⟩
abbrev S32x1x384 : Shape := ⟨3, ![32, 1, 384]⟩
abbrev S32x15x384 : Shape := ⟨3, ![32, 15, 384]⟩
abbrev S32x16x384 : Shape := ⟨3, ![32, 16, 384]⟩
abbrev S1x288x768 : Shape := ⟨3, ![1, 288, 768]⟩
abbrev S1x16x384 : Shape := ⟨3, ![1, 16, 384]⟩
abbrev S1x8x288 : Shape := ⟨3, ![1, 8, 288]⟩
abbrev S1x576x384 : Shape := ⟨3, ![1, 576, 384]⟩
abbrev S288x768 : Shape := ⟨2, ![288, 768]⟩
abbrev S288x384 : Shape := ⟨2, ![288, 384]⟩
abbrev S8x288 : Shape := ⟨2, ![8, 288]⟩
abbrev S1x288 : Shape := ⟨2, ![1, 288]⟩
abbrev S288x288 : Shape := ⟨2, ![288, 288]⟩
abbrev S288 : Shape := ⟨1, ![288]⟩
abbrev S288x1 : Shape := ⟨2, ![288, 1]⟩
abbrev S272x384 : Shape := ⟨2, ![272, 384]⟩
abbrev S16x384 : Shape := ⟨2, ![16, 384]⟩
abbrev S576x384 : Shape := ⟨2, ![576, 384]⟩
abbrev S576 : Shape := ⟨1, ![576]⟩
abbrev S576x1 : Shape := ⟨2, ![576, 1]⟩
abbrev S1x384 : Shape := ⟨2, ![1, 384]⟩
abbrev S576x1152 : Shape := ⟨2, ![576, 1152]⟩
abbrev S1x1152 : Shape := ⟨2, ![1, 1152]⟩
abbrev S576x576 : Shape := ⟨2, ![576, 576]⟩
abbrev S576x64 : Shape := ⟨2, ![576, 64]⟩
abbrev S576x1536 : Shape := ⟨2, ![576, 1536]⟩
abbrev S1x1536 : Shape := ⟨2, ![1, 1536]⟩
abbrev S32x560x384 : Shape := ⟨3, ![32, 560, 384]⟩
abbrev S32x561x384 : Shape := ⟨3, ![32, 561, 384]⟩

abbrev nBuf : Space → Nat
  | .hbm => 129
  | .vmem => 20
  | .smem => 0
  | _ => 0

abbrev hbmTy0_0 (i : Nat) : BufTy := match i % 128 with
  | 0 => ⟨S32x577x384, .f32⟩
  | 1 => ⟨S384, .f32⟩
  | 2 => ⟨S384, .f32⟩
  | 3 => ⟨S384x1152, .f32⟩
  | 4 => ⟨S1152, .f32⟩
  | 5 => ⟨S384x384, .f32⟩
  | 6 => ⟨S384, .f32⟩
  | 7 => ⟨S384, .f32⟩
  | 8 => ⟨S384, .f32⟩
  | 9 => ⟨S384x1536, .f32⟩
  | 10 => ⟨S1536, .f32⟩
  | 11 => ⟨S1536x384, .f32⟩
  | 12 => ⟨S384, .f32⟩
  | 13 => ⟨S_, .f32⟩
  | 14 => ⟨S32x577, .f32⟩
  | 15 => ⟨S32x577x1, .f32⟩
  | 16 => ⟨S_, .f32⟩
  | 17 => ⟨S32x577x1, .f32⟩
  | 18 => ⟨S32x577x1, .f32⟩
  | 19 => ⟨S32x577x384, .f32⟩
  | 20 => ⟨S32x577x384, .f32⟩
  | 21 => ⟨S32x577x384, .f32⟩
  | 22 => ⟨S32x577x384, .f32⟩
  | 23 => ⟨S32x577x384, .f32⟩
  | 24 => ⟨S_, .f32⟩
  | 25 => ⟨S32x577, .f32⟩
  | 26 => ⟨S32x577x1, .f32⟩
  | 27 => ⟨S_, .f32⟩
  | 28 => ⟨S32x577x1, .f32⟩
  | 29 => ⟨S32x577x1, .f32⟩
  | 30 => ⟨S32x577x384, .f32⟩
  | 31 => ⟨S32x577x384, .f32⟩
  | 32 => ⟨S_, .f32⟩
  | 33 => ⟨S32x577x1, .f32⟩
  | 34 => ⟨S32x577x1, .f32⟩
  | 35 => ⟨S32x577x1, .f32⟩
  | 36 => ⟨S32x577x384, .f32⟩
  | 37 => ⟨S32x577x384, .f32⟩
  | 38 => ⟨S1x1x384, .f32⟩
  | 39 => ⟨S32x577x384, .f32⟩
  | 40 => ⟨S32x577x384, .f32⟩
  | 41 => ⟨S1x1x384, .f32⟩
  | 42 => ⟨S32x577x384, .f32⟩
  | 43 => ⟨S32x577x384, .f32⟩
  | 44 => ⟨S32x577x1152, .f32⟩
  | 45 => ⟨S1x1x1152, .f32⟩
  | 46 => ⟨S32x577x1152, .f32⟩
  | 47 => ⟨S32x577x1152, .f32⟩
  | 48 => ⟨S32x577x3x6x64, .f32⟩
  | 49 => ⟨S32x577x1x6x64, .f32⟩
  | 50 => ⟨S32x577x6x64, .f32⟩
  | 51 => ⟨S_, .f32⟩
  | 52 => ⟨S32x577x64, .f32⟩
  | 53 => ⟨S_, .f32⟩
  | 54 => ⟨S32x577x64, .f32⟩
  | 55 => ⟨S32x577x64, .f32⟩
  | 56 => ⟨S32x576x64, .f32⟩
  | 57 => ⟨S32x576x64, .f32⟩
  | 58 => ⟨S_, .f32⟩
  | 59 => ⟨S32x576, .f32⟩
  | 60 => ⟨S32x576x1, .f32⟩
  | 61 => ⟨S32x576x1, .f32⟩
  | 62 => ⟨S_, .f32⟩
  | 63 => ⟨S32x576x1, .f32⟩
  | 64 => ⟨S32x576x1, .f32⟩
  | 65 => ⟨S32x576x64, .f32⟩
  | 66 => ⟨S32x576x64, .f32⟩
  | 67 => ⟨S32x288x64, .f32⟩
  | 68 => ⟨S32x288x64, .f32⟩
  | 69 => ⟨S32x288x288, .f32⟩
  | 70 => ⟨S_, .f32⟩
  | 71 => ⟨S32x288, .f32⟩
  | 72 => ⟨S32x288x288, .i32⟩
  | 73 => ⟨S_, .f32⟩
  | 74 => ⟨S_, .i32⟩
  | 75 => ⟨S32x288, .f32⟩
  | 76 => ⟨S32x288, .i32⟩
  | 77 => ⟨S32x16, .f32⟩
  | 78 => ⟨S32x16, .i32⟩
  | 79 => ⟨S_, .f32⟩
  | 80 => ⟨S32x288, .f32⟩
  | 81 => ⟨S32, .i32⟩
  | 82 => ⟨S32x1, .i32⟩
  | 83 => ⟨S_, .i32⟩
  | 84 => ⟨S32x1, .i32⟩
  | 85 => ⟨S32x1, .i1⟩
  | 86 => ⟨S_, .i32⟩
  | 87 => ⟨S32x1, .i32⟩
  | 88 => ⟨S32x1, .i32⟩
  | 89 => ⟨S32x1, .i32⟩
  | 90 => ⟨S_, .i32⟩
  | 91 => ⟨S32x16, .i32⟩
  | 92 => ⟨S32x16, .i1⟩
  | 93 => ⟨S_, .i32⟩
  | 94 => ⟨S32x16, .i32⟩
  | 95 => ⟨S32x16, .i32⟩
  | 96 => ⟨S32x16, .i32⟩
  | 97 => ⟨S32x16, .i32⟩
  | 98 => ⟨S32x16x1, .i32⟩
  | 99 => ⟨S32x16x1, .i32⟩
  | 100 => ⟨S32x16x2, .i32⟩
  | 101 => ⟨S_, .f32⟩
  | 102 => ⟨S32x16, .f32⟩
  | 103 => ⟨S32x288, .f32⟩
  | 104 => ⟨S_, .f32⟩
  | 105 => ⟨S32x288, .f32⟩
  | 106 => ⟨S32x288, .f32⟩
  | 107 => ⟨S_, .f32⟩
  | 108 => ⟨S_, .f32⟩
  | 109 => ⟨S32x288, .f32⟩
  | 110 => ⟨S32x288, .f32⟩
  | 111 => ⟨S32x288, .f32⟩
  | 112 => ⟨S32x1x288, .f32⟩
  | 113 => ⟨S32x1x288, .f32⟩
  | 114 => ⟨S32x1x288, .f32⟩
  | 115 => ⟨S32x3x288, .f32⟩
  | 116 => ⟨S_, .i32⟩
  | 117 => ⟨S_, .f32⟩
  | 118 => ⟨S32x8x288, .f32⟩
  | 119 => ⟨S32x576x384, .f32⟩
  | 120 => ⟨S32x288x768, .f32⟩
  | 121 => ⟨S32x1x384, .f32⟩
  | 122 => ⟨S_, .f32⟩
  | 123 => ⟨S32x15x384, .f32⟩
  | 124 => ⟨S32x16x384, .f32⟩
  | 125 => ⟨S32x576x384, .f32⟩
  | 126 => ⟨S32x1x384, .f32⟩
  | 127 => ⟨S32x560x384, .f32⟩
  | _ => ⟨S32x577x384, .f32⟩

abbrev hbmTy0_1 (i : Nat) : BufTy := match i % 128 with
  | 0 => ⟨S32x561x384, .f32⟩
  | _ => ⟨S32x577x384, .f32⟩

abbrev hbmTy (i : Nat) : BufTy := match i / 128 with
  | 0 => hbmTy0_0 i
  | 1 => hbmTy0_1 i
  | _ => ⟨S32x577x384, .f32⟩

abbrev bufTy : (tb : Table) → Fin (tcTables nBuf tb) → BufTy
  | .hbm, ⟨i, _⟩ => hbmTy i
  | .local _ .vmem, ⟨0, _⟩ => ⟨S1x288x768, .f32⟩
  | .local _ .vmem, ⟨1, _⟩ => ⟨S1x288x768, .f32⟩
  | .local _ .vmem, ⟨2, _⟩ => ⟨S1x16x384, .f32⟩
  | .local _ .vmem, ⟨3, _⟩ => ⟨S1x16x384, .f32⟩
  | .local _ .vmem, ⟨4, _⟩ => ⟨S1x8x288, .f32⟩
  | .local _ .vmem, ⟨5, _⟩ => ⟨S1x8x288, .f32⟩
  | .local _ .vmem, ⟨6, _⟩ => ⟨S384, .f32⟩
  | .local _ .vmem, ⟨7, _⟩ => ⟨S384, .f32⟩
  | .local _ .vmem, ⟨8, _⟩ => ⟨S384x1152, .f32⟩
  | .local _ .vmem, ⟨9, _⟩ => ⟨S1152, .f32⟩
  | .local _ .vmem, ⟨10, _⟩ => ⟨S384x384, .f32⟩
  | .local _ .vmem, ⟨11, _⟩ => ⟨S384, .f32⟩
  | .local _ .vmem, ⟨12, _⟩ => ⟨S384, .f32⟩
  | .local _ .vmem, ⟨13, _⟩ => ⟨S384, .f32⟩
  | .local _ .vmem, ⟨14, _⟩ => ⟨S384x1536, .f32⟩
  | .local _ .vmem, ⟨15, _⟩ => ⟨S1536, .f32⟩
  | .local _ .vmem, ⟨16, _⟩ => ⟨S1536x384, .f32⟩
  | .local _ .vmem, ⟨17, _⟩ => ⟨S384, .f32⟩
  | .local _ .vmem, ⟨18, _⟩ => ⟨S1x576x384, .f32⟩
  | .local _ .vmem, ⟨19, _⟩ => ⟨S1x576x384, .f32⟩
  | _, _ => ⟨S32x577x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_cst : Ref sig .tc := ⟨.hbm, 58, rfl⟩
abbrev main_call0_v1 : Ref sig .tc := ⟨.hbm, 59, rfl⟩
abbrev main_call0_v2 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_call1_v0 : Ref sig .tc := ⟨.hbm, 72, rfl⟩
abbrev main_call1_cst : Ref sig .tc := ⟨.hbm, 73, rfl⟩
abbrev main_call1_c : Ref sig .tc := ⟨.hbm, 74, rfl⟩
abbrev main_call1_v1_0 : Ref sig .tc := ⟨.hbm, 75, rfl⟩
abbrev main_v46 : Ref sig .tc := ⟨.hbm, 76, rfl⟩
abbrev main_values : Ref sig .tc := ⟨.hbm, 77, rfl⟩
abbrev main_indices : Ref sig .tc := ⟨.hbm, 78, rfl⟩
abbrev main_cst_8 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c : Ref sig .tc := ⟨.hbm, 83, rfl⟩
abbrev main_v50 : Ref sig .tc := ⟨.hbm, 84, rfl⟩
abbrev main_v51 : Ref sig .tc := ⟨.hbm, 85, rfl⟩
abbrev main_c_9 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_10 : Ref sig .tc := ⟨.hbm, 90, rfl⟩
abbrev main_v55 : Ref sig .tc := ⟨.hbm, 91, rfl⟩
abbrev main_v56 : Ref sig .tc := ⟨.hbm, 92, rfl⟩
abbrev main_c_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_12 : Ref sig .tc := ⟨.hbm, 101, rfl⟩
abbrev main_v64 : Ref sig .tc := ⟨.hbm, 102, rfl⟩
abbrev main_v65 : Ref sig .tc := ⟨.hbm, 103, rfl⟩
abbrev main_cst_13 : Ref sig .tc := ⟨.hbm, 104, rfl⟩
abbrev main_v66 : Ref sig .tc := ⟨.hbm, 105, rfl⟩
abbrev main_v67 : Ref sig .tc := ⟨.hbm, 106, rfl⟩
abbrev main_call2_call0_cst : Ref sig .tc := ⟨.hbm, 107, rfl⟩
abbrev main_call2_call0_v0 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_c_14 : Ref sig .tc := ⟨.hbm, 116, rfl⟩
abbrev main_call3_v0 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_15 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x576x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x577x384 : Shape := ⟨3, ![32, 577, 384]⟩
abbrev S384 : Shape := ⟨1, ![384]⟩
abbrev S384x1152 : Shape := ⟨2, ![384, 1152]⟩
abbrev S1152 : Shape := ⟨1, ![1152]⟩
abbrev S384x384 : Shape := ⟨2, ![384, 384]⟩
abbrev S384x1536 : Shape := ⟨2, ![384, 1536]⟩
abbrev S1536 : Shape := ⟨1, ![1536]⟩
abbrev S1536x384 : Shape := ⟨2, ![1536, 384]⟩
abbrev S_ : Shape := ⟨0, ![]⟩
abbrev S32x577 : Shape := ⟨2, ![32, 577]⟩
abbrev S32x577x1 : Shape := ⟨3, ![32, 577, 1]⟩
abbrev S1x1x384 : Shape := ⟨3, ![1, 1, 384]⟩
abbrev S32x577x1152 : Shape := ⟨3, ![32, 577, 1152]⟩
abbrev S1x1x1152 : Shape := ⟨3, ![1, 1, 1152]⟩
abbrev S32x577x3x6x64 : Shape := ⟨5, ![32, 577, 3, 6, 64]⟩
abbrev S32x577x1x6x64 : Shape := ⟨5, ![32, 577, 1, 6, 64]⟩
abbrev S32x577x6x64 : Shape := ⟨4, ![32, 577, 6, 64]⟩
abbrev S32x577x64 : Shape := ⟨3, ![32, 577, 64]⟩
abbrev S32x1x384 : Shape := ⟨3, ![32, 1, 384]⟩
abbrev S32x576x384 : Shape := ⟨3, ![32, 576, 384]⟩
abbrev S32x576x64 : Shape := ⟨3, ![32, 576, 64]⟩
abbrev S32x576 : Shape := ⟨2, ![32, 576]⟩
abbrev S32x576x1 : Shape := ⟨3, ![32, 576, 1]⟩
abbrev S32x288x64 : Shape := ⟨3, ![32, 288, 64]⟩
abbrev S32x288x288 : Shape := ⟨3, ![32, 288, 288]⟩
abbrev S32x288 : Shape := ⟨2, ![32, 288]⟩
abbrev S32x16 : Shape := ⟨2, ![32, 16]⟩
abbrev S32x288x384 : Shape := ⟨3, ![32, 288, 384]⟩
abbrev S32 : Shape := ⟨1, ![32]⟩
abbrev S32x1 : Shape := ⟨2, ![32, 1]⟩
abbrev S32x16x1 : Shape := ⟨3, ![32, 16, 1]⟩
abbrev S1 : Shape := ⟨1, ![1]⟩
abbrev S1x1x1 : Shape := ⟨3, ![1, 1, 1]⟩
abbrev S32x16x384 : Shape := ⟨3, ![32, 16, 384]⟩
abbrev S32x16x2 : Shape := ⟨3, ![32, 16, 2]⟩
abbrev S32x288x1 : Shape := ⟨3, ![32, 288, 1]⟩
abbrev S32x272 : Shape := ⟨2, ![32, 272]⟩
abbrev S32x272x1 : Shape := ⟨3, ![32, 272, 1]⟩
abbrev S32x272x384 : Shape := ⟨3, ![32, 272, 384]⟩
abbrev S32x560x384 : Shape := ⟨3, ![32, 560, 384]⟩
abbrev S32x561x384 : Shape := ⟨3, ![32, 561, 384]⟩
abbrev S32x561 : Shape := ⟨2, ![32, 561]⟩
abbrev S32x561x1 : Shape := ⟨3, ![32, 561, 1]⟩
abbrev S32x561x1152 : Shape := ⟨3, ![32, 561, 1152]⟩
abbrev S32x561x3x6x64 : Shape := ⟨5, ![32, 561, 3, 6, 64]⟩
abbrev S32x561x1x6x64 : Shape := ⟨5, ![32, 561, 1, 6, 64]⟩
abbrev S32x561x6x64 : Shape := ⟨4, ![32, 561, 6, 64]⟩
abbrev S32x6x561x64 : Shape := ⟨4, ![32, 6, 561, 64]⟩
abbrev S32x6x64x561 : Shape := ⟨4, ![32, 6, 64, 561]⟩
abbrev S32x6x561x561 : Shape := ⟨4, ![32, 6, 561, 561]⟩
abbrev S32x6x561 : Shape := ⟨3, ![32, 6, 561]⟩
abbrev S32x6x561x1 : Shape := ⟨4, ![32, 6, 561, 1]⟩
abbrev S32x561x1536 : Shape := ⟨3, ![32, 561, 1536]⟩
abbrev S1x1x1536 : Shape := ⟨3, ![1, 1, 1536]⟩

abbrev nBuf : Space → Nat
  | .hbm => 386
  | .vmem => 0
  | .smem => 0
  | _ => 0

abbrev hbmTy0_0 (i : Nat) : BufTy := match i % 128 with
  | 0 => ⟨S32x577x384, .f32⟩
  | 1 => ⟨S384, .f32⟩
  | 2 => ⟨S384, .f32⟩
  | 3 => ⟨S384x1152, .f32⟩
  | 4 => ⟨S1152, .f32⟩
  | 5 => ⟨S384x384, .f32⟩
  | 6 => ⟨S384, .f32⟩
  | 7 => ⟨S384, .f32⟩
  | 8 => ⟨S384, .f32⟩
  | 9 => ⟨S384x1536, .f32⟩
  | 10 => ⟨S1536, .f32⟩
  | 11 => ⟨S1536x384, .f32⟩
  | 12 => ⟨S384, .f32⟩
  | 13 => ⟨S_, .f32⟩
  | 14 => ⟨S32x577, .f32⟩
  | 15 => ⟨S32x577x1, .f32⟩
  | 16 => ⟨S_, .f32⟩
  | 17 => ⟨S32x577x1, .f32⟩
  | 18 => ⟨S32x577x1, .f32⟩
  | 19 => ⟨S_, .i32⟩
  | 20 => ⟨S_, .f32⟩
  | 21 => ⟨S32x577, .f32⟩
  | 22 => ⟨S32x577x1, .f32⟩
  | 23 => ⟨S_, .f32⟩
  | 24 => ⟨S32x577x1, .f32⟩
  | 25 => ⟨S32x577x1, .f32⟩
  | 26 => ⟨S32x577x384, .f32⟩
  | 27 => ⟨S32x577x384, .f32⟩
  | 28 => ⟨S32x577x384, .f32⟩
  | 29 => ⟨S_, .f32⟩
  | 30 => ⟨S_, .f32⟩
  | 31 => ⟨S_, .f32⟩
  | 32 => ⟨S_, .f32⟩
  | 33 => ⟨S32x577, .f32⟩
  | 34 => ⟨S32x577x1, .f32⟩
  | 35 => ⟨S32x577x1, .f32⟩
  | 36 => ⟨S32x577x1, .f32⟩
  | 37 => ⟨S_, .f32⟩
  | 38 => ⟨S_, .i1⟩
  | 39 => ⟨S_, .f32⟩
  | 40 => ⟨S_, .f32⟩
  | 41 => ⟨S32x577x1, .f32⟩
  | 42 => ⟨S32x577x1, .f32⟩
  | 43 => ⟨S32x577x384, .f32⟩
  | 44 => ⟨S32x577x384, .f32⟩
  | 45 => ⟨S_, .f32⟩
  | 46 => ⟨S32x577x1, .f32⟩
  | 47 => ⟨S32x577x1, .f32⟩
  | 48 => ⟨S32x577x1, .f32⟩
  | 49 => ⟨S32x577x384, .f32⟩
  | 50 => ⟨S32x577x384, .f32⟩
  | 51 => ⟨S1x1x384, .f32⟩
  | 52 => ⟨S32x577x384, .f32⟩
  | 53 => ⟨S32x577x384, .f32⟩
  | 54 => ⟨S1x1x384, .f32⟩
  | 55 => ⟨S32x577x384, .f32⟩
  | 56 => ⟨S32x577x384, .f32⟩
  | 57 => ⟨S32x577x1152, .f32⟩
  | 58 => ⟨S1x1x1152, .f32⟩
  | 59 => ⟨S32x577x1152, .f32⟩
  | 60 => ⟨S32x577x1152, .f32⟩
  | 61 => ⟨S32x577x3x6x64, .f32⟩
  | 62 => ⟨S32x577x1x6x64, .f32⟩
  | 63 => ⟨S32x577x6x64, .f32⟩
  | 64 => ⟨S_, .f32⟩
  | 65 => ⟨S32x577x64, .f32⟩
  | 66 => ⟨S_, .f32⟩
  | 67 => ⟨S32x577x64, .f32⟩
  | 68 => ⟨S32x577x64, .f32⟩
  | 69 => ⟨S32x1x384, .f32⟩
  | 70 => ⟨S32x576x384, .f32⟩
  | 71 => ⟨S32x576x64, .f32⟩
  | 72 => ⟨S32x576x64, .f32⟩
  | 73 => ⟨S_, .f32⟩
  | 74 => ⟨S32x576, .f32⟩
  | 75 => ⟨S32x576x1, .f32⟩
  | 76 => ⟨S32x576x1, .f32⟩
  | 77 => ⟨S_, .f32⟩
  | 78 => ⟨S32x576x1, .f32⟩
  | 79 => ⟨S32x576x1, .f32⟩
  | 80 => ⟨S32x576x64, .f32⟩
  | 81 => ⟨S32x576x64, .f32⟩
  | 82 => ⟨S32x288x64, .f32⟩
  | 83 => ⟨S32x288x64, .f32⟩
  | 84 => ⟨S32x288x288, .f32⟩
  | 85 => ⟨S_, .f32⟩
  | 86 => ⟨S32x288, .f32⟩
  | 87 => ⟨S32x288x288, .i32⟩
  | 88 => ⟨S_, .f32⟩
  | 89 => ⟨S_, .i32⟩
  | 90 => ⟨S32x288, .f32⟩
  | 91 => ⟨S32x288, .i32⟩
  | 92 => ⟨S32x16, .f32⟩
  | 93 => ⟨S32x16, .i32⟩
  | 94 => ⟨S32x288x384, .f32⟩
  | 95 => ⟨S32x288x384, .f32⟩
  | 96 => ⟨S32, .i32⟩
  | 97 => ⟨S32x1, .i32⟩
  | 98 => ⟨S_, .i32⟩
  | 99 => ⟨S32x16, .i32⟩
  | 100 => ⟨S32x16, .i1⟩
  | 101 => ⟨S_, .i32⟩
  | 102 => ⟨S32x16, .i32⟩
  | 103 => ⟨S32x16, .i32⟩
  | 104 => ⟨S32x16, .i32⟩
  | 105 => ⟨S32x16x1, .i32⟩
  | 106 => ⟨S1, .i32⟩
  | 107 => ⟨S_, .i32⟩
  | 108 => ⟨S32x16x1, .i32⟩
  | 109 => ⟨S32x16x1, .i1⟩
  | 110 => ⟨S1x1x1, .i32⟩
  | 111 => ⟨S32x16x1, .i32⟩
  | 112 => ⟨S32x16x1, .i1⟩
  | 113 => ⟨S32x16x1, .i1⟩
  | 114 => ⟨S_, .i1⟩
  | 115 => ⟨S32x16, .i1⟩
  | 116 => ⟨S32x16, .i32⟩
  | 117 => ⟨S_, .i32⟩
  | 118 => ⟨S32x16, .i32⟩
  | 119 => ⟨S32x16, .i32⟩
  | 120 => ⟨S32x16x1, .i32⟩
  | 121 => ⟨S_, .i32⟩
  | 122 => ⟨S32x16x1, .i32⟩
  | 123 => ⟨S32x16x1, .i1⟩
  | 124 => ⟨S_, .i32⟩
  | 125 => ⟨S32x16x1, .i32⟩
  | 126 => ⟨S32x16x1, .i32⟩
  | 127 => ⟨S32x16x1, .i32⟩
  | _ => ⟨S32x577x384, .f32⟩

abbrev hbmTy0_1 (i : Nat) : BufTy := match i % 128 with
  | 0 => ⟨S1, .i32⟩
  | 1 => ⟨S_, .i32⟩
  | 2 => ⟨S32x16x1, .i32⟩
  | 3 => ⟨S32x16x1, .i1⟩
  | 4 => ⟨S1x1x1, .i32⟩
  | 5 => ⟨S32x16x1, .i32⟩
  | 6 => ⟨S32x16x1, .i1⟩
  | 7 => ⟨S32x16x1, .i1⟩
  | 8 => ⟨S_, .i1⟩
  | 9 => ⟨S32x16, .i1⟩
  | 10 => ⟨S32x16x384, .f32⟩
  | 11 => ⟨S32x16x384, .i1⟩
  | 12 => ⟨S_, .f32⟩
  | 13 => ⟨S32x16x384, .f32⟩
  | 14 => ⟨S32x16x384, .f32⟩
  | 15 => ⟨S_, .i32⟩
  | 16 => ⟨S32x1, .i32⟩
  | 17 => ⟨S32x1, .i1⟩
  | 18 => ⟨S_, .i32⟩
  | 19 => ⟨S32x1, .i32⟩
  | 20 => ⟨S32x1, .i32⟩
  | 21 => ⟨S32x1, .i32⟩
  | 22 => ⟨S_, .i32⟩
  | 23 => ⟨S32x16, .i32⟩
  | 24 => ⟨S32x16, .i1⟩
  | 25 => ⟨S_, .i32⟩
  | 26 => ⟨S32x16, .i32⟩
  | 27 => ⟨S32x16, .i32⟩
  | 28 => ⟨S32x16, .i32⟩
  | 29 => ⟨S32x16, .i32⟩
  | 30 => ⟨S32x16x1, .i32⟩
  | 31 => ⟨S32x16x1, .i32⟩
  | 32 => ⟨S32x16x2, .i32⟩
  | 33 => ⟨S32x288x384, .f32⟩
  | 34 => ⟨S_, .f32⟩
  | 35 => ⟨S32x288x1, .f32⟩
  | 36 => ⟨S_, .i32⟩
  | 37 => ⟨S32x1, .i32⟩
  | 38 => ⟨S32x1, .i1⟩
  | 39 => ⟨S_, .i32⟩
  | 40 => ⟨S32x1, .i32⟩
  | 41 => ⟨S32x1, .i32⟩
  | 42 => ⟨S32x1, .i32⟩
  | 43 => ⟨S_, .i32⟩
  | 44 => ⟨S32x16, .i32⟩
  | 45 => ⟨S32x16, .i1⟩
  | 46 => ⟨S_, .i32⟩
  | 47 => ⟨S32x16, .i32⟩
  | 48 => ⟨S32x16, .i32⟩
  | 49 => ⟨S32x16, .i32⟩
  | 50 => ⟨S32x16, .i32⟩
  | 51 => ⟨S32x16x1, .i32⟩
  | 52 => ⟨S32x16x1, .i32⟩
  | 53 => ⟨S32x16x2, .i32⟩
  | 54 => ⟨S_, .f32⟩
  | 55 => ⟨S32x16x1, .f32⟩
  | 56 => ⟨S32x288x1, .f32⟩
  | 57 => ⟨S32x288x384, .f32⟩
  | 58 => ⟨S32x288x384, .f32⟩
  | 59 => ⟨S_, .i32⟩
  | 60 => ⟨S32x288, .i32⟩
  | 61 => ⟨S_, .i32⟩
  | 62 => ⟨S32x1, .i32⟩
  | 63 => ⟨S32x1, .i1⟩
  | 64 => ⟨S_, .i32⟩
  | 65 => ⟨S32x1, .i32⟩
  | 66 => ⟨S32x1, .i32⟩
  | 67 => ⟨S32x1, .i32⟩
  | 68 => ⟨S_, .i32⟩
  | 69 => ⟨S32x16, .i32⟩
  | 70 => ⟨S32x16, .i1⟩
  | 71 => ⟨S_, .i32⟩
  | 72 => ⟨S32x16, .i32⟩
  | 73 => ⟨S32x16, .i32⟩
  | 74 => ⟨S32x16, .i32⟩
  | 75 => ⟨S32x16, .i32⟩
  | 76 => ⟨S32x16x1, .i32⟩
  | 77 => ⟨S32x16x1, .i32⟩
  | 78 => ⟨S32x16x2, .i32⟩
  | 79 => ⟨S_, .i32⟩
  | 80 => ⟨S32x16, .i32⟩
  | 81 => ⟨S32x288, .i32⟩
  | 82 => ⟨S32x288, .i32⟩
  | 83 => ⟨S32x288, .i32⟩
  | 84 => ⟨S32x288, .i32⟩
  | 85 => ⟨S32x272, .i32⟩
  | 86 => ⟨S32x272x1, .i32⟩
  | 87 => ⟨S_, .i32⟩
  | 88 => ⟨S32x272x1, .i32⟩
  | 89 => ⟨S32x272x1, .i1⟩
  | 90 => ⟨S_, .i32⟩
  | 91 => ⟨S32x272x1, .i32⟩
  | 92 => ⟨S32x272x1, .i32⟩
  | 93 => ⟨S32x272x1, .i32⟩
  | 94 => ⟨S1, .i32⟩
  | 95 => ⟨S_, .i32⟩
  | 96 => ⟨S32x272x1, .i32⟩
  | 97 => ⟨S32x272x1, .i1⟩
  | 98 => ⟨S1x1x1, .i32⟩
  | 99 => ⟨S32x272x1, .i32⟩
  | 100 => ⟨S32x272x1, .i1⟩
  | 101 => ⟨S32x272x1, .i1⟩
  | 102 => ⟨S_, .i1⟩
  | 103 => ⟨S32x272, .i1⟩
  | 104 => ⟨S32x272x384, .f32⟩
  | 105 => ⟨S32x272x384, .i1⟩
  | 106 => ⟨S_, .f32⟩
  | 107 => ⟨S32x272x384, .f32⟩
  | 108 => ⟨S32x272x384, .f32⟩
  | 109 => ⟨S32x560x384, .f32⟩
  | 110 => ⟨S32x561x384, .f32⟩
  | 111 => ⟨S_, .f32⟩
  | 112 => ⟨S32x561, .f32⟩
  | 113 => ⟨S32x561x1, .f32⟩
  | 114 => ⟨S_, .f32⟩
  | 115 => ⟨S32x561x1, .f32⟩
  | 116 => ⟨S32x561x1, .f32⟩
  | 117 => ⟨S_, .i32⟩
  | 118 => ⟨S_, .f32⟩
  | 119 => ⟨S32x561, .f32⟩
  | 120 => ⟨S32x561x1, .f32⟩
  | 121 => ⟨S_, .f32⟩
  | 122 => ⟨S32x561x1, .f32⟩
  | 123 => ⟨S32x561x1, .f32⟩
  | 124 => ⟨S32x561x384, .f32⟩
  | 125 => ⟨S32x561x384, .f32⟩
  | 126 => ⟨S32x561x384, .f32⟩
  | 127 => ⟨S_, .f32⟩
  | _ => ⟨S32x577x384, .f32⟩

abbrev hbmTy0_2 (i : Nat) : BufTy := match i % 128 with
  | 0 => ⟨S_, .f32⟩
  | 1 => ⟨S_, .f32⟩
  | 2 => ⟨S_, .f32⟩
  | 3 => ⟨S32x561, .f32⟩
  | 4 => ⟨S32x561x1, .f32⟩
  | 5 => ⟨S32x561x1, .f32⟩
  | 6 => ⟨S32x561x1, .f32⟩
  | 7 => ⟨S_, .f32⟩
  | 8 => ⟨S_, .i1⟩
  | 9 => ⟨S_, .f32⟩
  | 10 => ⟨S_, .f32⟩
  | 11 => ⟨S32x561x1, .f32⟩
  | 12 => ⟨S32x561x1, .f32⟩
  | 13 => ⟨S32x561x384, .f32⟩
  | 14 => ⟨S32x561x384, .f32⟩
  | 15 => ⟨S_, .f32⟩
  | 16 => ⟨S32x561x1, .f32⟩
  | 17 => ⟨S32x561x1, .f32⟩
  | 18 => ⟨S32x561x1, .f32⟩
  | 19 => ⟨S32x561x384, .f32⟩
  | 20 => ⟨S32x561x384, .f32⟩
  | 21 => ⟨S1x1x384, .f32⟩
  | 22 => ⟨S32x561x384, .f32⟩
  | 23 => ⟨S32x561x384, .f32⟩
  | 24 => ⟨S1x1x384, .f32⟩
  | 25 => ⟨S32x561x384, .f32⟩
  | 26 => ⟨S32x561x384, .f32⟩
  | 27 => ⟨S32x561x1152, .f32⟩
  | 28 => ⟨S1x1x1152, .f32⟩
  | 29 => ⟨S32x561x1152, .f32⟩
  | 30 => ⟨S32x561x1152, .f32⟩
  | 31 => ⟨S32x561x3x6x64, .f32⟩
  | 32 => ⟨S32x561x1x6x64, .f32⟩
  | 33 => ⟨S32x561x6x64, .f32⟩
  | 34 => ⟨S32x6x561x64, .f32⟩
  | 35 => ⟨S32x561x1x6x64, .f32⟩
  | 36 => ⟨S32x561x6x64, .f32⟩
  | 37 => ⟨S32x6x561x64, .f32⟩
  | 38 => ⟨S32x561x1x6x64, .f32⟩
  | 39 => ⟨S32x561x6x64, .f32⟩
  | 40 => ⟨S32x6x561x64, .f32⟩
  | 41 => ⟨S32x6x64x561, .f32⟩
  | 42 => ⟨S32x6x561x561, .f32⟩
  | 43 => ⟨S_, .f32⟩
  | 44 => ⟨S32x6x561x561, .f32⟩
  | 45 => ⟨S32x6x561x561, .f32⟩
  | 46 => ⟨S_, .f32⟩
  | 47 => ⟨S32x6x561, .f32⟩
  | 48 => ⟨S_, .f32⟩
  | 49 => ⟨S32x6x561, .f32⟩
  | 50 => ⟨S32x6x561, .f32⟩
  | 51 => ⟨S32x6x561x1, .f32⟩
  | 52 => ⟨S32x6x561x561, .f32⟩
  | 53 => ⟨S32x6x561x561, .f32⟩
  | 54 => ⟨S32x6x561x561, .f32⟩
  | 55 => ⟨S_, .f32⟩
  | 56 => ⟨S32x6x561, .f32⟩
  | 57 => ⟨S32x6x561x1, .f32⟩
  | 58 => ⟨S32x6x561x561, .f32⟩
  | 59 => ⟨S32x6x561x561, .f32⟩
  | 60 => ⟨S32x6x561x64, .f32⟩
  | 61 => ⟨S32x561x6x64, .f32⟩
  | 62 => ⟨S32x561x384, .f32⟩
  | 63 => ⟨S32x561x384, .f32⟩
  | 64 => ⟨S1x1x384, .f32⟩
  | 65 => ⟨S32x561x384, .f32⟩
  | 66 => ⟨S32x561x384, .f32⟩
  | 67 => ⟨S32x561x384, .f32⟩
  | 68 => ⟨S_, .f32⟩
  | 69 => ⟨S32x561, .f32⟩
  | 70 => ⟨S32x561x1, .f32⟩
  | 71 => ⟨S_, .f32⟩
  | 72 => ⟨S32x561x1, .f32⟩
  | 73 => ⟨S32x561x1, .f32⟩
  | 74 => ⟨S_, .i32⟩
  | 75 => ⟨S_, .f32⟩
  | 76 => ⟨S32x561, .f32⟩
  | 77 => ⟨S32x561x1, .f32⟩
  | 78 => ⟨S_, .f32⟩
  | 79 => ⟨S32x561x1, .f32⟩
  | 80 => ⟨S32x561x1, .f32⟩
  | 81 => ⟨S32x561x384, .f32⟩
  | 82 => ⟨S32x561x384, .f32⟩
  | 83 => ⟨S32x561x384, .f32⟩
  | 84 => ⟨S_, .f32⟩
  | 85 => ⟨S_, .f32⟩
  | 86 => ⟨S_, .f32⟩
  | 87 => ⟨S_, .f32⟩
  | 88 => ⟨S32x561, .f32⟩
  | 89 => ⟨S32x561x1, .f32⟩
  | 90 => ⟨S32x561x1, .f32⟩
  | 91 => ⟨S32x561x1, .f32⟩
  | 92 => ⟨S_, .f32⟩
  | 93 => ⟨S_, .i1⟩
  | 94 => ⟨S_, .f32⟩
  | 95 => ⟨S_, .f32⟩
  | 96 => ⟨S32x561x1, .f32⟩
  | 97 => ⟨S32x561x1, .f32⟩
  | 98 => ⟨S32x561x384, .f32⟩
  | 99 => ⟨S32x561x384, .f32⟩
  | 100 => ⟨S_, .f32⟩
  | 101 => ⟨S32x561x1, .f32⟩
  | 102 => ⟨S32x561x1, .f32⟩
  | 103 => ⟨S32x561x1, .f32⟩
  | 104 => ⟨S32x561x384, .f32⟩
  | 105 => ⟨S32x561x384, .f32⟩
  | 106 => ⟨S1x1x384, .f32⟩
  | 107 => ⟨S32x561x384, .f32⟩
  | 108 => ⟨S32x561x384, .f32⟩
  | 109 => ⟨S1x1x384, .f32⟩
  | 110 => ⟨S32x561x384, .f32⟩
  | 111 => ⟨S32x561x384, .f32⟩
  | 112 => ⟨S32x561x1536, .f32⟩
  | 113 => ⟨S1x1x1536, .f32⟩
  | 114 => ⟨S32x561x1536, .f32⟩
  | 115 => ⟨S32x561x1536, .f32⟩
  | 116 => ⟨S_, .f32⟩
  | 117 => ⟨S32x561x1536, .f32⟩
  | 118 => ⟨S32x561x1536, .f32⟩
  | 119 => ⟨S32x561x1536, .f32⟩
  | 120 => ⟨S_, .f32⟩
  | 121 => ⟨S32x561x1536, .f32⟩
  | 122 => ⟨S32x561x1536, .f32⟩
  | 123 => ⟨S32x561x1536, .f32⟩
  | 124 => ⟨S32x561x1536, .f32⟩
  | 125 => ⟨S32x561x384, .f32⟩
  | 126 => ⟨S1x1x384, .f32⟩
  | 127 => ⟨S32x561x384, .f32⟩
  | _ => ⟨S32x577x384, .f32⟩

abbrev hbmTy0_3 (i : Nat) : BufTy := match i % 128 with
  | 0 => ⟨S32x561x384, .f32⟩
  | 1 => ⟨S32x561x384, .f32⟩
  | _ => ⟨S32x577x384, .f32⟩

abbrev hbmTy (i : Nat) : BufTy := match i / 128 with
  | 0 => hbmTy0_0 i
  | 1 => hbmTy0_1 i
  | 2 => hbmTy0_2 i
  | 3 => hbmTy0_3 i
  | _ => ⟨S32x577x384, .f32⟩

abbrev bufTy : (tb : Table) → Fin (tcTables nBuf tb) → BufTy
  | .hbm, ⟨i, _⟩ => hbmTy i
  | _, _ => ⟨S32x577x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_2 : Ref sig .tc := ⟨.hbm, 64, rfl⟩
abbrev main_v25 : Ref sig .tc := ⟨.hbm, 65, rfl⟩
abbrev main_cst_3 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call1_v0 : Ref sig .tc := ⟨.hbm, 72, rfl⟩
abbrev main_call1_cst : Ref sig .tc := ⟨.hbm, 73, rfl⟩
abbrev main_call1_v1 : Ref sig .tc := ⟨.hbm, 74, rfl⟩
abbrev main_call1_v2 : Ref sig .tc := ⟨.hbm, 75, rfl⟩
abbrev main_v31 : Ref sig .tc := ⟨.hbm, 76, rfl⟩
abbrev main_cst_4 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_5 : Ref sig .tc := ⟨.hbm, 85, rfl⟩
abbrev main_v39 : Ref sig .tc := ⟨.hbm, 86, rfl⟩
abbrev main_call2_v0 : Ref sig .tc := ⟨.hbm, 87, rfl⟩
abbrev main_call2_cst : Ref sig .tc := ⟨.hbm, 88, rfl⟩
abbrev main_call2_c : Ref sig .tc := ⟨.hbm, 89, rfl⟩
abbrev main_call2_v1_0 : Ref sig .tc := ⟨.hbm, 90, rfl⟩
abbrev main_v40 : Ref sig .tc := ⟨.hbm, 91, rfl⟩
abbrev main_values : Ref sig .tc := ⟨.hbm, 92, rfl⟩
abbrev main_indices : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_c_4 : Ref sig .tc := ⟨.hbm, 117, rfl⟩
abbrev main_call3_v14 : Ref sig .tc := ⟨.hbm, 118, rfl⟩
abbrev main_v45 : Ref sig .tc := ⟨.hbm, 119, rfl⟩
abbrev main_v46 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_c_1 : Ref sig .tc := ⟨.hbm, 128, rfl⟩
abbrev main_call4_c_2 : Ref sig .tc := ⟨.hbm, 129, rfl⟩
abbrev main_call4_v5 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_c_3 : Ref sig .tc := ⟨.hbm, 136, rfl⟩
abbrev main_call4_v11 : Ref sig .tc := ⟨.hbm, 137, rfl⟩
abbrev main_call4_v12 : Ref sig .tc := ⟨.hbm, 138, rfl⟩
abbrev main_call4_v13 : Ref sig .tc := ⟨.hbm, 139, rfl⟩
abbrev main_call4_cst : Ref sig .tc := ⟨.hbm, 140, rfl⟩
abbrev main_call4_v14 : Ref sig .tc := ⟨.hbm, 141, rfl⟩
abbrev main_v47 : Ref sig .tc := ⟨.hbm, 142, rfl⟩
abbrev main_c_6 : Ref sig .tc := ⟨.hbm, 143, rfl⟩
abbrev main_v48 : Ref sig .tc := ⟨.hbm, 144, rfl⟩
abbrev main_v49 : Ref sig .tc := ⟨.hbm, 145, rfl⟩
abbrev main_c_7 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_c_8 : Ref sig .tc := ⟨.hbm, 150, rfl⟩
abbrev main_v53 : Ref sig .tc := ⟨.hbm, 151, rfl⟩
abbrev main_v54 : Ref sig .tc := ⟨.hbm, 152, rfl⟩
abbrev main_c_9 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_v58 : Ref sig .tc := ⟨.hbm, 157, rfl⟩
abbrev main_v59 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_cst_10 : Ref sig .tc := ⟨.hbm, 162, rfl⟩
abbrev main_v63 : Ref sig .tc := ⟨.hbm, 163, rfl⟩
abbrev main_c_11 : Ref sig .tc := ⟨.hbm, 164, rfl⟩
abbrev main_v64 : Ref sig .tc := ⟨.hbm, 165, rfl⟩
abbrev main_v65 : Ref sig .tc := ⟨.hbm, 166, rfl⟩
abbrev main_c_12 : Ref sig .tc := ⟨.hbm, 167, rfl⟩
abbrev main_v66 : Ref sig .tc := ⟨.hbm, 168, rfl⟩
abbrev main_v67 : Ref sig .tc := ⟨.hbm, 169, rfl⟩
abbrev main_v68 : Ref sig .tc := ⟨.hbm, 170, rfl⟩
abbrev main_c_13 : Ref sig .tc := ⟨.hbm, 171, rfl⟩
abbrev main_v69 : Ref sig .tc := ⟨.hbm, 172, rfl⟩
abbrev main_v70 : Ref sig .tc := ⟨.hbm, 173, rfl⟩
abbrev main_c_14 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_cst_15 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_c_16 : Ref sig .tc := ⟨.hbm, 187, rfl⟩
abbrev main_v82 : Ref sig .tc := ⟨.hbm, 188, rfl⟩
abbrev main_c_17 : Ref sig .tc := ⟨.hbm, 189, rfl⟩
abbrev main_v83 : Ref sig .tc := ⟨.hbm, 190, rfl⟩
abbrev main_v84 : Ref sig .tc := ⟨.hbm, 191, rfl⟩
abbrev main_c_18 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_c_19 : Ref sig .tc := ⟨.hbm, 196, rfl⟩
abbrev main_v88 : Ref sig .tc := ⟨.hbm, 197, rfl⟩
abbrev main_v89 : Ref sig .tc := ⟨.hbm, 198, rfl⟩
abbrev main_c_20 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_c_21 : Ref sig .tc := ⟨.hbm, 207, rfl⟩
abbrev main_v97 : Ref sig .tc := ⟨.hbm, 208, rfl⟩
abbrev main_v98 : Ref sig .tc := ⟨.hbm, 209, rfl⟩
abbrev main_call5_v0 : Ref sig .tc := ⟨.hbm, 210, rfl⟩
abbrev main_call5_v1_0 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_call6_c : Ref sig .tc := ⟨.hbm, 215, rfl⟩
abbrev main_call6_v0 : Ref sig .tc := ⟨.hbm, 216, rfl⟩
abbrev main_call6_v1 : Ref sig .tc := ⟨.hbm, 217, rfl⟩
abbrev main_call6_c_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_c_1 : Ref sig .tc := ⟨.hbm, 222, rfl⟩
abbrev main_call6_c_2 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_v8 : Ref sig .tc := ⟨.hbm, 227, rfl⟩
abbrev main_call6_v9 : Ref sig .tc := ⟨.hbm, 228, rfl⟩
abbrev main_call6_v10 : Ref sig .tc := ⟨.hbm, 229, rfl⟩
abbrev main_call6_c_3 : Ref sig .tc := ⟨.hbm, 230, rfl⟩
abbrev main_call6_v11 : Ref sig .tc := ⟨.hbm, 231, rfl⟩
abbrev main_call6_v12 : Ref sig .tc := ⟨.hbm, 232, rfl⟩
abbrev main_call6_v13 : Ref sig .tc := ⟨.hbm, 233, rfl⟩
abbrev main_call6_cst : Ref sig .tc := ⟨.hbm, 234, rfl⟩
abbrev main_call6_v14 : Ref sig .tc := ⟨.hbm, 235, rfl⟩
abbrev main_v102 : Ref sig .tc := ⟨.hbm, 236, rfl⟩
abbrev main_v103 : Ref sig .tc := ⟨.hbm, 237, rfl⟩
abbrev main_v104 : Ref sig .tc := ⟨.hbm, 238, rfl⟩
abbrev main_cst_22 : Ref sig .tc := ⟨.hbm, 239, rfl⟩
abbrev main_v105 : Ref sig .tc := ⟨.hbm, 240, rfl⟩
abbrev main_v106 : Ref sig .tc := ⟨.hbm, 241, rfl⟩
abbrev main_cst_23 : Ref sig .tc := ⟨.hbm, 242, rfl⟩
abbrev main_v107 : Ref sig .tc := ⟨.hbm, 243, rfl⟩
abbrev main_v108 : Ref sig .tc := ⟨.hbm, 244, rfl⟩
abbrev main_c_24 : Ref sig .tc := ⟨.hbm, 245, rfl⟩
abbrev main_call7_cst : Ref sig .tc := ⟨.hbm, 246, rfl⟩
abbrev main_call7_v0 : Ref sig .tc := ⟨.hbm, 247, rfl⟩
abbrev main_call7_v1 : Ref sig .tc := ⟨.hbm, 248, rfl⟩
abbrev main_call7_cst_0 : Ref sig .tc := ⟨.hbm, 249, rfl⟩
abbrev main_call7_v2 : Ref sig .tc := ⟨.hbm, 250, rfl⟩
abbrev main_call7_v3 : Ref sig .tc := ⟨.hbm, 251, rfl⟩
abbrev main_call7_v4 : Ref sig .tc := ⟨.hbm, 252, rfl⟩
abbrev main_call7_v5 : Ref sig .tc := ⟨.hbm, 253, rfl⟩
abbrev main_call7_v6 : Ref sig .tc := ⟨.hbm, 254, rfl⟩
abbrev main_call7_v7 : Ref sig .tc := ⟨.hbm, 255, rfl⟩
abbrev main_call7_cst_1 : Ref sig .tc := ⟨.hbm, 256, rfl⟩
abbrev main_call7_v8 : Ref sig .tc := ⟨.hbm, 257, rfl⟩
abbrev main_call7_cst_2 : Ref sig .tc := ⟨.hbm, 258, rfl⟩
abbrev main_call7_v9 : Ref sig .tc := ⟨.hbm, 259, rfl⟩
abbrev main_call7_v10 : Ref sig .tc := ⟨.hbm, 260, rfl⟩
abbrev main_call7_v11 : Ref sig .tc := ⟨.hbm, 261, rfl⟩
abbrev main_call7_v12 : Ref sig .tc := ⟨.hbm, 262, rfl⟩
abbrev main_call7_cst_3 : Ref sig .tc := ⟨.hbm, 263, rfl⟩
abbrev main_call7_v13 : Ref sig .tc := ⟨.hbm, 264, rfl⟩
abbrev main_call7_cst_4 : Ref sig .tc := ⟨.hbm, 265, rfl⟩
abbrev main_call7_call0_v0 : Ref sig .tc := ⟨.hbm, 266, rfl⟩
abbrev main_call7_call0_v1 : Ref sig .tc := ⟨.hbm, 267, rfl⟩
abbrev main_v109 : Ref sig .tc := ⟨.hbm, 268, rfl⟩
abbrev main_v110 : Ref sig .tc := ⟨.hbm, 269, rfl⟩
abbrev main_v111 : Ref sig .tc := ⟨.hbm, 270, rfl⟩
abbrev main_cst_25 : Ref sig .tc := ⟨.hbm, 271, rfl⟩
abbrev main_v112 : Ref sig .tc := ⟨.hbm, 272, rfl⟩
abbrev main_v113 : Ref sig .tc := ⟨.hbm, 273, rfl⟩
abbrev main_v114 : Ref sig .tc := ⟨.hbm, 274, rfl⟩
abbrev main_v115 : Ref sig .tc := ⟨.hbm, 275, rfl⟩
abbrev main_v116 : Ref sig .tc := ⟨.hbm, 276, rfl⟩
abbrev main_v117 : Ref sig .tc := ⟨.hbm, 277, rfl⟩
abbrev main_v118 : Ref sig .tc := ⟨.hbm, 278, rfl⟩
abbrev main_v119 : Ref sig .tc := ⟨.hbm, 279, rfl⟩
abbrev main_v120 : Ref sig .tc := ⟨.hbm, 280, rfl⟩
abbrev main_v121 : Ref sig .tc := ⟨.hbm, 281, rfl⟩
abbrev main_v122 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_v130 : Ref sig .tc := ⟨.hbm, 290, rfl⟩
abbrev main_v131 : Ref sig .tc := ⟨.hbm, 291, rfl⟩
abbrev main_v132 : Ref sig .tc := ⟨.hbm, 292, rfl⟩
abbrev main_v133 : Ref sig .tc := ⟨.hbm, 293, rfl⟩
abbrev main_v134 : Ref sig .tc := ⟨.hbm, 294, rfl⟩
abbrev main_v135 : Ref sig .tc := ⟨.hbm, 295, rfl⟩
abbrev main_v136 : Ref sig .tc := ⟨.hbm, 296, rfl⟩
abbrev main_v137 : Ref sig .tc := ⟨.hbm, 297, rfl⟩
abbrev main_v138 : Ref sig .tc := ⟨.hbm, 298, rfl⟩
abbrev main_cst_26 : Ref sig .tc := ⟨.hbm, 299, rfl⟩
abbrev main_v139 : Ref sig .tc := ⟨.hbm, 300, rfl⟩
abbrev main_v140 : Ref sig .tc := ⟨.hbm, 301, rfl⟩
abbrev main_cst_27 : Ref sig .tc := ⟨.hbm, 302, rfl⟩
abbrev main_v141 : Ref sig .tc := ⟨.hbm, 303, rfl⟩
abbrev main_cst_28 : Ref sig .tc := ⟨.hbm, 304, rfl⟩
abbrev main_v142 : Ref sig .tc := ⟨.hbm, 305, rfl⟩
abbrev main_v143 : Ref sig .tc := ⟨.hbm, 306, rfl⟩
abbrev main_v144 : Ref sig .tc := ⟨.hbm, 307, rfl⟩
abbrev main_v145 : Ref sig .tc := ⟨.hbm, 308, rfl⟩
abbrev main_v146 : Ref sig .tc := ⟨.hbm, 309, rfl⟩
abbrev main_v147 : Ref sig .tc := ⟨.hbm, 310, rfl⟩
abbrev main_cst_29 : Ref sig .tc := ⟨.hbm, 311, rfl⟩
abbrev main_v148 : Ref sig .tc := ⟨.hbm, 312, rfl⟩
abbrev main_v149 : Ref sig .tc := ⟨.hbm, 313, rfl⟩
abbrev main_v150 : Ref sig .tc := ⟨.hbm, 314, rfl⟩
abbrev main_v151 : Ref sig .tc := ⟨.hbm, 315, rfl⟩
abbrev main_v152 : Ref sig .tc := ⟨.hbm, 316, rfl⟩
abbrev main_v153 : Ref sig .tc := ⟨.hbm, 317, rfl⟩
abbrev main_v154 : Ref sig .tc := ⟨.hbm, 318, rfl⟩
abbrev main_v155 : Ref sig .tc := ⟨.hbm, 319, rfl⟩
abbrev main_v156 : Ref sig .tc := ⟨.hbm, 320, rfl⟩
abbrev main_v157 : Ref sig .tc := ⟨.hbm, 321, rfl⟩
abbrev main_v158 : Ref sig .tc := ⟨.hbm, 322, rfl⟩
abbrev main_v159 : Ref sig .tc := ⟨.hbm, 323, rfl⟩
abbrev main_cst_30 : Ref sig .tc := ⟨.hbm, 324, rfl⟩
abbrev main_v160 : Ref sig .tc := ⟨.hbm, 325, rfl⟩
abbrev main_v161 : Ref sig .tc := ⟨.hbm, 326, rfl⟩
abbrev main_cst_31 : Ref sig .tc := ⟨.hbm, 327, rfl⟩
abbrev main_v162 : Ref sig .tc := ⟨.hbm, 328, rfl⟩
abbrev main_v163 : Ref sig .tc := ⟨.hbm, 329, rfl⟩
abbrev main_c_32 : Ref sig .tc := ⟨.hbm, 330, rfl⟩
abbrev main_call8_cst : Ref sig .tc := ⟨.hbm, 331, rfl⟩
abbrev main_call8_v0 : Ref sig .tc := ⟨.hbm, 332, rfl⟩
abbrev main_call8_v1 : Ref sig .tc := ⟨.hbm, 333, rfl⟩
abbrev main_call8_cst_0 : Ref sig .tc := ⟨.hbm, 334, rfl⟩
abbrev main_call8_v2 : Ref sig .tc := ⟨.hbm, 335, rfl⟩
abbrev main_call8_v3 : Ref sig .tc := ⟨.hbm, 336, rfl⟩
abbrev main_call8_v4 : Ref sig .tc := ⟨.hbm, 337, rfl⟩
abbrev main_call8_v5 : Ref sig .tc := ⟨.hbm, 338, rfl⟩
abbrev main_call8_v6 : Ref sig .tc := ⟨.hbm, 339, rfl⟩
abbrev main_call8_v7 : Ref sig .tc := ⟨.hbm, 340, rfl⟩
abbrev main_call8_cst_1 : Ref sig .tc := ⟨.hbm, 341, rfl⟩
abbrev main_call8_v8 : Ref sig .tc := ⟨.hbm, 342, rfl⟩
abbrev main_call8_cst_2 : Ref sig .tc := ⟨.hbm, 343, rfl⟩
abbrev main_call8_v9 : Ref sig .tc := ⟨.hbm, 344, rfl⟩
abbrev main_call8_v10 : Ref sig .tc := ⟨.hbm, 345, rfl⟩
abbrev main_call8_v11 : Ref sig .tc := ⟨.hbm, 346, rfl⟩
abbrev main_call8_v12 : Ref sig .tc := ⟨.hbm, 347, rfl⟩
abbrev main_call8_cst_3 : Ref sig .tc := ⟨.hbm, 348, rfl⟩
abbrev main_call8_v13 : Ref sig .tc := ⟨.hbm, 349, rfl⟩
abbrev main_call8_cst_4 : Ref sig .tc := ⟨.hbm, 350, rfl⟩
abbrev main_call8_call0_v0 : Ref sig .tc := ⟨.hbm, 351, rfl⟩
abbrev main_call8_call0_v1 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_cst_33 : Ref sig .tc := ⟨.hbm, 356, rfl⟩
abbrev main_v167 : Ref sig .tc := ⟨.hbm, 357, rfl⟩
abbrev main_v168 : Ref sig .tc := ⟨.hbm, 358, rfl⟩
abbrev main_v169 : Ref sig .tc := ⟨.hbm, 359, rfl⟩
abbrev main_v170 : Ref sig .tc := ⟨.hbm, 360, rfl⟩
abbrev main_v171 : Ref sig .tc := ⟨.hbm, 361, rfl⟩
abbrev main_v172 : Ref sig .tc := ⟨.hbm, 362, rfl⟩
abbrev main_v173 : Ref sig .tc := ⟨.hbm, 363, rfl⟩
abbrev main_v174 : Ref sig .tc := ⟨.hbm, 364, rfl⟩
abbrev main_v175 : Ref sig .tc := ⟨.hbm, 365, rfl⟩
abbrev main_v176 : Ref sig .tc := ⟨.hbm, 366, rfl⟩
abbrev main_v177 : Ref sig .tc := ⟨.hbm, 367, rfl⟩
abbrev main_v178 : Ref sig .tc := ⟨.hbm, 368, rfl⟩
abbrev main_v179 : Ref sig .tc := ⟨.hbm, 369, rfl⟩
abbrev main_v180 : Ref sig .tc := ⟨.hbm, 370, rfl⟩
abbrev main_v181 : Ref sig .tc := ⟨.hbm, 371, rfl⟩
abbrev main_cst_34 : Ref sig .tc := ⟨.hbm, 372, rfl⟩
abbrev main_v182 : Ref sig .tc := ⟨.hbm, 373, rfl⟩
abbrev main_v183 : Ref sig .tc := ⟨.hbm, 374, rfl⟩
abbrev main_v184 : Ref sig .tc := ⟨.hbm, 375, rfl⟩
abbrev main_cst_35 : Ref sig .tc := ⟨.hbm, 376, rfl⟩
abbrev main_v185 : Ref sig .tc := ⟨.hbm, 377, rfl⟩
abbrev main_v186 : Ref sig .tc := ⟨.hbm, 378, rfl⟩
abbrev main_v187 : Ref sig .tc := ⟨.hbm, 379, rfl⟩
abbrev main_v188 : Ref sig .tc := ⟨.hbm, 380, rfl⟩
abbrev main_v189 : Ref sig .tc := ⟨.hbm, 381, rfl⟩
abbrev main_v190 : Ref sig .tc := ⟨.hbm, 382, rfl⟩
abbrev main_v191 : Ref sig .tc := ⟨.hbm, 383, rfl⟩
abbrev main_v192 : Ref sig .tc := ⟨.hbm, 384, rfl⟩
abbrev main_v193 : Ref sig .tc := ⟨.hbm, 385, rfl⟩

abbrev nD : Nat := 1
abbrev τ : Topo := Topo.v7x

variable {F : FTy → Type} [FloatOps F]
-- ==== Proof.FrameKernelIdeal.lean ====
/- The launch of `KernelIdeal` and its frame: the generated text, with the time it needs for `frame_of`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`). -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8] [hostOps1] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 4000000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h c).2 main_arg0 (Pipeline.mem_restRefs_of main_arg0 (by decide) (by decide))).trans (W_main_arg0 m dats c)),
      ((h c).1 3).trans (((dats 0 c).arrAt_in 3 rfl _).trans ((hA c 3).trans (V_main_arg1 m c))),
      ((h c).1 4).trans (((dats 0 c).arrAt_in 4 rfl _).trans ((hA c 4).trans (V_main_arg2 m c))),
      ((h c).1 5).trans (((dats 0 c).arrAt_in 5 rfl _).trans ((hA c 5).trans (V_main_arg3 m c))),
      ((h c).1 6).trans (((dats 0 c).arrAt_in 6 rfl _).trans ((hA c 6).trans (V_main_arg4 m c))),
      ((h c).1 7).trans (((dats 0 c).arrAt_in 7 rfl _).trans ((hA c 7).trans (V_main_arg5 m c))),
      ((h c).1 8).trans (((dats 0 c).arrAt_in 8 rfl _).trans ((hA c 8).trans (V_main_arg6 m c))),
      ((h c).1 9).trans (((dats 0 c).arrAt_in 9 rfl _).trans ((hA c 9).trans (V_main_arg7 m c))),
      ((h c).1 10).trans (((dats 0 c).arrAt_in 10 rfl _).trans ((hA c 10).trans (V_main_arg8 m c))),
      ((h c).1 11).trans (((dats 0 c).arrAt_in 11 rfl _).trans ((hA c 11).trans (V_main_arg9 m c))),
      ((h c).1 12).trans (((dats 0 c).arrAt_in 12 rfl _).trans ((hA c 12).trans (V_main_arg10 m c))),
      ((h c).1 13).trans (((dats 0 c).arrAt_in 13 rfl _).trans ((hA c 13).trans (V_main_arg11 m c))),
      ((h c).1 14).trans (((dats 0 c).arrAt_in 14 rfl _).trans ((hA c 14).trans (V_main_arg12 m c)))⟩) h

/-! ## The body's accesses -/

abbrev r0_0 : Rect S1x288x768 := Rect.unit (s := S1x288x768) ![0, 0, 0] S1x288x768.size inb_S1x288x768_S1x288x768_0_0_0
abbrev r0_1 : Rect S1x8x288 := Rect.unit (s := S1x8x288) ![0, 0, 0] S1x8x288.size inb_S1x8x288_S1x8x288_0_0_0
abbrev r0_2 : Rect S1x16x384 := Rect.unit (s := S1x16x384) ![0, 0, 0] S1x16x384.size inb_S1x16x384_S1x16x384_0_0_0
abbrev r0_3 : Rect S384 := Rect.unit (s := S384) ![0] S384.size inb_S384_S384_0
abbrev r0_4 : Rect S384x1152 := Rect.unit (s := S384x1152) ![0, 0] S384x1152.size inb_S384x1152_S384x1152_0_0
abbrev r0_5 : Rect S1152 := Rect.unit (s := S1152) ![0] S1152.size inb_S1152_S1152_0
abbrev r0_6 : Rect S384x384 := Rect.unit (s := S384x384) ![0, 0] S384x384.size inb_S384x384_S384x384_0_0
abbrev r0_7 : Rect S384x1536 := Rect.unit (s := S384x1536) ![0, 0] S384x1536.size inb_S384x1536_S384x1536_0_0
abbrev r0_8 : Rect S1536 := Rect.unit (s := S1536) ![0] S1536.size inb_S1536_S1536_0
abbrev r0_9 : Rect S1536x384 := Rect.unit (s := S1536x384) ![0, 0] S1536x384.size inb_S1536x384_S1536x384_0_0
abbrev r0_10 : Rect S1x576x384 := Rect.unit (s := S1x576x384) ![0, 0, 0] S1x576x384.size inb_S1x576x384_S1x576x384_0_0_0

/-! ## What the body leaves in each output window's buffer -/

/-! ### Values of the body that the stores' payloads, spelt out, would write more than once

    Each is a vector the body binds (often a part call's result), stated over the input windows' blocks and
    numbered on from the skeleton's payload functions (`k0_pay28` …, after `k0_pay27`), so that
    `out0_W` and the values after it name it instead of spelling it out (`unfold_out out0_W` opens a canon
    with them, `unfold_payloads` opens them with the payloads); the comment after each is the printed function's
    name for the value (a count appended where that name is bound again). -/

def k0_pay28 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S288x384 .f32 :=
  k0_pay3 (View.ld x0 r0_0) -- `v3`
def k0_pay29 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S288x384 .f32 :=
  k0_pay6 (View.ld x0 r0_0) (View.ld x2 r0_1) -- `v34`
def k0_pay30 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : IVec S288x288 1 :=
  k0_pay7 (View.ld x2 r0_1) -- `v39`
def k0_pay31 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S288x288 .f32 :=
  k0_pay8 (F := F) -- `v40`
def k0_pay32 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S288x288 .f32 :=
  k0_pay9 (F := F) -- `v41`
def k0_pay33 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x384 .f32 :=
  k0_pay10 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) (View.ld x1 r0_2) -- `v47`
def k0_pay34 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x1152 .f32 :=
  k0_pay11 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) (View.ld x1 r0_2) (View.ld x3 r0_3) (View.ld x4 r0_3) (View.ld x5 r0_4) (View.ld x6 r0_5) -- `v81`
def k0_pay35 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : IVec S576x576 1 :=
  k0_pay12 -- `v84`
def k0_pay36 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay14 (k0_pay34 x0 x1 x2 x3 x4 x5 x6 x7 x8 x9 x10 x11 x12 x13 x14) (k0_pay35 x0 x1 x2 x3 x4 x5 x6 x7 x8 x9 x10 x11 x12 x13 x14) (k0_pay13 (k0_pay28 x0 x1 x2 x3 x4 x5 x6 x7 x8 x9 x10 x11 x12 x13 x14) (k0_pay29 x0 x1 x2 x3 x4 x5 x6 x7 x8 x9 x10 x11 x12 x13 x14) (k0_pay30 x0 x1 x2 x3 x4 x5 x6 x7 x8 x9 x10 x11 x12 x13 x14) (k0_pay31 x0 x1 x2 x3 x4 x5 x6 x7 x8 x9 x10 x11 x12 x13 x14) (k0_pay32 x0 x1 x2 x3 x4 x5 x6 x7 x8 x9 x10 x11 x12 x13 x14) (View.ld x1 r0_2) (View.ld x3 r0_3) (View.ld x4 r0_3) (View.ld x5 r0_4) (View.ld x6 r0_5)) -- `v102`
def k0_pay37 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay15 (k0_pay34 x0 x1 x2 x3 x4 x5 x6 x7 x8 x9 x10 x11 x12 x13 x14) (k0_pay35 x0 x1 x2 x3 x4 x5 x6 x7 x8 x9 x10 x11 x12 x13 x14) -- `v120`
def k0_pay38 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay19 (k0_pay16 (k0_pay34 x0 x1 x2 x3 x4 x5 x6 x7 x8 x9 x10 x11 x12 x13 x14)) (k0_pay17 (k0_pay34 x0 x1 x2 x3 x4 x5 x6 x7 x8 x9 x10 x11 x12 x13 x14) (k0_pay35 x0 x1 x2 x3 x4 x5 x6 x7 x8 x9 x10 x11 x12 x13 x14)) (k0_pay18 (k0_pay34 x0 x1 x2 x3 x4 x5 x6 x7 x8 x9 x10 x11 x12 x13 x14) (k0_pay35 x0 x1 x2 x3 x4 x5 x6 x7 x8 x9 x10 x11 x12 x13 x14)) -- `v138`
def k0_pay39 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay20 (k0_pay34 x0 x1 x2 x3 x4 x5 x6 x7 x8 x9 x10 x11 x12 x13 x14) (k0_pay35 x0 x1 x2 x3 x4 x5 x6 x7 x8 x9 x10 x11 x12 x13 x14) -- `v156`
def k0_pay40 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay21 (k0_pay34 x0 x1 x2 x3 x4 x5 x6 x7 x8 x9 x10 x11 x12 x13 x14) (k0_pay35 x0 x1 x2 x3 x4 x5 x6 x7 x8 x9 x10 x11 x12 x13 x14) -- `v174`
def k0_pay41 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : FVec F S576x64 .f32 :=
  k0_pay22 (k0_pay34 x0 x1 x2 x3 x4 x5 x6 x7 x8 x9 x10 x11 x12 x13 x14) -- `v175`

/-- Window 15's staging buffer after the body, from the input windows' blocks: its 1 store as pieces, LAST
    FIRST (Lib/Pipeline/FrameBody.lean `View.canon`; the payloads are the skeleton's and the values stated above). -/
def out0_15 (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) : Vec F S1x576x384 .f32 :=
  View.canon [⟨r0_10, k0_pay1 (k0_pay23 (k0_pay33 x0 x1 x2 x3 x4 x5 x6 x7 x8 x9 x10 x11 x12 x13 x14) (k0_pay34 x0 x1 x2 x3 x4 x5 x6 x7 x8 x9 x10 x11 x12 x13 x14) (k0_pay35 x0 x1 x2 x3 x4 x5 x6 x7 x8 x9 x10 x11 x12 x13 x14) (k0_pay36 x0 x1 x2 x3 x4 x5 x6 x7 x8 x9 x10 x11 x12 x13 x14) (k0_pay37 x0 x1 x2 x3 x4 x5 x6 x7 x8 x9 x10 x11 x12 x13 x14) (k0_pay38 x0 x1 x2 x3 x4 x5 x6 x7 x8 x9 x10 x11 x12 x13 x14) (k0_pay39 x0 x1 x2 x3 x4 x5 x6 x7 x8 x9 x10 x11 x12 x13 x14) (k0_pay40 x0 x1 x2 x3 x4 x5 x6 x7 x8 x9 x10 x11 x12 x13 x14) (k0_pay41 x0 x1 x2 x3 x4 x5 x6 x7 x8 x9 x10 x11 x12 x13 x14) (View.ld x7 r0_6) (View.ld x8 r0_3)) (View.ld x9 r0_3) (View.ld x10 r0_3) (k0_pay25 (k0_pay33 x0 x1 x2 x3 x4 x5 x6 x7 x8 x9 x10 x11 x12 x13 x14) (k0_pay34 x0 x1 x2 x3 x4 x5 x6 x7 x8 x9 x10 x11 x12 x13 x14) (k0_pay35 x0 x1 x2 x3 x4 x5 x6 x7 x8 x9 x10 x11 x12 x13 x14) (k0_pay36 x0 x1 x2 x3 x4 x5 x6 x7 x8 x9 x10 x11 x12 x13 x14) (k0_pay37 x0 x1 x2 x3 x4 x5 x6 x7 x8 x9 x10 x11 x12 x13 x14) (k0_pay38 x0 x1 x2 x3 x4 x5 x6 x7 x8 x9 x10 x11 x12 x13 x14) (k0_pay39 x0 x1 x2 x3 x4 x5 x6 x7 x8 x9 x10 x11 x12 x13 x14) (k0_pay40 x0 x1 x2 x3 x4 x5 x6 x7 x8 x9 x10 x11 x12 x13 x14) (k0_pay41 x0 x1 x2 x3 x4 x5 x6 x7 x8 x9 x10 x11 x12 x13 x14) (View.ld x7 r0_6) (View.ld x8 r0_3)) (k0_pay26 (k0_pay33 x0 x1 x2 x3 x4 x5 x6 x7 x8 x9 x10 x11 x12 x13 x14) (k0_pay34 x0 x1 x2 x3 x4 x5 x6 x7 x8 x9 x10 x11 x12 x13 x14) (k0_pay35 x0 x1 x2 x3 x4 x5 x6 x7 x8 x9 x10 x11 x12 x13 x14) (k0_pay36 x0 x1 x2 x3 x4 x5 x6 x7 x8 x9 x10 x11 x12 x13 x14) (k0_pay37 x0 x1 x2 x3 x4 x5 x6 x7 x8 x9 x10 x11 x12 x13 x14) (k0_pay38 x0 x1 x2 x3 x4 x5 x6 x7 x8 x9 x10 x11 x12 x13 x14) (k0_pay39 x0 x1 x2 x3 x4 x5 x6 x7 x8 x9 x10 x11 x12 x13 x14) (k0_pay40 x0 x1 x2 x3 x4 x5 x6 x7 x8 x9 x10 x11 x12 x13 x14) (k0_pay41 x0 x1 x2 x3 x4 x5 x6 x7 x8 x9 x10 x11 x12 x13 x14) (View.ld x7 r0_6) (View.ld x8 r0_3)) (k0_pay27 (F := F)) (View.ld x11 r0_7) (View.ld x12 r0_8) (View.ld x13 r0_9) (View.ld x14 r0_3)⟩]

/-- Its stores tile the buffer (checked by evaluation), so they cover it. -/
theorem cover0_15 (p0 : Vec F S1x576x384 .f32) (y : S1x576x384.Idx) :
    ∃ pc ∈ ([⟨r0_10, p0⟩] : List (View.Piece (Elt F) S1x576x384 .f32)), y ∈ pc.1.set :=
  View.cover_of_tiled [⟨r0_10, p0⟩] S1x576x384.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1x288x768 .f32) (harg1 : arg1.IsWhole) (arg2 : Memref sig .tc .vmem S1x16x384 .f32) (harg2 : arg2.IsWhole) (arg3 : Memref sig .tc .vmem S1x8x288 .f32) (harg3 : arg3.IsWhole) (arg4 : Memref sig .tc .vmem S384 .f32) (harg4 : arg4.IsWhole) (arg5 : Memref sig .tc .vmem S384 .f32) (harg5 : arg5.IsWhole) (arg6 : Memref sig .tc .vmem S384x1152 .f32) (harg6 : arg6.IsWhole) (arg7 : Memref sig .tc .vmem S1152 .f32) (harg7 : arg7.IsWhole) (arg8 : Memref sig .tc .vmem S384x384 .f32) (harg8 : arg8.IsWhole) (arg9 : Memref sig .tc .vmem S384 .f32) (harg9 : arg9.IsWhole) (arg10 : Memref sig .tc .vmem S384 .f32) (harg10 : arg10.IsWhole) (arg11 : Memref sig .tc .vmem S384 .f32) (harg11 : arg11.IsWhole) (arg12 : Memref sig .tc .vmem S384x1536 .f32) (harg12 : arg12.IsWhole) (arg13 : Memref sig .tc .vmem S1536 .f32) (harg13 : arg13.IsWhole) (arg14 : Memref sig .tc .vmem S1536x384 .f32) (harg14 : arg14.IsWhole) (arg15 : Memref sig .tc .vmem S384 .f32) (harg15 : arg15.IsWhole) (arg16 : Memref sig .tc .vmem S1x576x384 .f32) (harg16 : arg16.IsWhole)
    (x0 : Vec F S1x288x768 .f32) (x1 : Vec F S1x16x384 .f32) (x2 : Vec F S1x8x288 .f32) (x3 : Vec F S384 .f32) (x4 : Vec F S384 .f32) (x5 : Vec F S384x1152 .f32) (x6 : Vec F S1152 .f32) (x7 : Vec F S384x384 .f32) (x8 : Vec F S384 .f32) (x9 : Vec F S384 .f32) (x10 : Vec F S384 .f32) (x11 : Vec F S384x1536 .f32) (x12 : Vec F S1536 .f32) (x13 : Vec F S1536x384 .f32) (x14 : Vec F S384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E (cc0__tome_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__tome_kernel_eq_skeleton]; unfold cc0__tome_kernel_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  refine (View.read_writes_eq_canon _ _ _ (cover0_15 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Settled.lean ====
/- A straight line of host operations in which every buffer is written once, after everything it is computed from:
   what each operation says of its result is still true when the whole line has run. -/
module

public import Idealize.ShloMosaic.Lib.StableHlo.Run

@[expose] public section

set_option maxRecDepth 16384

noncomputable section

namespace Cert.Settled

open Idealize.ShloMosaic Idealize.ShloMosaic.StableHlo

variable {τ : Topo} {sig : RefSig} {Val : EltTy → Type}

/-- The contents of an array of the given shape and element type. -/
abbrev Arr (F : FTy → Type) [FloatOps F] (s : Shape) (e : EltTy) := (⟨s, e⟩ : BufTy).Contents (Elt F)

/-- The operation writes the buffer numbered `k`, touches no buffer with a larger number, and writing its result does not
    change what it would write again. -/
structure At (op : HloOp τ sig Val) (k : ℕ) : Prop where
  writes : ∃ y : Ref sig .tc, op.writes = {Proc.devRef .tc y} ∧ y.idx.val = k
  bufs : ∀ b ∈ op.bufs, ∃ r : Ref sig .tc, b = Proc.devRef .tc r ∧ r.idx.val ≤ k
  again : ∀ F b, b ∈ op.writes → op.result (op.result F) b = op.result F b
  sub : op.bufs ⊆ tcRefs τ sig
  fresh : op.fresh = ∅

/-- The line writes buffers numbered from `n` up, in increasing order, below `m`; each from buffers numbered lower. -/
def Ordered : ℕ → List (HloOp τ sig Val) → ℕ → Prop
  | n, [], m => n ≤ m
  | n, op :: ops, m => ∃ k, n ≤ k ∧ At op k ∧ Ordered (k + 1) ops m

/-- Every operation of the line leaves the contents `W` as they are. -/
def Settled (ops : List (HloOp τ sig Val)) (W : Valuation τ sig Val) : Prop :=
  ∀ op ∈ ops, ∀ b, op.result W b = W b

theorem Ordered.weaken {ops : List (HloOp τ sig Val)} {n n' m : ℕ} (h : Ordered n ops m) (hn : n' ≤ n) : Ordered n' ops m := by
  cases ops with
  | nil => exact hn.trans h
  | cons op ops => obtain ⟨k, hk, ha, ht⟩ := h; exact ⟨k, hn.trans hk, ha, ht⟩

/-- Two ordered lines one after the other are ordered. -/
theorem Ordered.append {a b : List (HloOp τ sig Val)} : ∀ {n m p : ℕ}, Ordered n a m → Ordered m b p → Ordered n (a ++ b) p := by
  induction a with
  | nil => intro n m p h hb; exact hb.weaken h
  | cons op a ih => intro n m p h hb; obtain ⟨k, hk, ha, ht⟩ := h; exact ⟨k, hk, ha, ih ht hb⟩

/-- A buffer numbered below all that an ordered line writes keeps its contents. -/
theorem Ordered.keep {ops : List (HloOp τ sig Val)} : ∀ {n m : ℕ}, Ordered n ops m → ∀ (r : Ref sig .tc), r.idx.val < n →
    ∀ V : Valuation τ sig Val, after ops V (Proc.devRef .tc r) = V (Proc.devRef .tc r) := by
  induction ops with
  | nil => intro n m _ r _ V; rfl
  | cons op ops ih =>
    intro n m h r hr V
    obtain ⟨k, hk, ha, ht⟩ := h
    rw [after_cons, ih ht r (by omega)]
    obtain ⟨y, hw, hy⟩ := ha.writes
    refine op.result_of_not_mem V ?_
    rw [hw, Finset.mem_singleton]
    exact devRef_ne_of_ne fun e => by subst e; omega

/-- After an ordered line has run, each of its operations leaves the contents as they are. -/
theorem Ordered.settled {ops : List (HloOp τ sig Val)} : ∀ {n m : ℕ}, Ordered n ops m →
    ∀ V : Valuation τ sig Val, Settled ops (after ops V) := by
  induction ops with
  | nil => intro n m _ V op h; cases h
  | cons op ops ih =>
    intro n m h V
    obtain ⟨k, hk, ha, ht⟩ := h
    intro o ho b
    rcases List.mem_cons.mp ho with rfl | ho
    · rw [after_cons]
      by_cases hb : b ∈ o.writes
      · have hag : ∀ c ∈ o.bufs, after ops (o.result V) c = o.result V c := fun c hc => by
          obtain ⟨r, rfl, hr⟩ := ha.bufs c hc
          exact ht.keep r (by omega) _
        rw [o.result_congr hag b (o.writes_sub hb), hag b (o.writes_sub hb), ha.again V b hb]
      · exact o.result_of_not_mem _ hb
    · exact ih ht _ o ho b

theorem Ordered.sub {ops : List (HloOp τ sig Val)} : ∀ {n m : ℕ}, Ordered n ops m → ∀ op ∈ ops, op.bufs ⊆ tcRefs τ sig := by
  induction ops with
  | nil => intro n m _ op h; cases h
  | cons op ops ih =>
    intro n m h o ho
    obtain ⟨k, hk, ha, ht⟩ := h
    rcases List.mem_cons.mp ho with rfl | ho
    exacts [ha.sub, ih ht o ho]

theorem Ordered.fresh {ops : List (HloOp τ sig Val)} : ∀ {n m : ℕ}, Ordered n ops m → ∀ op ∈ ops, op.fresh = ∅ := by
  induction ops with
  | nil => intro n m _ op h; cases h
  | cons op ops ih =>
    intro n m h o ho
    obtain ⟨k, hk, ha, ht⟩ := h
    rcases List.mem_cons.mp ho with rfl | ho
    exacts [ha.fresh, ih ht o ho]

theorem Settled.left {p q : List (HloOp τ sig Val)} {W} (h : Settled (p ++ q) W) : Settled p W :=
  fun o ho => h o (List.mem_append.mpr (.inl ho))

theorem Settled.right {p q : List (HloOp τ sig Val)} {W} (h : Settled (p ++ q) W) : Settled q W :=
  fun o ho => h o (List.mem_append.mpr (.inr ho))

theorem Settled.sub {ls : List (List (HloOp τ sig Val))} {W} (h : Settled ls.flatten W) (i : ℕ) {l : List (HloOp τ sig Val)}
    (hi : ls[i]? = some l) : Settled l W :=
  fun o ho => h o (List.mem_flatten.mpr ⟨l, List.mem_of_getElem? hi, ho⟩)

section Builders

variable {x a b c e y : Ref sig .tc}

theorem At.nullary (v : y.ty.Contents Val) (hy) : At (nullary (τ := τ) y v hy) y.idx.val where
  writes := ⟨y, rfl, rfl⟩
  bufs := fun b hb => ⟨y, by simpa [nullary_bufs] using hb, le_rfl⟩
  sub := nullary_bufs_sub ..
  fresh := rfl
  again := fun F b hb => by
    rw [nullary_writes, Finset.mem_singleton] at hb; subst hb; rw [nullary_result, nullary_result]

theorem At.unary (f : x.ty.Contents Val → y.ty.Contents Val) (hx hy) (h : x.idx.val < y.idx.val) :
    At (unary (τ := τ) x y f hx hy) y.idx.val where
  writes := ⟨y, rfl, rfl⟩
  bufs := fun b hb => by
    rw [unary_bufs] at hb; simp only [Finset.mem_insert, Finset.mem_singleton] at hb
    rcases hb with rfl | rfl
    exacts [⟨x, rfl, h.le⟩, ⟨y, rfl, le_rfl⟩]
  sub := unary_bufs_sub ..
  fresh := rfl
  again := fun F b hb => by
    rw [unary_writes, Finset.mem_singleton] at hb; subst hb
    rw [unary_result, unary_result, unary_result_ne x y f hx hy F (fun e => by subst e; omega)]

theorem At.reshape (he hn hx hy) (h : x.idx.val < y.idx.val) :
    At (reshape (τ := τ) (Val := Val) x y he hn hx hy) y.idx.val where
  writes := ⟨y, rfl, rfl⟩
  bufs := fun b hb => by
    rw [reshape_bufs] at hb; simp only [Finset.mem_insert, Finset.mem_singleton] at hb
    rcases hb with rfl | rfl
    exacts [⟨x, rfl, h.le⟩, ⟨y, rfl, le_rfl⟩]
  sub := reshape_bufs_sub ..
  fresh := rfl
  again := fun F b hb => by
    rw [reshape_writes, Finset.mem_singleton] at hb; subst hb
    rw [reshape_result, reshape_result, reshape_result_ne x y he hn hx hy F (fun e => by subst e; omega)]

theorem At.binary (f : a.ty.Contents Val → b.ty.Contents Val → y.ty.Contents Val) (ha hb hy)
    (h : a.idx.val < y.idx.val ∧ b.idx.val < y.idx.val) : At (binary (τ := τ) a b y f ha hb hy) y.idx.val where
  writes := ⟨y, rfl, rfl⟩
  bufs := fun d hd => by
    rw [binary_bufs] at hd; simp only [Finset.mem_insert, Finset.mem_singleton] at hd
    rcases hd with rfl | rfl | rfl
    exacts [⟨a, rfl, h.1.le⟩, ⟨b, rfl, h.2.le⟩, ⟨y, rfl, le_rfl⟩]
  sub := binary_bufs_sub ..
  fresh := rfl
  again := fun F d hd => by
    rw [binary_writes, Finset.mem_singleton] at hd; subst hd
    rw [binary_result, binary_result, binary_result_ne a b y f ha hb hy F (fun e => by subst e; omega),
      binary_result_ne a b y f ha hb hy F (fun e => by subst e; omega)]

theorem At.ternary (f : c.ty.Contents Val → a.ty.Contents Val → b.ty.Contents Val → y.ty.Contents Val) (hc ha hb hy)
    (h : c.idx.val < y.idx.val ∧ a.idx.val < y.idx.val ∧ b.idx.val < y.idx.val) :
    At (ternary (τ := τ) c a b y f hc ha hb hy) y.idx.val where
  writes := ⟨y, rfl, rfl⟩
  bufs := fun d hd => by
    rw [ternary_bufs] at hd; simp only [Finset.mem_insert, Finset.mem_singleton] at hd
    rcases hd with rfl | rfl | rfl | rfl
    exacts [⟨c, rfl, h.1.le⟩, ⟨a, rfl, h.2.1.le⟩, ⟨b, rfl, h.2.2.le⟩, ⟨y, rfl, le_rfl⟩]
  sub := ternary_bufs_sub ..
  fresh := rfl
  again := fun F d hd => by
    rw [ternary_writes, Finset.mem_singleton] at hd; subst hd
    rw [ternary_result, ternary_result, ternary_result_ne a b c y f hc ha hb hy F (fun e => by subst e; omega),
      ternary_result_ne a b c y f hc ha hb hy F (fun e => by subst e; omega),
      ternary_result_ne a b c y f hc ha hb hy F (fun e => by subst e; omega)]

theorem At.quaternary (f : a.ty.Contents Val → b.ty.Contents Val → c.ty.Contents Val → e.ty.Contents Val → y.ty.Contents Val)
    (ha hb hc he hy) (h : a.idx.val < y.idx.val ∧ b.idx.val < y.idx.val ∧ c.idx.val < y.idx.val ∧ e.idx.val < y.idx.val) :
    At (quaternary (τ := τ) a b c e y f ha hb hc he hy) y.idx.val where
  writes := ⟨y, rfl, rfl⟩
  bufs := fun d hd => by
    rw [quaternary_bufs] at hd; simp only [Finset.mem_insert, Finset.mem_singleton] at hd
    rcases hd with rfl | rfl | rfl | rfl | rfl
    exacts [⟨a, rfl, h.1.le⟩, ⟨b, rfl, h.2.1.le⟩, ⟨c, rfl, h.2.2.1.le⟩, ⟨e, rfl, h.2.2.2.le⟩, ⟨y, rfl, le_rfl⟩]
  sub := quaternary_bufs_sub ..
  fresh := rfl
  again := fun F d hd => by
    rw [quaternary_writes, Finset.mem_singleton] at hd; subst hd
    rw [quaternary_result, quaternary_result, quaternary_result_ne a b c e y f ha hb hc he hy F (fun e => by subst e; omega),
      quaternary_result_ne a b c e y f ha hb hc he hy F (fun e => by subst e; omega),
      quaternary_result_ne a b c e y f ha hb hc he hy F (fun e => by subst e; omega),
      quaternary_result_ne a b c e y f ha hb hc he hy F (fun e => by subst e; omega)]

theorem At.nary {n : ℕ} (xs : Fin n → Ref sig .tc) (f : ((k : Fin n) → (xs k).ty.Contents Val) → y.ty.Contents Val) (hxs hy)
    (h : ∀ k, (xs k).idx.val < y.idx.val) : At (nary (τ := τ) xs y f hxs hy) y.idx.val where
  writes := ⟨y, rfl, rfl⟩
  bufs := fun d hd => by
    have hd' : d ∈ insert (Proc.devRef (τ := τ) .tc y) (Finset.univ.image fun k => Proc.devRef (τ := τ) .tc (xs k)) := hd
    simp only [Finset.mem_insert, Finset.mem_image, Finset.mem_univ, true_and] at hd'
    rcases hd' with rfl | ⟨k, rfl⟩
    exacts [⟨y, rfl, le_rfl⟩, ⟨xs k, rfl, (h k).le⟩]
  sub := nary_bufs_sub ..
  fresh := rfl
  again := fun F d hd => by
    rw [nary_writes, Finset.mem_singleton] at hd; subst hd
    rw [nary_result, nary_result]
    congr 1; funext k
    exact nary_result_ne y xs f hxs hy F (fun e => by have := h k; rw [e] at this; omega)

/-! What the `k`-th operation of the line says of its result, once the line has settled. -/

variable {ops : List (HloOp τ sig Val)} {W : Valuation τ sig Val} (h : Settled ops W) (k : ℕ)
include h

theorem Settled.nullary {v : y.ty.Contents Val} {hy} (hk : ops[k]? = some (StableHlo.nullary y v hy)) :
    W (Proc.devRef .tc y) = v := by
  rw [← h _ (List.mem_of_getElem? hk), nullary_result]

theorem Settled.unary {f : x.ty.Contents Val → y.ty.Contents Val} {hx hy} (hk : ops[k]? = some (StableHlo.unary x y f hx hy)) :
    W (Proc.devRef .tc y) = f (W (Proc.devRef .tc x)) := by
  rw [← h _ (List.mem_of_getElem? hk), unary_result]

theorem Settled.reshape {he hn hx hy} (hk : ops[k]? = some (StableHlo.reshape x y he hn hx hy)) :
    W (Proc.devRef .tc y) = fun i => he ▸ shapeCast y.ty.shape (W (Proc.devRef .tc x)) hn i := by
  rw [← h _ (List.mem_of_getElem? hk) (Proc.devRef .tc y), reshape_result]

theorem Settled.binary {f : a.ty.Contents Val → b.ty.Contents Val → y.ty.Contents Val} {ha hb hy}
    (hk : ops[k]? = some (StableHlo.binary a b y f ha hb hy)) :
    W (Proc.devRef .tc y) = f (W (Proc.devRef .tc a)) (W (Proc.devRef .tc b)) := by
  rw [← h _ (List.mem_of_getElem? hk) (Proc.devRef .tc y), binary_result]

theorem Settled.ternary {f : c.ty.Contents Val → a.ty.Contents Val → b.ty.Contents Val → y.ty.Contents Val} {hc ha hb hy}
    (hk : ops[k]? = some (StableHlo.ternary c a b y f hc ha hb hy)) :
    W (Proc.devRef .tc y) = f (W (Proc.devRef .tc c)) (W (Proc.devRef .tc a)) (W (Proc.devRef .tc b)) := by
  rw [← h _ (List.mem_of_getElem? hk) (Proc.devRef .tc y), ternary_result]

theorem Settled.quaternary
    {f : a.ty.Contents Val → b.ty.Contents Val → c.ty.Contents Val → e.ty.Contents Val → y.ty.Contents Val} {ha hb hc he hy}
    (hk : ops[k]? = some (StableHlo.quaternary a b c e y f ha hb hc he hy)) :
    W (Proc.devRef .tc y) =
      f (W (Proc.devRef .tc a)) (W (Proc.devRef .tc b)) (W (Proc.devRef .tc c)) (W (Proc.devRef .tc e)) := by
  rw [← h _ (List.mem_of_getElem? hk) (Proc.devRef .tc y), quaternary_result]

theorem Settled.nary {n : ℕ} {xs : Fin n → Ref sig .tc} {f : ((k : Fin n) → (xs k).ty.Contents Val) → y.ty.Contents Val} {hxs hy}
    (hk : ops[k]? = some (StableHlo.nary xs y f hxs hy)) :
    W (Proc.devRef .tc y) = f (fun k => W (Proc.devRef .tc (xs k))) := by
  rw [← h _ (List.mem_of_getElem? hk) (Proc.devRef .tc y), nary_result]

end Builders

end Cert.Settled

end
-- ==== Proof.Reference.lean ====
/- The reference program as four lines of host operations, its run, and its frame. -/
module

public import proofs.«01_k».proof.Proof.Gen.ReferenceIdeal
public import Idealize.ShloMosaic.Lib.Pipeline.Frame
public import proofs.«01_k».proof.Proof.Settled

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo Cert.Settled

variable {F : FTy → Type} [FloatOps F]

abbrev line0_0 : List (HloOp τ sig (Elt F)) :=
  [ nullary main_cst (constant S_ .f32 0x00000000#32),
    binary main_arg0 main_cst main_v0 ((fun x v => Host.reduceAdd x v reducesTo_S32x577x384_S32x577_d2 h_S_) : (⟨S32x577x384, .f32⟩ : BufTy).Contents (Elt F) → (⟨S_, .f32⟩ : BufTy).Contents (Elt F) → (⟨S32x577, .f32⟩ : BufTy).Contents (Elt F)),
    unary main_v0 main_v1 (broadcastInDim S32x577x1 ![0, 1] bcast_S32x577_S32x577x1_0_1 : (⟨S32x577, .f32⟩ : BufTy).Contents (Elt F) → (⟨S32x577x1, .f32⟩ : BufTy).Contents (Elt F)),
    nullary main_cst_0 (constant S_ .f32 0x43C00000#32),
    unary main_cst_0 main_v2 (broadcastInDim S32x577x1 ![] bcast_S_S32x577x1 : (⟨S_, .f32⟩ : BufTy).Contents (Elt F) → (⟨S32x577x1, .f32⟩ : BufTy).Contents (Elt F)),
    binary main_v1 main_v2 main_v3 (Host.divf : (⟨S32x577x1, .f32⟩ : BufTy).Contents (Elt F) → (⟨S32x577x1, .f32⟩ : BufTy).Contents (Elt F) → (⟨S32x577x1, .f32⟩ : BufTy).Contents (Elt F)),
    nullary main_c (constantI S_ 32 0#32),
    TRef.nullary (TRef.of (T := ⟨S_, .f32⟩) main_call0_cst) (constant S_ .f32 0x00000000#32),
    TRef.binary (TRef.of (T := ⟨S32x577x384, .f32⟩) main_arg0) (TRef.of (T := ⟨S_, .f32⟩) main_call0_cst) (TRef.of (T := ⟨S32x577, .f32⟩) main_call0_v0) (fun x v => Host.reduceAdd x v reducesTo_S32x577x384_S32x577_d2 h_S_),
    TRef.unary (TRef.of (T := ⟨S32x577, .f32⟩) main_call0_v0) (TRef.of (T := ⟨S32x577x1, .f32⟩) main_call0_v1) (broadcastInDim S32x577x1 ![0, 1] bcast_S32x577_S32x577x1_0_1),
    TRef.nullary (TRef.of (T := ⟨S_, .f32⟩) main_call0_cst_0) (constant S_ .f32 0x43C00000#32),
    TRef.unary (TRef.of (T := ⟨S_, .f32⟩) main_call0_cst_0) (TRef.of (T := ⟨S32x577x1, .f32⟩) main_call0_v2) (broadcastInDim S32x577x1 ![] bcast_S_S32x577x1),
    TRef.binary (TRef.of (T := ⟨S32x577x1, .f32⟩) main_call0_v1) (TRef.of (T := ⟨S32x577x1, .f32⟩) main_call0_v2) (TRef.of (T := ⟨S32x577x1, .f32⟩) main_call0_v3) Host.divf,
    TRef.unary (TRef.of (T := ⟨S32x577x1, .f32⟩) main_call0_v3) (TRef.of (T := ⟨S32x577x384, .f32⟩) main_call0_v4) (broadcastInDim S32x577x384 ![0, 1, 2] bcast_S32x577x1_S32x577x384_0_1_2),
    TRef.binary (TRef.of (T := ⟨S32x577x384, .f32⟩) main_arg0) (TRef.of (T := ⟨S32x577x384, .f32⟩) main_call0_v4) (TRef.of (T := ⟨S32x577x384, .f32⟩) main_call0_v5) subf,
    TRef.binary (TRef.of (T := ⟨S32x577x384, .f32⟩) main_call0_v5) (TRef.of (T := ⟨S32x577x384, .f32⟩) main_call0_v5) (TRef.of (T := ⟨S32x577x384, .f32⟩) main_call0_v6) mulf,
    TRef.unary (TRef.of (T := ⟨S_, .i32⟩) main_c) (TRef.of (T := ⟨S_, .f32⟩) main_call0_v7) (sitofp .f32),
    TRef.nullary (TRef.of (T := ⟨S_, .f32⟩) main_call0_cst_1) (constant S_ .f32 0x43C00000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S32x577x384, .f32⟩) main_call0_v6) (TRef.of (T := ⟨S_, .f32⟩) main_call0_cst_2) (TRef.of (T := ⟨S32x577, .f32⟩) main_call0_v9) (fun x v => Host.reduceAdd x v reducesTo_S32x577x384_S32x577_d2 h_S_),
    TRef.unary (TRef.of (T := ⟨S32x577, .f32⟩) main_call0_v9) (TRef.of (T := ⟨S32x577x1, .f32⟩) main_call0_v10) (broadcastInDim S32x577x1 ![0, 1] bcast_S32x577_S32x577x1_0_1),
    TRef.unary (TRef.of (T := ⟨S_, .f32⟩) main_call0_v8) (TRef.of (T := ⟨S32x577x1, .f32⟩) main_call0_v11) (broadcastInDim S32x577x1 ![] bcast_S_S32x577x1),
    TRef.binary (TRef.of (T := ⟨S32x577x1, .f32⟩) main_call0_v10) (TRef.of (T := ⟨S32x577x1, .f32⟩) main_call0_v11) (TRef.of (T := ⟨S32x577x1, .f32⟩) main_call0_v12) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v13) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S32x577x1, .f32⟩) main_call0_call0_v1) (broadcastInDim S32x577x1 ![] bcast_S_S32x577x1),
    TRef.ternary (TRef.of (T := ⟨S_, .i1⟩) main_call0_v13) (TRef.of (T := ⟨S32x577x1, .f32⟩) main_call0_v12) (TRef.of (T := ⟨S32x577x1, .f32⟩) main_call0_call0_v1) (TRef.of (T := ⟨S32x577x1, .f32⟩) main_v4) (fun p a b => select (broadcastInDim S32x577x1 ![] bcast_S_S32x577x1 p) a b) ]

abbrev line0_1 : List (HloOp τ sig (Elt F)) :=
  [ unary main_v3 main_v5 (broadcastInDim S32x577x384 ![0, 1, 2] bcast_S32x577x1_S32x577x384_0_1_2 : (⟨S32x577x1, .f32⟩ : BufTy).Contents (Elt F) → (⟨S32x577x384, .f32⟩ : BufTy).Contents (Elt F)),
    binary main_arg0 main_v5 main_v6 (subf : (⟨S32x577x384, .f32⟩ : BufTy).Contents (Elt F) → (⟨S32x577x384, .f32⟩ : BufTy).Contents (Elt F) → (⟨S32x577x384, .f32⟩ : BufTy).Contents (Elt F)),
    nullary main_cst_1 (constant S_ .f32 0x358637BD#32),
    unary main_cst_1 main_v7 (broadcastInDim S32x577x1 ![] bcast_S_S32x577x1 : (⟨S_, .f32⟩ : BufTy).Contents (Elt F) → (⟨S32x577x1, .f32⟩ : BufTy).Contents (Elt F)),
    binary main_v4 main_v7 main_v8 (addf : (⟨S32x577x1, .f32⟩ : BufTy).Contents (Elt F) → (⟨S32x577x1, .f32⟩ : BufTy).Contents (Elt F) → (⟨S32x577x1, .f32⟩ : BufTy).Contents (Elt F)),
    unary main_v8 main_v9 (Host.sqrt : (⟨S32x577x1, .f32⟩ : BufTy).Contents (Elt F) → (⟨S32x577x1, .f32⟩ : BufTy).Contents (Elt F)),
    unary main_v9 main_v10 (broadcastInDim S32x577x384 ![0, 1, 2] bcast_S32x577x1_S32x577x384_0_1_2 : (⟨S32x577x1, .f32⟩ : BufTy).Contents (Elt F) → (⟨S32x577x384, .f32⟩ : BufTy).Contents (Elt F)),
    binary main_v6 main_v10 main_v11 (Host.divf : (⟨S32x577x384, .f32⟩ : BufTy).Contents (Elt F) → (⟨S32x577x384, .f32⟩ : BufTy).Contents (Elt F) → (⟨S32x577x384, .f32⟩ : BufTy).Contents (Elt F)),
    unary main_arg1 main_v12 (broadcastInDim S1x1x384 ![2] bcast_S384_S1x1x384_2 : (⟨S384, .f32⟩ : BufTy).Contents (Elt F) → (⟨S1x1x384, .f32⟩ : BufTy).Contents (Elt F)),
    unary main_v12 main_v13 (broadcastInDim S32x577x384 ![0, 1, 2] bcast_S1x1x384_S32x577x384_0_1_2 : (⟨S1x1x384, .f32⟩ : BufTy).Contents (Elt F) → (⟨S32x577x384, .f32⟩ : BufTy).Contents (Elt F)),
    binary main_v11 main_v13 main_v14 (mulf : (⟨S32x577x384, .f32⟩ : BufTy).Contents (Elt F) → (⟨S32x577x384, .f32⟩ : BufTy).Contents (Elt F) → (⟨S32x577x384, .f32⟩ : BufTy).Contents (Elt F)),
    unary main_arg2 main_v15 (broadcastInDim S1x1x384 ![2] bcast_S384_S1x1x384_2 : (⟨S384, .f32⟩ : BufTy).Contents (Elt F) → (⟨S1x1x384, .f32⟩ : BufTy).Contents (Elt F)),
    unary main_v15 main_v16 (broadcastInDim S32x577x384 ![0, 1, 2] bcast_S1x1x384_S32x577x384_0_1_2 : (⟨S1x1x384, .f32⟩ : BufTy).Contents (Elt F) → (⟨S32x577x384, .f32⟩ : BufTy).Contents (Elt F)),
    binary main_v14 main_v16 main_v17 (addf : (⟨S32x577x384, .f32⟩ : BufTy).Contents (Elt F) → (⟨S32x577x384, .f32⟩ : BufTy).Contents (Elt F) → (⟨S32x577x384, .f32⟩ : BufTy).Contents (Elt F)),
    binary main_v17 main_arg3 main_v18 ((fun l r => Host.dotGeneral dot_S32x577x384_S384x1152_S32x577x1152_2_0_01_1_n_n none l r) : (⟨S32x577x384, .f32⟩ : BufTy).Contents (Elt F) → (⟨S384x1152, .f32⟩ : BufTy).Contents (Elt F) → (⟨S32x577x1152, .f32⟩ : BufTy).Contents (Elt F)),
    unary main_arg4 main_v19 (broadcastInDim S1x1x1152 ![2] bcast_S1152_S1x1x1152_2 : (⟨S1152, .f32⟩ : BufTy).Contents (Elt F) → (⟨S1x1x1152, .f32⟩ : BufTy).Contents (Elt F)),
    unary main_v19 main_v20 (broadcastInDim S32x577x1152 ![0, 1, 2] bcast_S1x1x1152_S32x577x1152_0_1_2 : (⟨S1x1x1152, .f32⟩ : BufTy).Contents (Elt F) → (⟨S32x577x1152, .f32⟩ : BufTy).Contents (Elt F)),
    binary main_v18 main_v20 main_v21 (addf : (⟨S32x577x1152, .f32⟩ : BufTy).Contents (Elt F) → (⟨S32x577x1152, .f32⟩ : BufTy).Contents (Elt F) → (⟨S32x577x1152, .f32⟩ : BufTy).Contents (Elt F)),
    reshape main_v21 main_v22 (rfl : (.f32 : EltTy) = .f32) shapeCasts_S32x577x1152_S32x577x3x6x64,
    unary main_v22 main_v23 ((extractStridedSlice S32x577x1x6x64 ![0, 0, 1, 0, 0] · slices_S32x577x3x6x64_S32x577x1x6x64_0_0_1_0_0) : (⟨S32x577x3x6x64, .f32⟩ : BufTy).Contents (Elt F) → (⟨S32x577x1x6x64, .f32⟩ : BufTy).Contents (Elt F)),
    reshape main_v23 main_v24 (rfl : (.f32 : EltTy) = .f32) shapeCasts_S32x577x1x6x64_S32x577x6x64,
    nullary main_cst_2 (constant S_ .f32 0x00000000#32),
    binary main_v24 main_cst_2 main_v25 ((fun x v => Host.reduceAdd x v reducesTo_S32x577x6x64_S32x577x64_d2 h_S_) : (⟨S32x577x6x64, .f32⟩ : BufTy).Contents (Elt F) → (⟨S_, .f32⟩ : BufTy).Contents (Elt F) → (⟨S32x577x64, .f32⟩ : BufTy).Contents (Elt F)),
    nullary main_cst_3 (constant S_ .f32 0x40C00000#32),
    unary main_cst_3 main_v26 (broadcastInDim S32x577x64 ![] bcast_S_S32x577x64 : (⟨S_, .f32⟩ : BufTy).Contents (Elt F) → (⟨S32x577x64, .f32⟩ : BufTy).Contents (Elt F)),
    binary main_v25 main_v26 main_v27 (Host.divf : (⟨S32x577x64, .f32⟩ : BufTy).Contents (Elt F) → (⟨S32x577x64, .f32⟩ : BufTy).Contents (Elt F) → (⟨S32x577x64, .f32⟩ : BufTy).Contents (Elt F)),
    unary main_arg0 main_v28 ((extractStridedSlice S32x1x384 ![0, 0, 0] · slices_S32x577x384_S32x1x384_0_0_0) : (⟨S32x577x384, .f32⟩ : BufTy).Contents (Elt F) → (⟨S32x1x384, .f32⟩ : BufTy).Contents (Elt F)),
    unary main_arg0 main_v29 ((extractStridedSlice S32x576x384 ![0, 1, 0] · slices_S32x577x384_S32x576x384_0_1_0) : (⟨S32x577x384, .f32⟩ : BufTy).Contents (Elt F) → (⟨S32x576x384, .f32⟩ : BufTy).Contents (Elt F)),
    unary main_v27 main_v30 ((extractStridedSlice S32x576x64 ![0, 1, 0] · slices_S32x577x64_S32x576x64_0_1_0) : (⟨S32x577x64, .f32⟩ : BufTy).Contents (Elt F) → (⟨S32x576x64, .f32⟩ : BufTy).Contents (Elt F)),
    TRef.binary (TRef.of (T := ⟨S32x576x64, .f32⟩) main_v30) (TRef.of (T := ⟨S32x576x64, .f32⟩) main_v30) (TRef.of (T := ⟨S32x576x64, .f32⟩) main_call1_v0) mulf ]

abbrev line0_2 : List (HloOp τ sig (Elt F)) :=
  [ TRef.nullary (TRef.of (T := ⟨S_, .f32⟩) main_call1_cst) (constant S_ .f32 0x00000000#32),
    TRef.binary (TRef.of (T := ⟨S32x576x64, .f32⟩) main_call1_v0) (TRef.of (T := ⟨S_, .f32⟩) main_call1_cst) (TRef.of (T := ⟨S32x576, .f32⟩) main_call1_v1) (fun x v => Host.reduceAdd x v reducesTo_S32x576x64_S32x576_d2 h_S_),
    TRef.unary (TRef.of (T := ⟨S32x576, .f32⟩) main_call1_v1) (TRef.of (T := ⟨S32x576x1, .f32⟩) main_call1_v2) (broadcastInDim S32x576x1 ![0, 1] bcast_S32x576_S32x576x1_0_1),
    TRef.unary (TRef.of (T := ⟨S32x576x1, .f32⟩) main_call1_v2) (TRef.of (T := ⟨S32x576x1, .f32⟩) main_v31) Host.sqrt,
    nullary main_cst_4 (constant S_ .f32 0x2B8CBCCC#32),
    unary main_cst_4 main_v32 (broadcastInDim S32x576x1 ![] bcast_S_S32x576x1 : (⟨S_, .f32⟩ : BufTy).Contents (Elt F) → (⟨S32x576x1, .f32⟩ : BufTy).Contents (Elt F)),
    binary main_v31 main_v32 main_v33 (maximumf : (⟨S32x576x1, .f32⟩ : BufTy).Contents (Elt F) → (⟨S32x576x1, .f32⟩ : BufTy).Contents (Elt F) → (⟨S32x576x1, .f32⟩ : BufTy).Contents (Elt F)),
    unary main_v33 main_v34 (broadcastInDim S32x576x64 ![0, 1, 2] bcast_S32x576x1_S32x576x64_0_1_2 : (⟨S32x576x1, .f32⟩ : BufTy).Contents (Elt F) → (⟨S32x576x64, .f32⟩ : BufTy).Contents (Elt F)),
    binary main_v30 main_v34 main_v35 (Host.divf : (⟨S32x576x64, .f32⟩ : BufTy).Contents (Elt F) → (⟨S32x576x64, .f32⟩ : BufTy).Contents (Elt F) → (⟨S32x576x64, .f32⟩ : BufTy).Contents (Elt F)),
    unary main_v35 main_v36 ((Host.slice S32x288x64 ![0, 0, 0] ![1, 2, 1] · slicesBy_S32x576x64_S32x288x64_0s1_0s2_0s1) : (⟨S32x576x64, .f32⟩ : BufTy).Contents (Elt F) → (⟨S32x288x64, .f32⟩ : BufTy).Contents (Elt F)),
    unary main_v35 main_v37 ((Host.slice S32x288x64 ![0, 1, 0] ![1, 2, 1] · slicesBy_S32x576x64_S32x288x64_0s1_1s2_0s1) : (⟨S32x576x64, .f32⟩ : BufTy).Contents (Elt F) → (⟨S32x288x64, .f32⟩ : BufTy).Contents (Elt F)),
    binary main_v37 main_v36 main_v38 ((fun l r => Host.dotGeneral dot_S32x288x64_S32x288x64_S32x288x288_2_2_1_1_0_0 none l r) : (⟨S32x288x64, .f32⟩ : BufTy).Contents (Elt F) → (⟨S32x288x64, .f32⟩ : BufTy).Contents (Elt F) → (⟨S32x288x288, .f32⟩ : BufTy).Contents (Elt F)),
    nullary main_cst_5 (constant S_ .f32 0xFF800000#32),
    binary main_v38 main_cst_5 main_v39 ((fun x v => Host.reduce FloatOps.maximumf x v reducesTo_S32x288x288_S32x288_d2 h_S_) : (⟨S32x288x288, .f32⟩ : BufTy).Contents (Elt F) → (⟨S_, .f32⟩ : BufTy).Contents (Elt F) → (⟨S32x288, .f32⟩ : BufTy).Contents (Elt F)),
    TRef.nullary (TRef.of (T := ⟨S32x288x288, .i32⟩) main_call2_v0) (iotaInDim S32x288x288 32 2),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S32x288x288, .f32⟩) main_v38) (TRef.of (T := ⟨S32x288x288, .i32⟩) main_call2_v0) (TRef.of (T := ⟨S_, .f32⟩) main_call2_cst) (TRef.of (T := ⟨S_, .i32⟩) main_call2_c) (TRef.of (T := ⟨S32x288, .f32⟩) main_call2_v1_0) (fun x y u v j => (Host.argReduce reducer_argmax_f32_i32 x y u v reducesTo_S32x288x288_S32x288_d2 h_S_ j).1),
    TRef.quaternary (TRef.of (T := ⟨S32x288x288, .f32⟩) main_v38) (TRef.of (T := ⟨S32x288x288, .i32⟩) main_call2_v0) (TRef.of (T := ⟨S_, .f32⟩) main_call2_cst) (TRef.of (T := ⟨S_, .i32⟩) main_call2_c) (TRef.of (T := ⟨S32x288, .i32⟩) main_v40) (fun x y u v j => (Host.argReduce reducer_argmax_f32_i32 x y u v reducesTo_S32x288x288_S32x288_d2 h_S_ j).2),
    unary main_v39 main_values ((fun x => (Host.topK S32x16 1 (FloatOps.cmpfTotal .gt) x sliceFits_S32x288_S32x16).1) : (⟨S32x288, .f32⟩ : BufTy).Contents (Elt F) → (⟨S32x16, .f32⟩ : BufTy).Contents (Elt F)),
    unary main_v39 main_indices ((fun x => (Host.topK S32x16 1 (FloatOps.cmpfTotal .gt) x sliceFits_S32x288_S32x16).2) : (⟨S32x288, .f32⟩ : BufTy).Contents (Elt F) → (⟨S32x16, .i32⟩ : BufTy).Contents (Elt F)),
    unary main_v29 main_v41 ((Host.slice S32x288x384 ![0, 0, 0] ![1, 2, 1] · slicesBy_S32x576x384_S32x288x384_0s1_0s2_0s1) : (⟨S32x576x384, .f32⟩ : BufTy).Contents (Elt F) → (⟨S32x288x384, .f32⟩ : BufTy).Contents (Elt F)),
    unary main_v29 main_v42 ((Host.slice S32x288x384 ![0, 1, 0] ![1, 2, 1] · slicesBy_S32x576x384_S32x288x384_0s1_1s2_0s1) : (⟨S32x576x384, .f32⟩ : BufTy).Contents (Elt F) → (⟨S32x288x384, .f32⟩ : BufTy).Contents (Elt F)),
    nullary main_v43 (iotaInDim S32 32 0),
    unary main_v43 main_v44 (broadcastInDim S32x1 ![0] bcast_S32_S32x1_0 : (⟨S32, .i32⟩ : BufTy).Contents (Elt F) → (⟨S32x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S32x16, .i32⟩) main_call3_v0) (broadcastInDim S32x16 ![] bcast_S_S32x16),
    TRef.binary (TRef.of (T := ⟨S32x16, .i32⟩) main_indices) (TRef.of (T := ⟨S32x16, .i32⟩) main_call3_v0) (TRef.of (T := ⟨S32x16, .i1⟩) main_call3_v1) (cmpi .slt),
    TRef.nullary (TRef.of (T := ⟨S_, .i32⟩) main_call3_c_0) (constantI S_ 32 288#32),
    TRef.unary (TRef.of (T := ⟨S_, .i32⟩) main_call3_c_0) (TRef.of (T := ⟨S32x16, .i32⟩) main_call3_v2) (broadcastInDim S32x16 ![] bcast_S_S32x16) ]

abbrev line0_3 : List (HloOp τ sig (Elt F)) :=
  [ TRef.binary (TRef.of (T := ⟨S32x16, .i32⟩) main_indices) (TRef.of (T := ⟨S32x16, .i32⟩) main_call3_v2) (TRef.of (T := ⟨S32x16, .i32⟩) main_call3_v3) addi,
    TRef.ternary (TRef.of (T := ⟨S32x16, .i1⟩) main_call3_v1) (TRef.of (T := ⟨S32x16, .i32⟩) main_call3_v3) (TRef.of (T := ⟨S32x16, .i32⟩) main_indices) (TRef.of (T := ⟨S32x16, .i32⟩) main_call3_v4) select,
    TRef.reshape (TRef.of (T := ⟨S32x16, .i32⟩) main_call3_v4) (TRef.of (T := ⟨S32x16x1, .i32⟩) main_call3_v5) (rfl : (.i32 : EltTy) = .i32) shapeCasts_S32x16_S32x16x1,
    TRef.nullary (TRef.of (T := ⟨S1, .i32⟩) main_call3_c_1) (constantI S1 32 287#32),
    TRef.nullary (TRef.of (T := ⟨S_, .i32⟩) main_call3_c_2) (constantI S_ 32 0#32),
    TRef.unary (TRef.of (T := ⟨S_, .i32⟩) main_call3_c_2) (TRef.of (T := ⟨S32x16x1, .i32⟩) main_call3_v6) (broadcastInDim S32x16x1 ![] bcast_S_S32x16x1),
    TRef.binary (TRef.of (T := ⟨S32x16x1, .i32⟩) main_call3_v5) (TRef.of (T := ⟨S32x16x1, .i32⟩) main_call3_v6) (TRef.of (T := ⟨S32x16x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S32x16x1, .i32⟩) main_call3_v9) (broadcastInDim S32x16x1 ![0, 1, 2] bcast_S1x1x1_S32x16x1_0_1_2),
    TRef.binary (TRef.of (T := ⟨S32x16x1, .i32⟩) main_call3_v5) (TRef.of (T := ⟨S32x16x1, .i32⟩) main_call3_v9) (TRef.of (T := ⟨S32x16x1, .i1⟩) main_call3_v10) (cmpi .sle),
    TRef.binary (TRef.of (T := ⟨S32x16x1, .i1⟩) main_call3_v7) (TRef.of (T := ⟨S32x16x1, .i1⟩) main_call3_v10) (TRef.of (T := ⟨S32x16x1, .i1⟩) main_call3_v11) andi,
    TRef.nullary (TRef.of (T := ⟨S_, .i1⟩) main_call3_c_3) (constantI S_ 1 1#1),
    TRef.binary (TRef.of (T := ⟨S32x16x1, .i1⟩) main_call3_v11) (TRef.of (T := ⟨S_, .i1⟩) main_call3_c_3) (TRef.of (T := ⟨S32x16, .i1⟩) main_call3_v12) (fun x v => Host.reduce IntOp.andi x v reducesTo_S32x16x1_S32x16_d2 h_S_),
    TRef.binary (TRef.of (T := ⟨S32x288, .i32⟩) main_v40) (TRef.of (T := ⟨S32x16x1, .i32⟩) main_call3_v5) (TRef.of (T := ⟨S32x16, .i32⟩) main_call3_v13) (fun x i => Host.gather gather_S32x288_S32x16x1_S32x16_n_1_0_0_1_2_11 x i),
    TRef.nullary (TRef.of (T := ⟨S_, .i32⟩) main_call3_c_4) (constantI S_ 32 2147483648#32),
    TRef.unary (TRef.of (T := ⟨S_, .i32⟩) main_call3_c_4) (TRef.of (T := ⟨S32x16, .i32⟩) main_call3_v14) (broadcastInDim S32x16 ![] bcast_S_S32x16),
    TRef.ternary (TRef.of (T := ⟨S32x16, .i1⟩) main_call3_v12) (TRef.of (T := ⟨S32x16, .i32⟩) main_call3_v13) (TRef.of (T := ⟨S32x16, .i32⟩) main_call3_v14) (TRef.of (T := ⟨S32x16, .i32⟩) main_v45) select,
    unary main_indices main_v46 (broadcastInDim S32x16x1 ![0, 1] bcast_S32x16_S32x16x1_0_1 : (⟨S32x16, .i32⟩ : BufTy).Contents (Elt F) → (⟨S32x16x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S32x16x1, .i32⟩) main_call4_v0) (broadcastInDim S32x16x1 ![] bcast_S_S32x16x1),
    TRef.binary (TRef.of (T := ⟨S32x16x1, .i32⟩) main_v46) (TRef.of (T := ⟨S32x16x1, .i32⟩) main_call4_v0) (TRef.of (T := ⟨S32x16x1, .i1⟩) main_call4_v1) (cmpi .slt),
    TRef.nullary (TRef.of (T := ⟨S_, .i32⟩) main_call4_c_0) (constantI S_ 32 288#32),
    TRef.unary (TRef.of (T := ⟨S_, .i32⟩) main_call4_c_0) (TRef.of (T := ⟨S32x16x1, .i32⟩) main_call4_v2) (broadcastInDim S32x16x1 ![] bcast_S_S32x16x1),
    TRef.binary (TRef.of (T := ⟨S32x16x1, .i32⟩) main_v46) (TRef.of (T := ⟨S32x16x1, .i32⟩) main_call4_v2) (TRef.of (T := ⟨S32x16x1, .i32⟩) main_call4_v3) addi,
    TRef.ternary (TRef.of (T := ⟨S32x16x1, .i1⟩) main_call4_v1) (TRef.of (T := ⟨S32x16x1, .i32⟩) main_call4_v3) (TRef.of (T := ⟨S32x16x1, .i32⟩) main_v46) (TRef.of (T := ⟨S32x16x1, .i32⟩) main_call4_v4) select,
    TRef.nullary (TRef.of (T := ⟨S1, .i32⟩) main_call4_c_1) (constantI S1 32 287#32),
    TRef.nullary (TRef.of (T := ⟨S_, .i32⟩) main_call4_c_2) (constantI S_ 32 0#32),
    TRef.unary (TRef.of (T := ⟨S_, .i32⟩) main_call4_c_2) (TRef.of (T := ⟨S32x16x1, .i32⟩) main_call4_v5) (broadcastInDim S32x16x1 ![] bcast_S_S32x16x1),
    TRef.binary (TRef.of (T := ⟨S32x16x1, .i32⟩) main_call4_v4) (TRef.of (T := ⟨S32x16x1, .i32⟩) main_call4_v5) (TRef.of (T := ⟨S32x16x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2) ]

abbrev line0_4 : List (HloOp τ sig (Elt F)) :=
  [ TRef.unary (TRef.of (T := ⟨S1x1x1, .i32⟩) main_call4_v7) (TRef.of (T := ⟨S32x16x1, .i32⟩) main_call4_v8) (broadcastInDim S32x16x1 ![0, 1, 2] bcast_S1x1x1_S32x16x1_0_1_2),
    TRef.binary (TRef.of (T := ⟨S32x16x1, .i32⟩) main_call4_v4) (TRef.of (T := ⟨S32x16x1, .i32⟩) main_call4_v8) (TRef.of (T := ⟨S32x16x1, .i1⟩) main_call4_v9) (cmpi .sle),
    TRef.binary (TRef.of (T := ⟨S32x16x1, .i1⟩) main_call4_v6) (TRef.of (T := ⟨S32x16x1, .i1⟩) main_call4_v9) (TRef.of (T := ⟨S32x16x1, .i1⟩) main_call4_v10) andi,
    TRef.nullary (TRef.of (T := ⟨S_, .i1⟩) main_call4_c_3) (constantI S_ 1 1#1),
    TRef.binary (TRef.of (T := ⟨S32x16x1, .i1⟩) main_call4_v10) (TRef.of (T := ⟨S_, .i1⟩) main_call4_c_3) (TRef.of (T := ⟨S32x16, .i1⟩) main_call4_v11) (fun x v => Host.reduce IntOp.andi x v reducesTo_S32x16x1_S32x16_d2 h_S_),
    TRef.binary (TRef.of (T := ⟨S32x288x384, .f32⟩) main_v42) (TRef.of (T := ⟨S32x16x1, .i32⟩) main_call4_v4) (TRef.of (T := ⟨S32x16x384, .f32⟩) main_call4_v12) (fun x i => Host.gather gather_S32x288x384_S32x16x1_S32x16x384_2_1_0_0_1_2_11384 x i),
    TRef.unary (TRef.of (T := ⟨S32x16, .i1⟩) main_call4_v11) (TRef.of (T := ⟨S32x16x384, .i1⟩) main_call4_v13) (broadcastInDim S32x16x384 ![0, 1] bcast_S32x16_S32x16x384_0_1),
    TRef.nullary (TRef.of (T := ⟨S_, .f32⟩) main_call4_cst) (constant S_ .f32 0x7FC00000#32),
    TRef.unary (TRef.of (T := ⟨S_, .f32⟩) main_call4_cst) (TRef.of (T := ⟨S32x16x384, .f32⟩) main_call4_v14) (broadcastInDim S32x16x384 ![] bcast_S_S32x16x384),
    TRef.ternary (TRef.of (T := ⟨S32x16x384, .i1⟩) main_call4_v13) (TRef.of (T := ⟨S32x16x384, .f32⟩) main_call4_v12) (TRef.of (T := ⟨S32x16x384, .f32⟩) main_call4_v14) (TRef.of (T := ⟨S32x16x384, .f32⟩) main_v47) select,
    nullary main_c_6 (constantI S_ 32 0#32),
    unary main_c_6 main_v48 (broadcastInDim S32x1 ![] bcast_S_S32x1 : (⟨S_, .i32⟩ : BufTy).Contents (Elt F) → (⟨S32x1, .i32⟩ : BufTy).Contents (Elt F)) ]

/-- The operations of the reference's `main_part0`. -/
abbrev line0 : List (HloOp τ sig (Elt F)) := line0_0 ++ (line0_1 ++ (line0_2 ++ (line0_3 ++ (line0_4))))

abbrev line1_0 : List (HloOp τ sig (Elt F)) :=
  [ binary main_v44 main_v48 main_v49 (cmpi .slt : (⟨S32x1, .i32⟩ : BufTy).Contents (Elt F) → (⟨S32x1, .i32⟩ : BufTy).Contents (Elt F) → (⟨S32x1, .i1⟩ : BufTy).Contents (Elt F)),
    nullary main_c_7 (constantI S_ 32 32#32),
    unary main_c_7 main_v50 (broadcastInDim S32x1 ![] bcast_S_S32x1 : (⟨S_, .i32⟩ : BufTy).Contents (Elt F) → (⟨S32x1, .i32⟩ : BufTy).Contents (Elt F)),
    binary main_v44 main_v50 main_v51 (addi : (⟨S32x1, .i32⟩ : BufTy).Contents (Elt F) → (⟨S32x1, .i32⟩ : BufTy).Contents (Elt F) → (⟨S32x1, .i32⟩ : BufTy).Contents (Elt F)),
    ternary main_v49 main_v51 main_v44 main_v52 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_8 (constantI S_ 32 0#32),
    unary main_c_8 main_v53 (broadcastInDim S32x16 ![] bcast_S_S32x16 : (⟨S_, .i32⟩ : BufTy).Contents (Elt F) → (⟨S32x16, .i32⟩ : BufTy).Contents (Elt F)),
    binary main_v45 main_v53 main_v54 (cmpi .slt : (⟨S32x16, .i32⟩ : BufTy).Contents (Elt F) → (⟨S32x16, .i32⟩ : BufTy).Contents (Elt F) → (⟨S32x16, .i1⟩ : BufTy).Contents (Elt F)),
    nullary main_c_9 (constantI S_ 32 288#32),
    unary main_c_9 main_v55 (broadcastInDim S32x16 ![] bcast_S_S32x16 : (⟨S_, .i32⟩ : BufTy).Contents (Elt F) → (⟨S32x16, .i32⟩ : BufTy).Contents (Elt F)),
    binary main_v45 main_v55 main_v56 (addi : (⟨S32x16, .i32⟩ : BufTy).Contents (Elt F) → (⟨S32x16, .i32⟩ : BufTy).Contents (Elt F) → (⟨S32x16, .i32⟩ : BufTy).Contents (Elt F)),
    ternary main_v54 main_v56 main_v45 main_v57 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v52 main_v58 (broadcastInDim S32x16 ![0, 1] bcast_S32x1_S32x16_0_1 : (⟨S32x1, .i32⟩ : BufTy).Contents (Elt F) → (⟨S32x16, .i32⟩ : BufTy).Contents (Elt F)),
    unary main_v58 main_v59 (broadcastInDim S32x16x1 ![0, 1] bcast_S32x16_S32x16x1_0_1 : (⟨S32x16, .i32⟩ : BufTy).Contents (Elt F) → (⟨S32x16x1, .i32⟩ : BufTy).Contents (Elt F)),
    unary main_v57 main_v60 (broadcastInDim S32x16x1 ![0, 1] bcast_S32x16_S32x16x1_0_1 : (⟨S32x16, .i32⟩ : BufTy).Contents (Elt F) → (⟨S32x16x1, .i32⟩ : BufTy).Contents (Elt F)),
    binary main_v59 main_v60 main_v61 ((fun a b => concatenate S32x16x2 2 [⟨S32x16x1, a⟩, ⟨S32x16x1, b⟩] concatenates_S32x16x1_S32x16x1_S32x16x2_d2) : (⟨S32x16x1, .i32⟩ : BufTy).Contents (Elt F) → (⟨S32x16x1, .i32⟩ : BufTy).Contents (Elt F) → (⟨S32x16x2, .i32⟩ : BufTy).Contents (Elt F)),
    ternary main_v41 main_v61 main_v47 main_v62 ((fun x i u => Host.scatterAdd scatter_S32x288x384_S32x16x2_S32x16x384_2_01_01_2 x i u) : (⟨S32x288x384, .f32⟩ : BufTy).Contents (Elt F) → (⟨S32x16x2, .i32⟩ : BufTy).Contents (Elt F) → (⟨S32x16x384, .f32⟩ : BufTy).Contents (Elt F) → (⟨S32x288x384, .f32⟩ : BufTy).Contents (Elt F)),
    nullary main_cst_10 (constant S_ .f32 0x3F800000#32),
    unary main_cst_10 main_v63 (broadcastInDim S32x288x1 ![] bcast_S_S32x288x1 : (⟨S_, .f32⟩ : BufTy).Contents (Elt F) → (⟨S32x288x1, .f32⟩ : BufTy).Contents (Elt F)),
    nullary main_c_11 (constantI S_ 32 0#32),
    unary main_c_11 main_v64 (broadcastInDim S32x1 ![] bcast_S_S32x1 : (⟨S_, .i32⟩ : BufTy).Contents (Elt F) → (⟨S32x1, .i32⟩ : BufTy).Contents (Elt F)),
    binary main_v44 main_v64 main_v65 (cmpi .slt : (⟨S32x1, .i32⟩ : BufTy).Contents (Elt F) → (⟨S32x1, .i32⟩ : BufTy).Contents (Elt F) → (⟨S32x1, .i1⟩ : BufTy).Contents (Elt F)),
    nullary main_c_12 (constantI S_ 32 32#32),
    unary main_c_12 main_v66 (broadcastInDim S32x1 ![] bcast_S_S32x1 : (⟨S_, .i32⟩ : BufTy).Contents (Elt F) → (⟨S32x1, .i32⟩ : BufTy).Contents (Elt F)),
    binary main_v44 main_v66 main_v67 (addi : (⟨S32x1, .i32⟩ : BufTy).Contents (Elt F) → (⟨S32x1, .i32⟩ : BufTy).Contents (Elt F) → (⟨S32x1, .i32⟩ : BufTy).Contents (Elt F)),
    ternary main_v65 main_v67 main_v44 main_v68 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_13 (constantI S_ 32 0#32),
    unary main_c_13 main_v69 (broadcastInDim S32x16 ![] bcast_S_S32x16 : (⟨S_, .i32⟩ : BufTy).Contents (Elt F) → (⟨S32x16, .i32⟩ : BufTy).Contents (Elt F)),
    binary main_v45 main_v69 main_v70 (cmpi .slt : (⟨S32x16, .i32⟩ : BufTy).Contents (Elt F) → (⟨S32x16, .i32⟩ : BufTy).Contents (Elt F) → (⟨S32x16, .i1⟩ : BufTy).Contents (Elt F)),
    nullary main_c_14 (constantI S_ 32 288#32) ]

abbrev line1_1 : List (HloOp τ sig (Elt F)) :=
  [ unary main_c_14 main_v71 (broadcastInDim S32x16 ![] bcast_S_S32x16 : (⟨S_, .i32⟩ : BufTy).Contents (Elt F) → (⟨S32x16, .i32⟩ : BufTy).Contents (Elt F)),
    binary main_v45 main_v71 main_v72 (addi : (⟨S32x16, .i32⟩ : BufTy).Contents (Elt F) → (⟨S32x16, .i32⟩ : BufTy).Contents (Elt F) → (⟨S32x16, .i32⟩ : BufTy).Contents (Elt F)),
    ternary main_v70 main_v72 main_v45 main_v73 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v68 main_v74 (broadcastInDim S32x16 ![0, 1] bcast_S32x1_S32x16_0_1 : (⟨S32x1, .i32⟩ : BufTy).Contents (Elt F) → (⟨S32x16, .i32⟩ : BufTy).Contents (Elt F)),
    unary main_v74 main_v75 (broadcastInDim S32x16x1 ![0, 1] bcast_S32x16_S32x16x1_0_1 : (⟨S32x16, .i32⟩ : BufTy).Contents (Elt F) → (⟨S32x16x1, .i32⟩ : BufTy).Contents (Elt F)),
    unary main_v73 main_v76 (broadcastInDim S32x16x1 ![0, 1] bcast_S32x16_S32x16x1_0_1 : (⟨S32x16, .i32⟩ : BufTy).Contents (Elt F) → (⟨S32x16x1, .i32⟩ : BufTy).Contents (Elt F)),
    binary main_v75 main_v76 main_v77 ((fun a b => concatenate S32x16x2 2 [⟨S32x16x1, a⟩, ⟨S32x16x1, b⟩] concatenates_S32x16x1_S32x16x1_S32x16x2_d2) : (⟨S32x16x1, .i32⟩ : BufTy).Contents (Elt F) → (⟨S32x16x1, .i32⟩ : BufTy).Contents (Elt F) → (⟨S32x16x2, .i32⟩ : BufTy).Contents (Elt F)),
    nullary main_cst_15 (constant S_ .f32 0x3F800000#32),
    unary main_cst_15 main_v78 (broadcastInDim S32x16x1 ![] bcast_S_S32x16x1 : (⟨S_, .f32⟩ : BufTy).Contents (Elt F) → (⟨S32x16x1, .f32⟩ : BufTy).Contents (Elt F)),
    ternary main_v63 main_v77 main_v78 main_v79 ((fun x i u => Host.scatterAdd scatter_S32x288x1_S32x16x2_S32x16x1_2_01_01_2 x i u) : (⟨S32x288x1, .f32⟩ : BufTy).Contents (Elt F) → (⟨S32x16x2, .i32⟩ : BufTy).Contents (Elt F) → (⟨S32x16x1, .f32⟩ : BufTy).Contents (Elt F) → (⟨S32x288x1, .f32⟩ : BufTy).Contents (Elt F)),
    unary main_v79 main_v80 (broadcastInDim S32x288x384 ![0, 1, 2] bcast_S32x288x1_S32x288x384_0_1_2 : (⟨S32x288x1, .f32⟩ : BufTy).Contents (Elt F) → (⟨S32x288x384, .f32⟩ : BufTy).Contents (Elt F)),
    binary main_v62 main_v80 main_v81 (Host.divf : (⟨S32x288x384, .f32⟩ : BufTy).Contents (Elt F) → (⟨S32x288x384, .f32⟩ : BufTy).Contents (Elt F) → (⟨S32x288x384, .f32⟩ : BufTy).Contents (Elt F)),
    nullary main_c_16 (constantI S_ 32 0#32),
    unary main_c_16 main_v82 (broadcastInDim S32x288 ![] bcast_S_S32x288 : (⟨S_, .i32⟩ : BufTy).Contents (Elt F) → (⟨S32x288, .i32⟩ : BufTy).Contents (Elt F)),
    nullary main_c_17 (constantI S_ 32 0#32),
    unary main_c_17 main_v83 (broadcastInDim S32x1 ![] bcast_S_S32x1 : (⟨S_, .i32⟩ : BufTy).Contents (Elt F) → (⟨S32x1, .i32⟩ : BufTy).Contents (Elt F)),
    binary main_v44 main_v83 main_v84 (cmpi .slt : (⟨S32x1, .i32⟩ : BufTy).Contents (Elt F) → (⟨S32x1, .i32⟩ : BufTy).Contents (Elt F) → (⟨S32x1, .i1⟩ : BufTy).Contents (Elt F)),
    nullary main_c_18 (constantI S_ 32 32#32),
    unary main_c_18 main_v85 (broadcastInDim S32x1 ![] bcast_S_S32x1 : (⟨S_, .i32⟩ : BufTy).Contents (Elt F) → (⟨S32x1, .i32⟩ : BufTy).Contents (Elt F)),
    binary main_v44 main_v85 main_v86 (addi : (⟨S32x1, .i32⟩ : BufTy).Contents (Elt F) → (⟨S32x1, .i32⟩ : BufTy).Contents (Elt F) → (⟨S32x1, .i32⟩ : BufTy).Contents (Elt F)),
    ternary main_v84 main_v86 main_v44 main_v87 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_19 (constantI S_ 32 0#32),
    unary main_c_19 main_v88 (broadcastInDim S32x16 ![] bcast_S_S32x16 : (⟨S_, .i32⟩ : BufTy).Contents (Elt F) → (⟨S32x16, .i32⟩ : BufTy).Contents (Elt F)),
    binary main_indices main_v88 main_v89 (cmpi .slt : (⟨S32x16, .i32⟩ : BufTy).Contents (Elt F) → (⟨S32x16, .i32⟩ : BufTy).Contents (Elt F) → (⟨S32x16, .i1⟩ : BufTy).Contents (Elt F)),
    nullary main_c_20 (constantI S_ 32 288#32),
    unary main_c_20 main_v90 (broadcastInDim S32x16 ![] bcast_S_S32x16 : (⟨S_, .i32⟩ : BufTy).Contents (Elt F) → (⟨S32x16, .i32⟩ : BufTy).Contents (Elt F)),
    binary main_indices main_v90 main_v91 (addi : (⟨S32x16, .i32⟩ : BufTy).Contents (Elt F) → (⟨S32x16, .i32⟩ : BufTy).Contents (Elt F) → (⟨S32x16, .i32⟩ : BufTy).Contents (Elt F)),
    ternary main_v89 main_v91 main_indices main_v92 (select : (⟨S32x16, .i1⟩ : BufTy).Contents (Elt F) → (⟨S32x16, .i32⟩ : BufTy).Contents (Elt F) → (⟨S32x16, .i32⟩ : BufTy).Contents (Elt F) → (⟨S32x16, .i32⟩ : BufTy).Contents (Elt F)),
    unary main_v87 main_v93 (broadcastInDim S32x16 ![0, 1] bcast_S32x1_S32x16_0_1 : (⟨S32x1, .i32⟩ : BufTy).Contents (Elt F) → (⟨S32x16, .i32⟩ : BufTy).Contents (Elt F)),
    unary main_v93 main_v94 (broadcastInDim S32x16x1 ![0, 1] bcast_S32x16_S32x16x1_0_1 : (⟨S32x16, .i32⟩ : BufTy).Contents (Elt F) → (⟨S32x16x1, .i32⟩ : BufTy).Contents (Elt F)) ]

/-- The operations of the reference's `main_part1`. -/
abbrev line1 : List (HloOp τ sig (Elt F)) := line1_0 ++ (line1_1)

abbrev line2_0 : List (HloOp τ sig (Elt F)) :=
  [ unary main_v92 main_v95 (broadcastInDim S32x16x1 ![0, 1] bcast_S32x16_S32x16x1_0_1 : (⟨S32x16, .i32⟩ : BufTy).Contents (Elt F) → (⟨S32x16x1, .i32⟩ : BufTy).Contents (Elt F)),
    binary main_v94 main_v95 main_v96 ((fun a b => concatenate S32x16x2 2 [⟨S32x16x1, a⟩, ⟨S32x16x1, b⟩] concatenates_S32x16x1_S32x16x1_S32x16x2_d2) : (⟨S32x16x1, .i32⟩ : BufTy).Contents (Elt F) → (⟨S32x16x1, .i32⟩ : BufTy).Contents (Elt F) → (⟨S32x16x2, .i32⟩ : BufTy).Contents (Elt F)),
    nullary main_c_21 (constantI S_ 32 1#32),
    unary main_c_21 main_v97 (broadcastInDim S32x16 ![] bcast_S_S32x16 : (⟨S_, .i32⟩ : BufTy).Contents (Elt F) → (⟨S32x16, .i32⟩ : BufTy).Contents (Elt F)),
    ternary main_v82 main_v96 main_v97 main_v98 ((fun x i u => Host.scatter scatter_S32x288_S32x16x2_S32x16_n_01_01_2 (fun _ b => b) x i u) : (⟨S32x288, .i32⟩ : BufTy).Contents (Elt F) → (⟨S32x16x2, .i32⟩ : BufTy).Contents (Elt F) → (⟨S32x16, .i32⟩ : BufTy).Contents (Elt F) → (⟨S32x288, .i32⟩ : BufTy).Contents (Elt F)),
    TRef.nullary (TRef.of (T := ⟨S32x288, .i32⟩) main_call5_v0) (iotaInDim S32x288 32 1),
    TRef.binary (TRef.of (T := ⟨S32x288, .i32⟩) main_v98) (TRef.of (T := ⟨S32x288, .i32⟩) main_call5_v0) (TRef.of (T := ⟨S32x288, .i32⟩) main_call5_v1_0) (fun x y => (Host.sort2 S32x288 1 comparator_i32_i32_d1 x y).1),
    TRef.binary (TRef.of (T := ⟨S32x288, .i32⟩) main_v98) (TRef.of (T := ⟨S32x288, .i32⟩) main_call5_v0) (TRef.of (T := ⟨S32x288, .i32⟩) main_v99) (fun x y => (Host.sort2 S32x288 1 comparator_i32_i32_d1 x y).2),
    unary main_v99 main_v100 ((extractStridedSlice S32x272 ![0, 0] · slices_S32x288_S32x272_0_0) : (⟨S32x288, .i32⟩ : BufTy).Contents (Elt F) → (⟨S32x272, .i32⟩ : BufTy).Contents (Elt F)),
    unary main_v100 main_v101 (broadcastInDim S32x272x1 ![0, 1] bcast_S32x272_S32x272x1_0_1 : (⟨S32x272, .i32⟩ : BufTy).Contents (Elt F) → (⟨S32x272x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S32x272x1, .i32⟩) main_call6_v0) (broadcastInDim S32x272x1 ![] bcast_S_S32x272x1),
    TRef.binary (TRef.of (T := ⟨S32x272x1, .i32⟩) main_v101) (TRef.of (T := ⟨S32x272x1, .i32⟩) main_call6_v0) (TRef.of (T := ⟨S32x272x1, .i1⟩) main_call6_v1) (cmpi .slt),
    TRef.nullary (TRef.of (T := ⟨S_, .i32⟩) main_call6_c_0) (constantI S_ 32 288#32),
    TRef.unary (TRef.of (T := ⟨S_, .i32⟩) main_call6_c_0) (TRef.of (T := ⟨S32x272x1, .i32⟩) main_call6_v2) (broadcastInDim S32x272x1 ![] bcast_S_S32x272x1),
    TRef.binary (TRef.of (T := ⟨S32x272x1, .i32⟩) main_v101) (TRef.of (T := ⟨S32x272x1, .i32⟩) main_call6_v2) (TRef.of (T := ⟨S32x272x1, .i32⟩) main_call6_v3) addi,
    TRef.ternary (TRef.of (T := ⟨S32x272x1, .i1⟩) main_call6_v1) (TRef.of (T := ⟨S32x272x1, .i32⟩) main_call6_v3) (TRef.of (T := ⟨S32x272x1, .i32⟩) main_v101) (TRef.of (T := ⟨S32x272x1, .i32⟩) main_call6_v4) select,
    TRef.nullary (TRef.of (T := ⟨S1, .i32⟩) main_call6_c_1) (constantI S1 32 287#32),
    TRef.nullary (TRef.of (T := ⟨S_, .i32⟩) main_call6_c_2) (constantI S_ 32 0#32),
    TRef.unary (TRef.of (T := ⟨S_, .i32⟩) main_call6_c_2) (TRef.of (T := ⟨S32x272x1, .i32⟩) main_call6_v5) (broadcastInDim S32x272x1 ![] bcast_S_S32x272x1),
    TRef.binary (TRef.of (T := ⟨S32x272x1, .i32⟩) main_call6_v4) (TRef.of (T := ⟨S32x272x1, .i32⟩) main_call6_v5) (TRef.of (T := ⟨S32x272x1, .i1⟩) main_call6_v6) (cmpi .sge),
    TRef.unary (TRef.of (T := ⟨S1, .i32⟩) main_call6_c_1) (TRef.of (T := ⟨S1x1x1, .i32⟩) main_call6_v7) (broadcastInDim S1x1x1 ![2] bcast_S1_S1x1x1_2),
    TRef.unary (TRef.of (T := ⟨S1x1x1, .i32⟩) main_call6_v7) (TRef.of (T := ⟨S32x272x1, .i32⟩) main_call6_v8) (broadcastInDim S32x272x1 ![0, 1, 2] bcast_S1x1x1_S32x272x1_0_1_2),
    TRef.binary (TRef.of (T := ⟨S32x272x1, .i32⟩) main_call6_v4) (TRef.of (T := ⟨S32x272x1, .i32⟩) main_call6_v8) (TRef.of (T := ⟨S32x272x1, .i1⟩) main_call6_v9) (cmpi .sle),
    TRef.binary (TRef.of (T := ⟨S32x272x1, .i1⟩) main_call6_v6) (TRef.of (T := ⟨S32x272x1, .i1⟩) main_call6_v9) (TRef.of (T := ⟨S32x272x1, .i1⟩) main_call6_v10) andi,
    TRef.nullary (TRef.of (T := ⟨S_, .i1⟩) main_call6_c_3) (constantI S_ 1 1#1),
    TRef.binary (TRef.of (T := ⟨S32x272x1, .i1⟩) main_call6_v10) (TRef.of (T := ⟨S_, .i1⟩) main_call6_c_3) (TRef.of (T := ⟨S32x272, .i1⟩) main_call6_v11) (fun x v => Host.reduce IntOp.andi x v reducesTo_S32x272x1_S32x272_d2 h_S_),
    TRef.binary (TRef.of (T := ⟨S32x288x384, .f32⟩) main_v42) (TRef.of (T := ⟨S32x272x1, .i32⟩) main_call6_v4) (TRef.of (T := ⟨S32x272x384, .f32⟩) main_call6_v12) (fun x i => Host.gather gather_S32x288x384_S32x272x1_S32x272x384_2_1_0_0_1_2_11384 x i),
    TRef.unary (TRef.of (T := ⟨S32x272, .i1⟩) main_call6_v11) (TRef.of (T := ⟨S32x272x384, .i1⟩) main_call6_v13) (broadcastInDim S32x272x384 ![0, 1] bcast_S32x272_S32x272x384_0_1),
    TRef.nullary (TRef.of (T := ⟨S_, .f32⟩) main_call6_cst) (constant S_ .f32 0x7FC00000#32) ]

abbrev line2_1 : List (HloOp τ sig (Elt F)) :=
  [ TRef.unary (TRef.of (T := ⟨S_, .f32⟩) main_call6_cst) (TRef.of (T := ⟨S32x272x384, .f32⟩) main_call6_v14) (broadcastInDim S32x272x384 ![] bcast_S_S32x272x384),
    TRef.ternary (TRef.of (T := ⟨S32x272x384, .i1⟩) main_call6_v13) (TRef.of (T := ⟨S32x272x384, .f32⟩) main_call6_v12) (TRef.of (T := ⟨S32x272x384, .f32⟩) main_call6_v14) (TRef.of (T := ⟨S32x272x384, .f32⟩) main_v102) select,
    binary main_v81 main_v102 main_v103 ((fun a b => concatenate S32x560x384 1 [⟨S32x288x384, a⟩, ⟨S32x272x384, b⟩] concatenates_S32x288x384_S32x272x384_S32x560x384_d1) : (⟨S32x288x384, .f32⟩ : BufTy).Contents (Elt F) → (⟨S32x272x384, .f32⟩ : BufTy).Contents (Elt F) → (⟨S32x560x384, .f32⟩ : BufTy).Contents (Elt F)),
    binary main_v28 main_v103 main_v104 ((fun a b => concatenate S32x561x384 1 [⟨S32x1x384, a⟩, ⟨S32x560x384, b⟩] concatenates_S32x1x384_S32x560x384_S32x561x384_d1) : (⟨S32x1x384, .f32⟩ : BufTy).Contents (Elt F) → (⟨S32x560x384, .f32⟩ : BufTy).Contents (Elt F) → (⟨S32x561x384, .f32⟩ : BufTy).Contents (Elt F)),
    nullary main_cst_22 (constant S_ .f32 0x00000000#32),
    binary main_v104 main_cst_22 main_v105 ((fun x v => Host.reduceAdd x v reducesTo_S32x561x384_S32x561_d2 h_S_) : (⟨S32x561x384, .f32⟩ : BufTy).Contents (Elt F) → (⟨S_, .f32⟩ : BufTy).Contents (Elt F) → (⟨S32x561, .f32⟩ : BufTy).Contents (Elt F)),
    unary main_v105 main_v106 (broadcastInDim S32x561x1 ![0, 1] bcast_S32x561_S32x561x1_0_1 : (⟨S32x561, .f32⟩ : BufTy).Contents (Elt F) → (⟨S32x561x1, .f32⟩ : BufTy).Contents (Elt F)),
    nullary main_cst_23 (constant S_ .f32 0x43C00000#32),
    unary main_cst_23 main_v107 (broadcastInDim S32x561x1 ![] bcast_S_S32x561x1 : (⟨S_, .f32⟩ : BufTy).Contents (Elt F) → (⟨S32x561x1, .f32⟩ : BufTy).Contents (Elt F)),
    binary main_v106 main_v107 main_v108 (Host.divf : (⟨S32x561x1, .f32⟩ : BufTy).Contents (Elt F) → (⟨S32x561x1, .f32⟩ : BufTy).Contents (Elt F) → (⟨S32x561x1, .f32⟩ : BufTy).Contents (Elt F)),
    nullary main_c_24 (constantI S_ 32 0#32),
    TRef.nullary (TRef.of (T := ⟨S_, .f32⟩) main_call7_cst) (constant S_ .f32 0x00000000#32),
    TRef.binary (TRef.of (T := ⟨S32x561x384, .f32⟩) main_v104) (TRef.of (T := ⟨S_, .f32⟩) main_call7_cst) (TRef.of (T := ⟨S32x561, .f32⟩) main_call7_v0) (fun x v => Host.reduceAdd x v reducesTo_S32x561x384_S32x561_d2 h_S_),
    TRef.unary (TRef.of (T := ⟨S32x561, .f32⟩) main_call7_v0) (TRef.of (T := ⟨S32x561x1, .f32⟩) main_call7_v1) (broadcastInDim S32x561x1 ![0, 1] bcast_S32x561_S32x561x1_0_1),
    TRef.nullary (TRef.of (T := ⟨S_, .f32⟩) main_call7_cst_0) (constant S_ .f32 0x43C00000#32),
    TRef.unary (TRef.of (T := ⟨S_, .f32⟩) main_call7_cst_0) (TRef.of (T := ⟨S32x561x1, .f32⟩) main_call7_v2) (broadcastInDim S32x561x1 ![] bcast_S_S32x561x1),
    TRef.binary (TRef.of (T := ⟨S32x561x1, .f32⟩) main_call7_v1) (TRef.of (T := ⟨S32x561x1, .f32⟩) main_call7_v2) (TRef.of (T := ⟨S32x561x1, .f32⟩) main_call7_v3) Host.divf,
    TRef.unary (TRef.of (T := ⟨S32x561x1, .f32⟩) main_call7_v3) (TRef.of (T := ⟨S32x561x384, .f32⟩) main_call7_v4) (broadcastInDim S32x561x384 ![0, 1, 2] bcast_S32x561x1_S32x561x384_0_1_2),
    TRef.binary (TRef.of (T := ⟨S32x561x384, .f32⟩) main_v104) (TRef.of (T := ⟨S32x561x384, .f32⟩) main_call7_v4) (TRef.of (T := ⟨S32x561x384, .f32⟩) main_call7_v5) subf,
    TRef.binary (TRef.of (T := ⟨S32x561x384, .f32⟩) main_call7_v5) (TRef.of (T := ⟨S32x561x384, .f32⟩) main_call7_v5) (TRef.of (T := ⟨S32x561x384, .f32⟩) main_call7_v6) mulf,
    TRef.unary (TRef.of (T := ⟨S_, .i32⟩) main_c_24) (TRef.of (T := ⟨S_, .f32⟩) main_call7_v7) (sitofp .f32),
    TRef.nullary (TRef.of (T := ⟨S_, .f32⟩) main_call7_cst_1) (constant S_ .f32 0x43C00000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S32x561x384, .f32⟩) main_call7_v6) (TRef.of (T := ⟨S_, .f32⟩) main_call7_cst_2) (TRef.of (T := ⟨S32x561, .f32⟩) main_call7_v9) (fun x v => Host.reduceAdd x v reducesTo_S32x561x384_S32x561_d2 h_S_),
    TRef.unary (TRef.of (T := ⟨S32x561, .f32⟩) main_call7_v9) (TRef.of (T := ⟨S32x561x1, .f32⟩) main_call7_v10) (broadcastInDim S32x561x1 ![0, 1] bcast_S32x561_S32x561x1_0_1),
    TRef.unary (TRef.of (T := ⟨S_, .f32⟩) main_call7_v8) (TRef.of (T := ⟨S32x561x1, .f32⟩) main_call7_v11) (broadcastInDim S32x561x1 ![] bcast_S_S32x561x1),
    TRef.binary (TRef.of (T := ⟨S32x561x1, .f32⟩) main_call7_v10) (TRef.of (T := ⟨S32x561x1, .f32⟩) main_call7_v11) (TRef.of (T := ⟨S32x561x1, .f32⟩) main_call7_v12) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v13) (cmpf .ogt) ]

abbrev line2_2 : List (HloOp τ sig (Elt F)) :=
  [ TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S32x561x1, .f32⟩) main_call7_call0_v1) (broadcastInDim S32x561x1 ![] bcast_S_S32x561x1),
    TRef.ternary (TRef.of (T := ⟨S_, .i1⟩) main_call7_v13) (TRef.of (T := ⟨S32x561x1, .f32⟩) main_call7_v12) (TRef.of (T := ⟨S32x561x1, .f32⟩) main_call7_call0_v1) (TRef.of (T := ⟨S32x561x1, .f32⟩) main_v109) (fun p a b => select (broadcastInDim S32x561x1 ![] bcast_S_S32x561x1 p) a b),
    unary main_v108 main_v110 (broadcastInDim S32x561x384 ![0, 1, 2] bcast_S32x561x1_S32x561x384_0_1_2 : (⟨S32x561x1, .f32⟩ : BufTy).Contents (Elt F) → (⟨S32x561x384, .f32⟩ : BufTy).Contents (Elt F)),
    binary main_v104 main_v110 main_v111 (subf : (⟨S32x561x384, .f32⟩ : BufTy).Contents (Elt F) → (⟨S32x561x384, .f32⟩ : BufTy).Contents (Elt F) → (⟨S32x561x384, .f32⟩ : BufTy).Contents (Elt F)),
    nullary main_cst_25 (constant S_ .f32 0x358637BD#32),
    unary main_cst_25 main_v112 (broadcastInDim S32x561x1 ![] bcast_S_S32x561x1 : (⟨S_, .f32⟩ : BufTy).Contents (Elt F) → (⟨S32x561x1, .f32⟩ : BufTy).Contents (Elt F)),
    binary main_v109 main_v112 main_v113 (addf : (⟨S32x561x1, .f32⟩ : BufTy).Contents (Elt F) → (⟨S32x561x1, .f32⟩ : BufTy).Contents (Elt F) → (⟨S32x561x1, .f32⟩ : BufTy).Contents (Elt F)),
    unary main_v113 main_v114 (Host.sqrt : (⟨S32x561x1, .f32⟩ : BufTy).Contents (Elt F) → (⟨S32x561x1, .f32⟩ : BufTy).Contents (Elt F)),
    unary main_v114 main_v115 (broadcastInDim S32x561x384 ![0, 1, 2] bcast_S32x561x1_S32x561x384_0_1_2 : (⟨S32x561x1, .f32⟩ : BufTy).Contents (Elt F) → (⟨S32x561x384, .f32⟩ : BufTy).Contents (Elt F)),
    binary main_v111 main_v115 main_v116 (Host.divf : (⟨S32x561x384, .f32⟩ : BufTy).Contents (Elt F) → (⟨S32x561x384, .f32⟩ : BufTy).Contents (Elt F) → (⟨S32x561x384, .f32⟩ : BufTy).Contents (Elt F)),
    unary main_arg1 main_v117 (broadcastInDim S1x1x384 ![2] bcast_S384_S1x1x384_2 : (⟨S384, .f32⟩ : BufTy).Contents (Elt F) → (⟨S1x1x384, .f32⟩ : BufTy).Contents (Elt F)),
    unary main_v117 main_v118 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v116 main_v118 main_v119 (mulf : (⟨S32x561x384, .f32⟩ : BufTy).Contents (Elt F) → (⟨S32x561x384, .f32⟩ : BufTy).Contents (Elt F) → (⟨S32x561x384, .f32⟩ : BufTy).Contents (Elt F)),
    unary main_arg2 main_v120 (broadcastInDim S1x1x384 ![2] bcast_S384_S1x1x384_2 : (⟨S384, .f32⟩ : BufTy).Contents (Elt F) → (⟨S1x1x384, .f32⟩ : BufTy).Contents (Elt F)),
    unary main_v120 main_v121 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v119 main_v121 main_v122 (addf : (⟨S32x561x384, .f32⟩ : BufTy).Contents (Elt F) → (⟨S32x561x384, .f32⟩ : BufTy).Contents (Elt F) → (⟨S32x561x384, .f32⟩ : BufTy).Contents (Elt F)),
    binary main_v122 main_arg3 main_v123 ((fun l r => Host.dotGeneral dot_S32x561x384_S384x1152_S32x561x1152_2_0_01_1_n_n none l r) : (⟨S32x561x384, .f32⟩ : BufTy).Contents (Elt F) → (⟨S384x1152, .f32⟩ : BufTy).Contents (Elt F) → (⟨S32x561x1152, .f32⟩ : BufTy).Contents (Elt F)),
    unary main_arg4 main_v124 (broadcastInDim S1x1x1152 ![2] bcast_S1152_S1x1x1152_2 : (⟨S1152, .f32⟩ : BufTy).Contents (Elt F) → (⟨S1x1x1152, .f32⟩ : BufTy).Contents (Elt F)),
    unary main_v124 main_v125 (broadcastInDim S32x561x1152 ![0, 1, 2] bcast_S1x1x1152_S32x561x1152_0_1_2 : (⟨S1x1x1152, .f32⟩ : BufTy).Contents (Elt F) → (⟨S32x561x1152, .f32⟩ : BufTy).Contents (Elt F)),
    binary main_v123 main_v125 main_v126 (addf : (⟨S32x561x1152, .f32⟩ : BufTy).Contents (Elt F) → (⟨S32x561x1152, .f32⟩ : BufTy).Contents (Elt F) → (⟨S32x561x1152, .f32⟩ : BufTy).Contents (Elt F)),
    reshape main_v126 main_v127 (rfl : (.f32 : EltTy) = .f32) shapeCasts_S32x561x1152_S32x561x3x6x64,
    unary main_v127 main_v128 ((extractStridedSlice S32x561x1x6x64 ![0, 0, 0, 0, 0] · slices_S32x561x3x6x64_S32x561x1x6x64_0_0_0_0_0) : (⟨S32x561x3x6x64, .f32⟩ : BufTy).Contents (Elt F) → (⟨S32x561x1x6x64, .f32⟩ : BufTy).Contents (Elt F)),
    reshape main_v128 main_v129 (rfl : (.f32 : EltTy) = .f32) shapeCasts_S32x561x1x6x64_S32x561x6x64,
    unary main_v129 main_v130 ((transpose S32x6x561x64 [0, 2, 1, 3] · transposes_S32x561x6x64_S32x6x561x64_0_2_1_3) : (⟨S32x561x6x64, .f32⟩ : BufTy).Contents (Elt F) → (⟨S32x6x561x64, .f32⟩ : BufTy).Contents (Elt F)),
    unary main_v127 main_v131 ((extractStridedSlice S32x561x1x6x64 ![0, 0, 1, 0, 0] · slices_S32x561x3x6x64_S32x561x1x6x64_0_0_1_0_0) : (⟨S32x561x3x6x64, .f32⟩ : BufTy).Contents (Elt F) → (⟨S32x561x1x6x64, .f32⟩ : BufTy).Contents (Elt F)),
    reshape main_v131 main_v132 (rfl : (.f32 : EltTy) = .f32) shapeCasts_S32x561x1x6x64_S32x561x6x64,
    unary main_v132 main_v133 ((transpose S32x6x561x64 [0, 2, 1, 3] · transposes_S32x561x6x64_S32x6x561x64_0_2_1_3) : (⟨S32x561x6x64, .f32⟩ : BufTy).Contents (Elt F) → (⟨S32x6x561x64, .f32⟩ : BufTy).Contents (Elt F)),
    unary main_v127 main_v134 ((extractStridedSlice S32x561x1x6x64 ![0, 0, 2, 0, 0] · slices_S32x561x3x6x64_S32x561x1x6x64_0_0_2_0_0) : (⟨S32x561x3x6x64, .f32⟩ : BufTy).Contents (Elt F) → (⟨S32x561x1x6x64, .f32⟩ : BufTy).Contents (Elt F)) ]

abbrev line2_3 : List (HloOp τ sig (Elt F)) :=
  [ reshape main_v134 main_v135 (rfl : (.f32 : EltTy) = .f32) shapeCasts_S32x561x1x6x64_S32x561x6x64,
    unary main_v135 main_v136 ((transpose S32x6x561x64 [0, 2, 1, 3] · transposes_S32x561x6x64_S32x6x561x64_0_2_1_3) : (⟨S32x561x6x64, .f32⟩ : BufTy).Contents (Elt F) → (⟨S32x6x561x64, .f32⟩ : BufTy).Contents (Elt F)),
    unary main_v133 main_v137 ((transpose S32x6x64x561 [0, 1, 3, 2] · transposes_S32x6x561x64_S32x6x64x561_0_1_3_2) : (⟨S32x6x561x64, .f32⟩ : BufTy).Contents (Elt F) → (⟨S32x6x64x561, .f32⟩ : BufTy).Contents (Elt F)),
    binary main_v130 main_v137 main_v138 ((fun l r => Host.dotGeneral dot_S32x6x561x64_S32x6x64x561_S32x6x561x561_3_2_2_3_01_01 none l r) : (⟨S32x6x561x64, .f32⟩ : BufTy).Contents (Elt F) → (⟨S32x6x64x561, .f32⟩ : BufTy).Contents (Elt F) → (⟨S32x6x561x561, .f32⟩ : BufTy).Contents (Elt F)),
    nullary main_cst_26 (constant S_ .f32 0x3E000000#32),
    unary main_cst_26 main_v139 (broadcastInDim S32x6x561x561 ![] bcast_S_S32x6x561x561 : (⟨S_, .f32⟩ : BufTy).Contents (Elt F) → (⟨S32x6x561x561, .f32⟩ : BufTy).Contents (Elt F)),
    binary main_v138 main_v139 main_v140 (mulf : (⟨S32x6x561x561, .f32⟩ : BufTy).Contents (Elt F) → (⟨S32x6x561x561, .f32⟩ : BufTy).Contents (Elt F) → (⟨S32x6x561x561, .f32⟩ : BufTy).Contents (Elt F)),
    nullary main_cst_27 (constant S_ .f32 0xFF800000#32),
    binary main_v140 main_cst_27 main_v141 ((fun x v => Host.reduce FloatOps.maximumf x v reducesTo_S32x6x561x561_S32x6x561_d3 h_S_) : (⟨S32x6x561x561, .f32⟩ : BufTy).Contents (Elt F) → (⟨S_, .f32⟩ : BufTy).Contents (Elt F) → (⟨S32x6x561, .f32⟩ : BufTy).Contents (Elt F)),
    nullary main_cst_28 (constant S_ .f32 0xFF800000#32),
    unary main_cst_28 main_v142 (broadcastInDim S32x6x561 ![] bcast_S_S32x6x561 : (⟨S_, .f32⟩ : BufTy).Contents (Elt F) → (⟨S32x6x561, .f32⟩ : BufTy).Contents (Elt F)),
    binary main_v142 main_v141 main_v143 (maximumf : (⟨S32x6x561, .f32⟩ : BufTy).Contents (Elt F) → (⟨S32x6x561, .f32⟩ : BufTy).Contents (Elt F) → (⟨S32x6x561, .f32⟩ : BufTy).Contents (Elt F)),
    unary main_v143 main_v144 (broadcastInDim S32x6x561x1 ![0, 1, 2] bcast_S32x6x561_S32x6x561x1_0_1_2 : (⟨S32x6x561, .f32⟩ : BufTy).Contents (Elt F) → (⟨S32x6x561x1, .f32⟩ : BufTy).Contents (Elt F)),
    unary main_v144 main_v145 (broadcastInDim S32x6x561x561 ![0, 1, 2, 3] bcast_S32x6x561x1_S32x6x561x561_0_1_2_3 : (⟨S32x6x561x1, .f32⟩ : BufTy).Contents (Elt F) → (⟨S32x6x561x561, .f32⟩ : BufTy).Contents (Elt F)),
    binary main_v140 main_v145 main_v146 (subf : (⟨S32x6x561x561, .f32⟩ : BufTy).Contents (Elt F) → (⟨S32x6x561x561, .f32⟩ : BufTy).Contents (Elt F) → (⟨S32x6x561x561, .f32⟩ : BufTy).Contents (Elt F)) ]

/-- The operations of the reference's `main_part2`. -/
abbrev line2 : List (HloOp τ sig (Elt F)) := line2_0 ++ (line2_1 ++ (line2_2 ++ (line2_3)))

abbrev line3_0 : List (HloOp τ sig (Elt F)) :=
  [ unary main_v146 main_v147 (Host.exp : (⟨S32x6x561x561, .f32⟩ : BufTy).Contents (Elt F) → (⟨S32x6x561x561, .f32⟩ : BufTy).Contents (Elt F)),
    nullary main_cst_29 (constant S_ .f32 0x00000000#32),
    binary main_v147 main_cst_29 main_v148 ((fun x v => Host.reduceAdd x v reducesTo_S32x6x561x561_S32x6x561_d3 h_S_) : (⟨S32x6x561x561, .f32⟩ : BufTy).Contents (Elt F) → (⟨S_, .f32⟩ : BufTy).Contents (Elt F) → (⟨S32x6x561, .f32⟩ : BufTy).Contents (Elt F)),
    unary main_v148 main_v149 (broadcastInDim S32x6x561x1 ![0, 1, 2] bcast_S32x6x561_S32x6x561x1_0_1_2 : (⟨S32x6x561, .f32⟩ : BufTy).Contents (Elt F) → (⟨S32x6x561x1, .f32⟩ : BufTy).Contents (Elt F)),
    unary main_v149 main_v150 (broadcastInDim S32x6x561x561 ![0, 1, 2, 3] bcast_S32x6x561x1_S32x6x561x561_0_1_2_3 : (⟨S32x6x561x1, .f32⟩ : BufTy).Contents (Elt F) → (⟨S32x6x561x561, .f32⟩ : BufTy).Contents (Elt F)),
    binary main_v147 main_v150 main_v151 (Host.divf : (⟨S32x6x561x561, .f32⟩ : BufTy).Contents (Elt F) → (⟨S32x6x561x561, .f32⟩ : BufTy).Contents (Elt F) → (⟨S32x6x561x561, .f32⟩ : BufTy).Contents (Elt F)),
    binary main_v151 main_v136 main_v152 ((fun l r => Host.dotGeneral dot_S32x6x561x561_S32x6x561x64_S32x6x561x64_3_2_2_3_01_01 none l r) : (⟨S32x6x561x561, .f32⟩ : BufTy).Contents (Elt F) → (⟨S32x6x561x64, .f32⟩ : BufTy).Contents (Elt F) → (⟨S32x6x561x64, .f32⟩ : BufTy).Contents (Elt F)),
    unary main_v152 main_v153 ((transpose S32x561x6x64 [0, 2, 1, 3] · transposes_S32x6x561x64_S32x561x6x64_0_2_1_3) : (⟨S32x6x561x64, .f32⟩ : BufTy).Contents (Elt F) → (⟨S32x561x6x64, .f32⟩ : BufTy).Contents (Elt F)),
    reshape main_v153 main_v154 (rfl : (.f32 : EltTy) = .f32) shapeCasts_S32x561x6x64_S32x561x384,
    binary main_v154 main_arg5 main_v155 ((fun l r => Host.dotGeneral dot_S32x561x384_S384x384_S32x561x384_2_0_01_1_n_n none l r) : (⟨S32x561x384, .f32⟩ : BufTy).Contents (Elt F) → (⟨S384x384, .f32⟩ : BufTy).Contents (Elt F) → (⟨S32x561x384, .f32⟩ : BufTy).Contents (Elt F)),
    unary main_arg6 main_v156 (broadcastInDim S1x1x384 ![2] bcast_S384_S1x1x384_2 : (⟨S384, .f32⟩ : BufTy).Contents (Elt F) → (⟨S1x1x384, .f32⟩ : BufTy).Contents (Elt F)),
    unary main_v156 main_v157 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v155 main_v157 main_v158 (addf : (⟨S32x561x384, .f32⟩ : BufTy).Contents (Elt F) → (⟨S32x561x384, .f32⟩ : BufTy).Contents (Elt F) → (⟨S32x561x384, .f32⟩ : BufTy).Contents (Elt F)),
    binary main_v104 main_v158 main_v159 (addf : (⟨S32x561x384, .f32⟩ : BufTy).Contents (Elt F) → (⟨S32x561x384, .f32⟩ : BufTy).Contents (Elt F) → (⟨S32x561x384, .f32⟩ : BufTy).Contents (Elt F)),
    nullary main_cst_30 (constant S_ .f32 0x00000000#32),
    binary main_v159 main_cst_30 main_v160 ((fun x v => Host.reduceAdd x v reducesTo_S32x561x384_S32x561_d2 h_S_) : (⟨S32x561x384, .f32⟩ : BufTy).Contents (Elt F) → (⟨S_, .f32⟩ : BufTy).Contents (Elt F) → (⟨S32x561, .f32⟩ : BufTy).Contents (Elt F)),
    unary main_v160 main_v161 (broadcastInDim S32x561x1 ![0, 1] bcast_S32x561_S32x561x1_0_1 : (⟨S32x561, .f32⟩ : BufTy).Contents (Elt F) → (⟨S32x561x1, .f32⟩ : BufTy).Contents (Elt F)),
    nullary main_cst_31 (constant S_ .f32 0x43C00000#32),
    unary main_cst_31 main_v162 (broadcastInDim S32x561x1 ![] bcast_S_S32x561x1 : (⟨S_, .f32⟩ : BufTy).Contents (Elt F) → (⟨S32x561x1, .f32⟩ : BufTy).Contents (Elt F)),
    binary main_v161 main_v162 main_v163 (Host.divf : (⟨S32x561x1, .f32⟩ : BufTy).Contents (Elt F) → (⟨S32x561x1, .f32⟩ : BufTy).Contents (Elt F) → (⟨S32x561x1, .f32⟩ : BufTy).Contents (Elt F)),
    nullary main_c_32 (constantI S_ 32 0#32),
    TRef.nullary (TRef.of (T := ⟨S_, .f32⟩) main_call8_cst) (constant S_ .f32 0x00000000#32),
    TRef.binary (TRef.of (T := ⟨S32x561x384, .f32⟩) main_v159) (TRef.of (T := ⟨S_, .f32⟩) main_call8_cst) (TRef.of (T := ⟨S32x561, .f32⟩) main_call8_v0) (fun x v => Host.reduceAdd x v reducesTo_S32x561x384_S32x561_d2 h_S_),
    TRef.unary (TRef.of (T := ⟨S32x561, .f32⟩) main_call8_v0) (TRef.of (T := ⟨S32x561x1, .f32⟩) main_call8_v1) (broadcastInDim S32x561x1 ![0, 1] bcast_S32x561_S32x561x1_0_1),
    TRef.nullary (TRef.of (T := ⟨S_, .f32⟩) main_call8_cst_0) (constant S_ .f32 0x43C00000#32),
    TRef.unary (TRef.of (T := ⟨S_, .f32⟩) main_call8_cst_0) (TRef.of (T := ⟨S32x561x1, .f32⟩) main_call8_v2) (broadcastInDim S32x561x1 ![] bcast_S_S32x561x1),
    TRef.binary (TRef.of (T := ⟨S32x561x1, .f32⟩) main_call8_v1) (TRef.of (T := ⟨S32x561x1, .f32⟩) main_call8_v2) (TRef.of (T := ⟨S32x561x1, .f32⟩) main_call8_v3) Host.divf,
    TRef.unary (TRef.of (T := ⟨S32x561x1, .f32⟩) main_call8_v3) (TRef.of (T := ⟨S32x561x384, .f32⟩) main_call8_v4) (broadcastInDim S32x561x384 ![0, 1, 2] bcast_S32x561x1_S32x561x384_0_1_2),
    TRef.binary (TRef.of (T := ⟨S32x561x384, .f32⟩) main_v159) (TRef.of (T := ⟨S32x561x384, .f32⟩) main_call8_v4) (TRef.of (T := ⟨S32x561x384, .f32⟩) main_call8_v5) subf,
    TRef.binary (TRef.of (T := ⟨S32x561x384, .f32⟩) main_call8_v5) (TRef.of (T := ⟨S32x561x384, .f32⟩) main_call8_v5) (TRef.of (T := ⟨S32x561x384, .f32⟩) main_call8_v6) mulf ]

abbrev line3_1 : List (HloOp τ sig (Elt F)) :=
  [ TRef.unary (TRef.of (T := ⟨S_, .i32⟩) main_c_32) (TRef.of (T := ⟨S_, .f32⟩) main_call8_v7) (sitofp .f32),
    TRef.nullary (TRef.of (T := ⟨S_, .f32⟩) main_call8_cst_1) (constant S_ .f32 0x43C00000#32),
    TRef.binary (TRef.of (T := ⟨S_, .f32⟩) main_call8_cst_1) (TRef.of (T := ⟨S_, .f32⟩) main_call8_v7) (TRef.of (T := ⟨S_, .f32⟩) main_call8_v8) subf,
    TRef.nullary (TRef.of (T := ⟨S_, .f32⟩) main_call8_cst_2) (constant S_ .f32 0x00000000#32),
    TRef.binary (TRef.of (T := ⟨S32x561x384, .f32⟩) main_call8_v6) (TRef.of (T := ⟨S_, .f32⟩) main_call8_cst_2) (TRef.of (T := ⟨S32x561, .f32⟩) main_call8_v9) (fun x v => Host.reduceAdd x v reducesTo_S32x561x384_S32x561_d2 h_S_),
    TRef.unary (TRef.of (T := ⟨S32x561, .f32⟩) main_call8_v9) (TRef.of (T := ⟨S32x561x1, .f32⟩) main_call8_v10) (broadcastInDim S32x561x1 ![0, 1] bcast_S32x561_S32x561x1_0_1),
    TRef.unary (TRef.of (T := ⟨S_, .f32⟩) main_call8_v8) (TRef.of (T := ⟨S32x561x1, .f32⟩) main_call8_v11) (broadcastInDim S32x561x1 ![] bcast_S_S32x561x1),
    TRef.binary (TRef.of (T := ⟨S32x561x1, .f32⟩) main_call8_v10) (TRef.of (T := ⟨S32x561x1, .f32⟩) main_call8_v11) (TRef.of (T := ⟨S32x561x1, .f32⟩) main_call8_v12) Host.divf,
    TRef.nullary (TRef.of (T := ⟨S_, .f32⟩) main_call8_cst_3) (constant S_ .f32 0x00000000#32),
    TRef.binary (TRef.of (T := ⟨S_, .f32⟩) main_call8_v8) (TRef.of (T := ⟨S_, .f32⟩) main_call8_cst_3) (TRef.of (T := ⟨S_, .i1⟩) main_call8_v13) (cmpf .ogt),
    TRef.nullary (TRef.of (T := ⟨S_, .f32⟩) main_call8_cst_4) (constant S_ .f32 0x7FC00000#32),
    TRef.unary (TRef.of (T := ⟨S_, .f32⟩) main_call8_cst_4) (TRef.of (T := ⟨S_, .f32⟩) main_call8_call0_v0) id,
    TRef.unary (TRef.of (T := ⟨S_, .f32⟩) main_call8_call0_v0) (TRef.of (T := ⟨S32x561x1, .f32⟩) main_call8_call0_v1) (broadcastInDim S32x561x1 ![] bcast_S_S32x561x1),
    TRef.ternary (TRef.of (T := ⟨S_, .i1⟩) main_call8_v13) (TRef.of (T := ⟨S32x561x1, .f32⟩) main_call8_v12) (TRef.of (T := ⟨S32x561x1, .f32⟩) main_call8_call0_v1) (TRef.of (T := ⟨S32x561x1, .f32⟩) main_v164) (fun p a b => select (broadcastInDim S32x561x1 ![] bcast_S_S32x561x1 p) a b),
    unary main_v163 main_v165 (broadcastInDim S32x561x384 ![0, 1, 2] bcast_S32x561x1_S32x561x384_0_1_2 : (⟨S32x561x1, .f32⟩ : BufTy).Contents (Elt F) → (⟨S32x561x384, .f32⟩ : BufTy).Contents (Elt F)),
    binary main_v159 main_v165 main_v166 (subf : (⟨S32x561x384, .f32⟩ : BufTy).Contents (Elt F) → (⟨S32x561x384, .f32⟩ : BufTy).Contents (Elt F) → (⟨S32x561x384, .f32⟩ : BufTy).Contents (Elt F)),
    nullary main_cst_33 (constant S_ .f32 0x358637BD#32),
    unary main_cst_33 main_v167 (broadcastInDim S32x561x1 ![] bcast_S_S32x561x1 : (⟨S_, .f32⟩ : BufTy).Contents (Elt F) → (⟨S32x561x1, .f32⟩ : BufTy).Contents (Elt F)),
    binary main_v164 main_v167 main_v168 (addf : (⟨S32x561x1, .f32⟩ : BufTy).Contents (Elt F) → (⟨S32x561x1, .f32⟩ : BufTy).Contents (Elt F) → (⟨S32x561x1, .f32⟩ : BufTy).Contents (Elt F)),
    unary main_v168 main_v169 (Host.sqrt : (⟨S32x561x1, .f32⟩ : BufTy).Contents (Elt F) → (⟨S32x561x1, .f32⟩ : BufTy).Contents (Elt F)),
    unary main_v169 main_v170 (broadcastInDim S32x561x384 ![0, 1, 2] bcast_S32x561x1_S32x561x384_0_1_2 : (⟨S32x561x1, .f32⟩ : BufTy).Contents (Elt F) → (⟨S32x561x384, .f32⟩ : BufTy).Contents (Elt F)),
    binary main_v166 main_v170 main_v171 (Host.divf : (⟨S32x561x384, .f32⟩ : BufTy).Contents (Elt F) → (⟨S32x561x384, .f32⟩ : BufTy).Contents (Elt F) → (⟨S32x561x384, .f32⟩ : BufTy).Contents (Elt F)),
    unary main_arg7 main_v172 (broadcastInDim S1x1x384 ![2] bcast_S384_S1x1x384_2 : (⟨S384, .f32⟩ : BufTy).Contents (Elt F) → (⟨S1x1x384, .f32⟩ : BufTy).Contents (Elt F)),
    unary main_v172 main_v173 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v171 main_v173 main_v174 (mulf : (⟨S32x561x384, .f32⟩ : BufTy).Contents (Elt F) → (⟨S32x561x384, .f32⟩ : BufTy).Contents (Elt F) → (⟨S32x561x384, .f32⟩ : BufTy).Contents (Elt F)),
    unary main_arg8 main_v175 (broadcastInDim S1x1x384 ![2] bcast_S384_S1x1x384_2 : (⟨S384, .f32⟩ : BufTy).Contents (Elt F) → (⟨S1x1x384, .f32⟩ : BufTy).Contents (Elt F)),
    unary main_v175 main_v176 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v174 main_v176 main_v177 (addf : (⟨S32x561x384, .f32⟩ : BufTy).Contents (Elt F) → (⟨S32x561x384, .f32⟩ : BufTy).Contents (Elt F) → (⟨S32x561x384, .f32⟩ : BufTy).Contents (Elt F)),
    binary main_v177 main_arg9 main_v178 ((fun l r => Host.dotGeneral dot_S32x561x384_S384x1536_S32x561x1536_2_0_01_1_n_n none l r) : (⟨S32x561x384, .f32⟩ : BufTy).Contents (Elt F) → (⟨S384x1536, .f32⟩ : BufTy).Contents (Elt F) → (⟨S32x561x1536, .f32⟩ : BufTy).Contents (Elt F)),
    unary main_arg10 main_v179 (broadcastInDim S1x1x1536 ![2] bcast_S1536_S1x1x1536_2 : (⟨S1536, .f32⟩ : BufTy).Contents (Elt F) → (⟨S1x1x1536, .f32⟩ : BufTy).Contents (Elt F)) ]

abbrev line3_2 : List (HloOp τ sig (Elt F)) :=
  [ unary main_v179 main_v180 (broadcastInDim S32x561x1536 ![0, 1, 2] bcast_S1x1x1536_S32x561x1536_0_1_2 : (⟨S1x1x1536, .f32⟩ : BufTy).Contents (Elt F) → (⟨S32x561x1536, .f32⟩ : BufTy).Contents (Elt F)),
    binary main_v178 main_v180 main_v181 (addf : (⟨S32x561x1536, .f32⟩ : BufTy).Contents (Elt F) → (⟨S32x561x1536, .f32⟩ : BufTy).Contents (Elt F) → (⟨S32x561x1536, .f32⟩ : BufTy).Contents (Elt F)),
    nullary main_cst_34 (constant S_ .f32 0x3F000000#32),
    unary main_cst_34 main_v182 (broadcastInDim S32x561x1536 ![] bcast_S_S32x561x1536 : (⟨S_, .f32⟩ : BufTy).Contents (Elt F) → (⟨S32x561x1536, .f32⟩ : BufTy).Contents (Elt F)),
    binary main_v182 main_v181 main_v183 (mulf : (⟨S32x561x1536, .f32⟩ : BufTy).Contents (Elt F) → (⟨S32x561x1536, .f32⟩ : BufTy).Contents (Elt F) → (⟨S32x561x1536, .f32⟩ : BufTy).Contents (Elt F)),
    unary main_v181 main_v184 (Host.negf : (⟨S32x561x1536, .f32⟩ : BufTy).Contents (Elt F) → (⟨S32x561x1536, .f32⟩ : BufTy).Contents (Elt F)),
    nullary main_cst_35 (constant S_ .f32 0x3F3504F3#32),
    unary main_cst_35 main_v185 (broadcastInDim S32x561x1536 ![] bcast_S_S32x561x1536 : (⟨S_, .f32⟩ : BufTy).Contents (Elt F) → (⟨S32x561x1536, .f32⟩ : BufTy).Contents (Elt F)),
    binary main_v184 main_v185 main_v186 (mulf : (⟨S32x561x1536, .f32⟩ : BufTy).Contents (Elt F) → (⟨S32x561x1536, .f32⟩ : BufTy).Contents (Elt F) → (⟨S32x561x1536, .f32⟩ : BufTy).Contents (Elt F)),
    unary main_v186 main_v187 (Host.erfc : (⟨S32x561x1536, .f32⟩ : BufTy).Contents (Elt F) → (⟨S32x561x1536, .f32⟩ : BufTy).Contents (Elt F)),
    binary main_v183 main_v187 main_v188 (mulf : (⟨S32x561x1536, .f32⟩ : BufTy).Contents (Elt F) → (⟨S32x561x1536, .f32⟩ : BufTy).Contents (Elt F) → (⟨S32x561x1536, .f32⟩ : BufTy).Contents (Elt F)),
    binary main_v188 main_arg11 main_v189 ((fun l r => Host.dotGeneral dot_S32x561x1536_S1536x384_S32x561x384_2_0_01_1_n_n none l r) : (⟨S32x561x1536, .f32⟩ : BufTy).Contents (Elt F) → (⟨S1536x384, .f32⟩ : BufTy).Contents (Elt F) → (⟨S32x561x384, .f32⟩ : BufTy).Contents (Elt F)),
    unary main_arg12 main_v190 (broadcastInDim S1x1x384 ![2] bcast_S384_S1x1x384_2 : (⟨S384, .f32⟩ : BufTy).Contents (Elt F) → (⟨S1x1x384, .f32⟩ : BufTy).Contents (Elt F)),
    unary main_v190 main_v191 (broadcastInDim S32x561x384 ![0, 1, 2] bcast_S1x1x384_S32x561x384_0_1_2 : (⟨S1x1x384, .f32⟩ : BufTy).Contents (Elt F) → (⟨S32x561x384, .f32⟩ : BufTy).Contents (Elt F)),
    binary main_v189 main_v191 main_v192 (addf : (⟨S32x561x384, .f32⟩ : BufTy).Contents (Elt F) → (⟨S32x561x384, .f32⟩ : BufTy).Contents (Elt F) → (⟨S32x561x384, .f32⟩ : BufTy).Contents (Elt F)),
    binary main_v159 main_v192 main_v193 (addf : (⟨S32x561x384, .f32⟩ : BufTy).Contents (Elt F) → (⟨S32x561x384, .f32⟩ : BufTy).Contents (Elt F) → (⟨S32x561x384, .f32⟩ : BufTy).Contents (Elt F)) ]

/-- The operations of the reference's `main_part3`. -/
abbrev line3 : List (HloOp τ sig (Elt F)) := line3_0 ++ (line3_1 ++ (line3_2))

/-- The reference's operations, in order. -/
abbrev line : List (HloOp τ sig (Elt F)) := line0 ++ (line1 ++ (line2 ++ line3))

set_option maxHeartbeats 4000000 in
theorem main_part0_eq (c : Dev nD) : main_part0 (F := F) c = seq line0 := rfl
set_option maxHeartbeats 4000000 in
theorem main_part1_eq (c : Dev nD) : main_part1 (F := F) c = seq line1 := rfl
set_option maxHeartbeats 4000000 in
theorem main_part2_eq (c : Dev nD) : main_part2 (F := F) c = seq line2 := rfl
set_option maxHeartbeats 4000000 in
theorem main_part3_eq (c : Dev nD) : main_part3 (F := F) c = seq line3 := rfl

theorem main_eq (c : Dev nD) : main (F := F) c = seq line := by
  simp only [line, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 8000000 in
/-- Every buffer of the line is written once, above its operands: read off the line, operation by operation. -/
theorem line_ordered : Ordered 13 (line (F := F)) 386 := by
  refine Ordered.append (m := 145) (.append (m := 43) ?_ (.append (m := 73) ?_ (.append (m := 103) ?_ (.append (m := 133) ?_ ?_)))) (.append (m := 205) (.append (m := 175) ?_ ?_) (.append (m := 310) (.append (m := 235) ?_ (.append (m := 265) ?_ (.append (m := 295) ?_ ?_))) (.append (m := 340) ?_ (.append (m := 370) ?_ ?_))))
  all_goals repeat' first
    | exact show (_ : ℕ) ≤ _ by decide
    | refine ⟨_, show (_ : ℕ) ≤ _ by decide, At.nullary _ _, ?_⟩
    | refine ⟨_, show (_ : ℕ) ≤ _ by decide, At.unary _ _ _ (by decide), ?_⟩
    | refine ⟨_, show (_ : ℕ) ≤ _ by decide, At.binary _ _ _ _ (by decide), ?_⟩
    | refine ⟨_, show (_ : ℕ) ≤ _ by decide, At.ternary _ _ _ _ _ (by decide), ?_⟩
    | refine ⟨_, show (_ : ℕ) ≤ _ by decide, At.reshape _ _ _ _ (by decide), ?_⟩
    | refine ⟨_, show (_ : ℕ) ≤ _ by decide, At.quaternary _ _ _ _ _ _ (by decide), ?_⟩

theorem settled (V : Valuation τ sig (Elt F)) : Settled line (after line V) := line_ordered.settled V

/-- The arguments keep their contents. -/
theorem keep (V : Valuation τ sig (Elt F)) (r : Ref sig .tc) (h : r.idx.val < 13) :
    after line V (Proc.devRef .tc r) = V (Proc.devRef .tc r) := line_ordered.keep r h V

/-- Every run ends with each buffer at what the line makes of the launch contents. -/
theorem run (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b) = after line (launchContents m d) (Proc.devRef .tc b) :=
  run_seq scopedRefs_eq scopedSems_eq defs main (fun _ => line) main_eq
    (fun _ => List.forall_iff_forall_mem.mpr line_ordered.sub) m ρ (fun _ => line_ordered.fresh)

end Cert.ReferenceIdeal.Run

end
-- ==== Proof.Spec.lean ====
/- The block's rows as functions on the extended reals, and the few laws that relate the two ways of computing them. -/
module

public import Idealize.ShloMosaic.Lib.Pointwise
public import Idealize.ShloMosaic.Lib.IdealHost

@[expose] public section

set_option maxRecDepth 16384

noncomputable section

namespace Cert.Spec

open Idealize.ShloMosaic
open scoped BigOperators

/-! ## The values that are numbers -/

/-- An extended real that is a number. -/
def Num (x : EReal) : Prop := ∃ r : ℝ, x = (r : EReal)

theorem Num.coe (r : ℝ) : Num (r : EReal) := ⟨r, rfl⟩
theorem Num.zero : Num 0 := ⟨0, rfl⟩
theorem Num.one : Num 1 := ⟨1, rfl⟩
theorem Num.add {x y : EReal} : Num x → Num y → Num (x + y) := by
  rintro ⟨a, rfl⟩ ⟨b, rfl⟩; exact ⟨a + b, (EReal.coe_add a b).symm⟩
theorem Num.sub {x y : EReal} : Num x → Num y → Num (x - y) := by
  rintro ⟨a, rfl⟩ ⟨b, rfl⟩; exact ⟨a - b, (EReal.coe_sub a b).symm⟩
theorem Num.mul {x y : EReal} : Num x → Num y → Num (x * y) := by
  rintro ⟨a, rfl⟩ ⟨b, rfl⟩; exact ⟨a * b, (EReal.coe_mul a b).symm⟩
theorem Num.sum {ι : Type*} (s : Finset ι) {f : ι → EReal} (h : ∀ i ∈ s, Num (f i)) : Num (∑ i ∈ s, f i) := by
  classical
  induction s using Finset.induction_on with
  | empty => simpa using Num.zero
  | insert a s ha ih =>
    rw [Finset.sum_insert ha]
    exact (h a (Finset.mem_insert_self _ _)).add (ih fun i hi => h i (Finset.mem_insert_of_mem hi))
theorem Num.div {x y : EReal} (hx : Num x) (hy : Num y) (h : y ≠ 0) : Num (Ideal.div x y) := by
  obtain ⟨a, rfl⟩ := hx
  obtain ⟨b, rfl⟩ := hy
  rw [Ideal.div, if_neg h, ← EReal.coe_inv, ← EReal.coe_mul]
  exact ⟨_, rfl⟩
theorem Num.ne_bot {x : EReal} : Num x → x ≠ ⊥ := by rintro ⟨a, rfl⟩; exact EReal.coe_ne_bot a
theorem Num.ne_top {x : EReal} : Num x → x ≠ ⊤ := by rintro ⟨a, rfl⟩; exact EReal.coe_ne_top a
/-- What lies below `⊤` in absolute value is a number. -/
theorem Num.of_abs {x : EReal} (h : max x (-x) < ⊤) : Num x := by
  induction x using EReal.rec with
  | bot => simp at h
  | top => simp at h
  | coe r => exact ⟨r, rfl⟩
/-- What has a square below `⊤` is a number. -/
theorem Num.of_sq {x : EReal} (h : x * x ≠ ⊤) : Num x := by
  induction x using EReal.rec with
  | bot => simp at h
  | top => simp at h
  | coe r => exact ⟨r, rfl⟩

/-! ## The constants -/

theorem c384_eq : Ideal.ofBits .f32 0x43C00000#32 = ((384 : ℝ) : EReal) := by
  simp [Ideal.ofBits, Ideal.ieee]; norm_num; rw [← EReal.coe_mul]; norm_num
theorem one_eq : Ideal.ofBits .f32 0x3F800000#32 = 1 := by
  simp [Ideal.ofBits, Ideal.ieee]; norm_num; rw [← EReal.coe_mul]; norm_num
theorem two_eq : Ideal.ofBits .f32 0x40000000#32 = ((2 : ℝ) : EReal) := by
  simp [Ideal.ofBits, Ideal.ieee]; norm_num; rw [← EReal.coe_mul]; norm_num
theorem negInf_eq : Ideal.ofBits .f32 0xFF800000#32 = ⊥ := by
  simp [Ideal.ofBits, Ideal.ieee]
theorem posInf_eq : Ideal.ofBits .f32 0x7F800000#32 = ⊤ := by
  simp [Ideal.ofBits, Ideal.ieee]
theorem eps_pos : ∃ r : ℝ, 0 < r ∧ Ideal.ofBits .f32 0x358637BD#32 = (r : EReal) := by
  simp only [Ideal.ofBits, Ideal.ieee]
  refine ⟨_, ?_, by rw [if_neg (by decide), if_neg (by decide)]⟩
  simp
theorem eighth_num : Num (Ideal.ofBits .f32 0x3E000000#32) := by
  simp only [Ideal.ofBits, Ideal.ieee]
  exact ⟨_, by rw [if_neg (by decide), if_neg (by decide)]⟩

/-! ## A row of the block -/

/-- The mean of a row. -/
def mean (x : Fin 384 → EReal) : EReal := Ideal.div (∑ k, x k) (Ideal.ofBits .f32 0x43C00000#32)
/-- The mean squared distance of a row to its mean. -/
def var (x : Fin 384 → EReal) : EReal := Ideal.div (∑ k, (x k - mean x) * (x k - mean x)) (Ideal.ofBits .f32 0x43C00000#32)
/-- The layer norm of a row, by the reciprocal square root. -/
def ln (g b x : Fin 384 → EReal) (k : Fin 384) : EReal :=
  (x k - mean x) * Ideal.rsqrt (var x + Ideal.ofBits .f32 0x358637BD#32) * g k + b k
/-- A row times a matrix, and a bias. -/
def lin {m n : ℕ} (w : Fin m → Fin n → EReal) (b : Fin n → EReal) (x : Fin m → EReal) (j : Fin n) : EReal := ∑ k, x k * w k j + b j
/-- The scaled products of a query with the keys. -/
def score {ι : Type} (q : Fin 64 → EReal) (K : ι → Fin 64 → EReal) (i : ι) : EReal :=
  (∑ c, q c * K i c) * Ideal.ofBits .f32 0x3E000000#32
/-- The values averaged by the exponentials of `s`, taken less their greatest. -/
def soft {ι : Type} [Fintype ι] (s : ι → EReal) (V : ι → EReal) : EReal :=
  ∑ i, Ideal.div (Ideal.exp (s i - Finset.univ.sup s)) (∑ j, Ideal.exp (s j - Finset.univ.sup s)) * V i

/-- The position of a column inside its head. -/
def inHead (k : Fin 384) : Fin 64 := ⟨k.val % 64, Nat.mod_lt _ (by decide)⟩
/-- Column `c` of the head that holds column `k`, in the third `p` of a row of 1152. -/
def headCol (p : Fin 3) (k : Fin 384) (c : Fin 64) : Fin 1152 :=
  ⟨p.val * 384 + k.val / 64 * 64 + c.val, by have := k.isLt; have := p.isLt; have := c.isLt; omega⟩

/-- Attention of the rows `Q` (queries, keys and values side by side), at row `r` and column `k`. -/
def attn {ι : Type} [Fintype ι] (Q : ι → Fin 1152 → EReal) (r : ι) (k : Fin 384) : EReal :=
  soft (score (fun c => Q r (headCol 0 k c)) fun i c => Q i (headCol 1 k c)) fun i => Q i (headCol 2 k (inHead k))

/-- The parameters of the block. -/
structure Par where
  g1 : Fin 384 → EReal
  b1 : Fin 384 → EReal
  qkvw : Fin 384 → Fin 1152 → EReal
  qkvb : Fin 1152 → EReal
  projw : Fin 384 → Fin 384 → EReal
  projb : Fin 384 → EReal
  g2 : Fin 384 → EReal
  b2 : Fin 384 → EReal
  fc1w : Fin 384 → Fin 1536 → EReal
  fc1b : Fin 1536 → EReal
  fc2w : Fin 1536 → Fin 384 → EReal
  fc2b : Fin 384 → EReal

/-- Queries, keys and values of one row. -/
def Par.qkv (P : Par) (x : Fin 384 → EReal) : Fin 1152 → EReal := lin P.qkvw P.qkvb (ln P.g1 P.b1 x)
/-- The row after attention `a` has been projected and added. -/
def Par.mid (P : Par) (x a : Fin 384 → EReal) (k : Fin 384) : EReal := x k + lin P.projw P.projb a k
/-- The error-function linear unit. -/
def gelu (x : EReal) : EReal :=
  Ideal.ofBits .f32 0x3F000000#32 * x * (1 + Ideal.erf (x * Ideal.ofBits .f32 0x3F3504F3#32))
/-- The row after the two-layer network has been added. -/
def Par.fin (P : Par) (y : Fin 384 → EReal) (k : Fin 384) : EReal :=
  y k + lin P.fc2w P.fc2b (fun j => gelu (lin P.fc1w P.fc1b (ln P.g2 P.b2 y) j)) k
/-- The whole block on the rows `T`, at row `r`. -/
def Par.block {ι : Type} [Fintype ι] (P : Par) (T : ι → Fin 384 → EReal) (r : ι) : Fin 384 → EReal :=
  P.fin (P.mid (T r) (attn (fun i => P.qkv (T i)) r))

/-! ## Layer norm both ways -/

theorem sq_nonneg' (x : EReal) : 0 ≤ x * x := by
  induction x using EReal.rec with
  | bot => simp
  | top => simp
  | coe r => rw [← EReal.coe_mul]; exact_mod_cast mul_self_nonneg r

theorem c384_ne : Ideal.ofBits .f32 0x43C00000#32 ≠ 0 := by rw [c384_eq]; norm_num

theorem var_nonneg (x : Fin 384 → EReal) : 0 ≤ var x := by
  have h : 0 ≤ ∑ k, (x k - mean x) * (x k - mean x) := Finset.sum_nonneg fun k _ => sq_nonneg' _
  rw [var, Ideal.div, if_neg c384_ne]
  refine mul_nonneg h ?_
  rw [c384_eq, ← EReal.coe_inv]
  exact_mod_cast (by norm_num : (0 : ℝ) ≤ 384⁻¹)

theorem var_eps_pos (x : Fin 384 → EReal) : 0 < var x + Ideal.ofBits .f32 0x358637BD#32 := by
  obtain ⟨r, hr, e⟩ := eps_pos
  rw [e]
  have : (0 : EReal) < (r : EReal) := by exact_mod_cast hr
  exact lt_of_lt_of_le this (le_add_of_nonneg_left (var_nonneg x))

/-- Over the square root of what is above zero is times the reciprocal square root. -/
theorem div_sqrt (a y : EReal) (h : 0 < y) : Ideal.div a (Ideal.sqrt y) = a * Ideal.rsqrt y := by
  induction y using EReal.rec with
  | bot => simp at h
  | top => simp [Ideal.div]
  | coe r =>
    have hr : 0 < r := by exact_mod_cast h
    have hs : Real.sqrt r ≠ 0 := (Real.sqrt_pos.2 hr).ne'
    rw [Ideal.sqrt_coe, Ideal.rsqrt_coe, if_neg hr.le.not_gt, if_neg hr.le.not_gt, if_neg hr.ne', Ideal.div,
      if_neg (by exact_mod_cast hs), EReal.coe_inv]

/-- The layer norm by division. -/
theorem ln_div (g b x : Fin 384 → EReal) (k : Fin 384) :
    Ideal.div (x k - mean x) (Ideal.sqrt (var x + Ideal.ofBits .f32 0x358637BD#32)) * g k + b k = ln g b x k := by
  rw [div_sqrt _ _ (var_eps_pos x)]; rfl

/-- A row is divided by infinity unless all its distances to its mean are numbers: either way the quotient is one. -/
theorem centred_num (x : Fin 384 → EReal) (k : Fin 384) :
    Num ((x k - mean x) * Ideal.rsqrt (var x + Ideal.ofBits .f32 0x358637BD#32)) := by
  have hp := var_eps_pos x
  obtain ⟨e, _, he⟩ := eps_pos
  by_cases ht : var x + Ideal.ofBits .f32 0x358637BD#32 = ⊤
  · rw [ht, Ideal.rsqrt_top, mul_zero]
    exact Num.zero
  have hk : Num (x k - mean x) := by
    refine Num.of_sq fun hsq => ht ?_
    have hs : ∑ j, (x j - mean x) * (x j - mean x) = ⊤ := top_le_iff.1
      (hsq ▸ Finset.single_le_sum (f := fun j => (x j - mean x) * (x j - mean x)) (fun j _ => sq_nonneg' _) (Finset.mem_univ k))
    rw [var, hs, Ideal.div, if_neg c384_ne, c384_eq, ← EReal.coe_inv, EReal.top_mul_coe_of_pos (by norm_num), he, EReal.top_add_coe]
  have hr : Num (var x + Ideal.ofBits .f32 0x358637BD#32) := by
    generalize var x + Ideal.ofBits .f32 0x358637BD#32 = y at hp ht
    induction y using EReal.rec with
    | bot => simp at hp
    | top => exact absurd rfl ht
    | coe r => exact Num.coe r
  refine hk.mul ?_
  obtain ⟨r, hr⟩ := hr
  rw [hr] at hp ⊢
  have hr0 : 0 < r := by exact_mod_cast hp
  rw [Ideal.rsqrt_coe, if_neg hr0.le.not_gt, if_neg hr0.ne']
  exact Num.coe _

/-- A layer norm is a number whatever its row holds. -/
theorem ln_num {g b : Fin 384 → EReal} (hg : ∀ k, Num (g k)) (hb : ∀ k, Num (b k)) (x : Fin 384 → EReal) (k : Fin 384) :
    Num (ln g b x k) := ((centred_num x k).mul (hg k)).add (hb k)

theorem lin_num {m n : ℕ} {w : Fin m → Fin n → EReal} {b : Fin n → EReal} {x : Fin m → EReal} (hw : ∀ k j, Num (w k j))
    (hb : ∀ j, Num (b j)) (hx : ∀ k, Num (x k)) (j : Fin n) : Num (lin w b x j) :=
  (Num.sum _ fun k _ => (hx k).mul (hw k j)).add (hb j)

/-- The numbers among the parameters that a query, a key or a value is made of. -/
structure Par.Nums (P : Par) : Prop where
  g1 : ∀ k, Num (P.g1 k)
  b1 : ∀ k, Num (P.b1 k)
  qkvw : ∀ k j, Num (P.qkvw k j)
  qkvb : ∀ j, Num (P.qkvb j)

theorem Par.Nums.qkv {P : Par} (h : P.Nums) (x : Fin 384 → EReal) (j : Fin 1152) : Num (P.qkv x j) :=
  lin_num h.qkvw h.qkvb (ln_num h.g1 h.b1 x) j

theorem score_num {ι : Type} {q : Fin 64 → EReal} {K : ι → Fin 64 → EReal} (hq : ∀ c, Num (q c)) (i : ι)
    (hK : ∀ c, Num (K i c)) : Num (score q K i) :=
  (Num.sum _ fun c _ => (hq c).mul (hK c)).mul eighth_num

/-! ## The softmax, its masked keys, its order -/

/-- The order of the keys does not matter. -/
theorem soft_equiv {ι κ : Type} [Fintype ι] [Fintype κ] (e : ι ≃ κ) (s V : κ → EReal) :
    soft (fun i => s (e i)) (fun i => V (e i)) = soft s V := by
  have hsup : Finset.univ.sup (fun i => s (e i)) = Finset.univ.sup s := by
    refine le_antisymm (Finset.sup_le fun i _ => Finset.le_sup (f := s) (Finset.mem_univ (e i))) (Finset.sup_le fun k _ => ?_)
    have := Finset.le_sup (f := fun i => s (e i)) (Finset.mem_univ (e.symm k))
    simpa using this
  unfold soft
  rw [hsup, e.sum_comp fun j => Ideal.exp (s j - Finset.univ.sup s)]
  exact e.sum_comp fun i => Ideal.div (Ideal.exp (s i - Finset.univ.sup s)) (∑ j, Ideal.exp (s j - Finset.univ.sup s)) * V i

theorem exp_nonneg' (x : EReal) : 0 ≤ Ideal.exp x := by
  induction x using EReal.rec with
  | bot => simp
  | top => simp
  | coe r => rw [Ideal.exp_coe]; exact_mod_cast (Real.exp_pos r).le

theorem exp_zero' : Ideal.exp 0 = 1 := by
  rw [← EReal.coe_zero, Ideal.exp_coe]; simp

/-- Of scores that are numbers, the sum of exponentials is not zero. -/
theorem soft_sum_ne {ι : Type} [Fintype ι] [Nonempty ι] (s : ι → EReal) (h : ∀ i, Num (s i)) :
    ∑ j, Ideal.exp (s j - Finset.univ.sup s) ≠ 0 := by
  obtain ⟨i, _, hi⟩ := Finset.exists_mem_eq_sup Finset.univ Finset.univ_nonempty s
  have h1 : Ideal.exp (s i - Finset.univ.sup s) = 1 := by
    rw [hi]
    obtain ⟨r, hr⟩ := h i
    rw [hr, ← EReal.coe_sub, sub_self, EReal.coe_zero, exp_zero']
  have h2 : (1 : EReal) ≤ ∑ j, Ideal.exp (s j - Finset.univ.sup s) := by
    rw [← h1]
    exact Finset.single_le_sum (f := fun j => Ideal.exp (s j - Finset.univ.sup s)) (fun j _ => exp_nonneg' _) (Finset.mem_univ i)
  intro h0
  rw [h0] at h2
  exact absurd h2 (by norm_num)

/-- Keys at `⊥` past the first `n` contribute nothing. -/
theorem soft_mask {n p : ℕ} [NeZero n] (s V : Fin (n + p) → EReal) (hs : ∀ i : Fin n, Num (s (Fin.castAdd p i)))
    (hp : ∀ i : Fin p, s (Fin.natAdd n i) = ⊥) :
    soft s V = soft (fun i : Fin n => s (Fin.castAdd p i)) fun i => V (Fin.castAdd p i) := by
  have hsup : Finset.univ.sup s = Finset.univ.sup fun i : Fin n => s (Fin.castAdd p i) := by
    refine le_antisymm (Finset.sup_le fun i _ => ?_) (Finset.sup_le fun i _ => Finset.le_sup (f := s) (Finset.mem_univ _))
    refine Fin.addCases (fun i => Finset.le_sup (f := fun i : Fin n => s (Fin.castAdd p i)) (Finset.mem_univ i)) (fun i => ?_) i
    rw [hp]; exact bot_le
  have he : ∀ i : Fin p, Ideal.exp (s (Fin.natAdd n i) - Finset.univ.sup s) = 0 := fun i => by
    rw [hp, sub_eq_add_neg, EReal.bot_add, Ideal.exp_bot]
  have hne := soft_sum_ne (fun i : Fin n => s (Fin.castAdd p i)) hs
  rw [← hsup] at hne
  unfold soft
  rw [Fin.sum_univ_add, Fin.sum_univ_add, ← hsup]
  simp only [he, Finset.sum_const_zero, add_zero]
  refine (congrArg _ (Finset.sum_eq_zero fun i _ => ?_)).trans (add_zero _)
  rw [Ideal.div, if_neg hne, zero_mul, zero_mul]

/-! ## The Newton step on a count -/

/-- One step of Newton's iteration from the exact reciprocal of a count stays there. -/
theorem newton (r : ℝ) (hr : r ≠ 0) (a : EReal) :
    a * (Ideal.div 1 (r : EReal) * (Ideal.ofBits .f32 0x40000000#32 - (r : EReal) * Ideal.div 1 (r : EReal))) = Ideal.div a (r : EReal) := by
  have h0 : (r : EReal) ≠ 0 := by exact_mod_cast hr
  rw [two_eq, Ideal.div, if_neg h0, Ideal.div, if_neg h0, one_mul, ← EReal.coe_inv, ← EReal.coe_mul, mul_inv_cancel₀ hr,
    ← EReal.coe_sub, ← EReal.coe_mul]
  norm_num

/-- The complementary error function of the negated argument. -/
theorem gelu_erfc (x : EReal) :
    Ideal.ofBits .f32 0x3F000000#32 * x * Ideal.erfc (-x * Ideal.ofBits .f32 0x3F3504F3#32) = gelu x := by
  rw [gelu, neg_mul, Ideal.erfc_neg]

/-- A maximum folded from `⊥` is the supremum. -/
theorem fold_max {ι : Type} [Fintype ι] (s : ι → EReal) : Finset.fold max ⊥ s Finset.univ = Finset.univ.sup s := rfl

end Cert.Spec

end
-- ==== Proof.Finite.lean ====
/- What the precondition says: the first layer norm's and the qkv projection's parameters are real numbers. -/
module

public import proofs.«01_k».proof.Defs
public import proofs.«01_k».proof.Proof.Spec
public import Idealize.ShloMosaic.Lib.ReduceAll
public import Idealize.ShloMosaic.Lib.Affine

@[expose] public section

set_option maxRecDepth 16384

noncomputable section

namespace Cert.Pre_finite

open Idealize.ShloMosaic Cert.Spec

/-- The shape relations of the precondition's operations. -/
theorem facts : Facts where
  h_S_ := by decide
  bcast_S_S384 := by decide
  reducesTo_S384_S_d0 := by decide
  bcast_S_S384x1152 := by decide
  reducesTo_S384x1152_S_d0_1 := by decide
  bcast_S_S1152 := by decide
  reducesTo_S1152_S_d0 := by decide

instance : Subsingleton S_.Idx := ⟨fun a b => funext fun i => i.elim0⟩

theorem num_of_lt (x : EReal) (h : Ideal.cmp .olt (max x (-x)) (Ideal.ofBits .f32 0x7F800000#32) = 1#1) : Num x := by
  rw [posInf_eq] at h
  exact Num.of_abs (of_decide_eq_true (by
    cases e : decide (max x (-x) < ⊤)
    · rw [Ideal.cmp, e] at h
      exact absurd h (by decide)
    · rfl))

variable [Facts]
open Facts

/-- An array of which every absolute value compares below infinity holds numbers. -/
theorem all_num {s : Shape} {axes : List (Fin s.rank)} (x : FVec Ideal s .f32) (hb : S_.BroadcastsInDim s (![] : Fin 0 → Fin s.rank)) (hr : s.ReducesTo axes S_)
    (e : Host.reduce IntOp.andi (cmpf .olt (Host.absf x) (broadcastInDim s ![] hb (constant S_ .f32 0x7F800000#32))) (constantI S_ 1 1#1) hr h_S_ (fun a => a.elim0) = 1#1)
    (i : s.Idx) : Num (x i) :=
  num_of_lt _ (Host.reduce_andi_all _ _ hr h_S_ _ e i)

theorem nums (x0 : FVec Ideal S32x577x384 .f32) (x1 x2 : FVec Ideal S384 .f32) (x3 : FVec Ideal S384x1152 .f32) (x4 : FVec Ideal S1152 .f32)
    (x5 : FVec Ideal S384x384 .f32) (x6 x7 x8 : FVec Ideal S384 .f32) (x9 : FVec Ideal S384x1536 .f32) (x10 : FVec Ideal S1536 .f32)
    (x11 : FVec Ideal S1536x384 .f32) (x12 : FVec Ideal S384 .f32) (e : fn (F := Ideal) x0 x1 x2 x3 x4 x5 x6 x7 x8 x9 x10 x11 x12 = fun _ => 1#1) :
    (∀ i, Num (x1 i)) ∧ (∀ i, Num (x2 i)) ∧ (∀ i, Num (x3 i)) ∧ ∀ i, Num (x4 i) := by
  have e := congrFun e fun a => a.elim0
  obtain ⟨e, e4⟩ := IntOp.andi_eq_one.1 e
  obtain ⟨e, e3⟩ := IntOp.andi_eq_one.1 e
  obtain ⟨e1, e2⟩ := IntOp.andi_eq_one.1 e
  exact ⟨all_num x1 _ _ e1, all_num x2 _ _ e2, all_num x3 _ _ e3, all_num x4 _ _ e4⟩

end Cert.Pre_finite
end
-- ==== Proof.Frames.lean ====
/- The frames, the facts about the precondition's shapes, and the step from the kernel to its idealized form. -/
module

public import proofs.«01_k».proof.Defs
public import proofs.«01_k».proof.Proof.FrameKernel
public import proofs.«01_k».proof.Proof.FrameKernelIdeal
public import proofs.«01_k».proof.Proof.Reference
public import proofs.«01_k».proof.Proof.Finite

@[expose] public section

noncomputable section

namespace Cert.Proof

open Idealize.ShloMosaic Idealize.SL.Sem

theorem quiescent_kernel : @Cert.quiescent_Kernel Cert.Kernel.Gen.facts := fun m ρ _ => Cert.Kernel.Gen.frame m ρ

theorem quiescent_kernelIdeal : @Cert.quiescent_KernelIdeal Cert.KernelIdeal.Gen.facts := fun m ρ _ => Cert.KernelIdeal.Gen.frame m ρ

theorem quiescent_referenceIdeal : @Cert.quiescent_ReferenceIdeal Cert.ReferenceIdeal.Gen.facts := fun m ρ _ =>
  (θ_run _ _ _).mono (fun r h => ⟨fun c => by
    refine ⟨?_, ?_, ?_, ?_, ?_, ?_, ?_, ?_, ?_, ?_, ?_, ?_, ?_⟩ <;>
    exact (h c _).trans ((Cert.ReferenceIdeal.Run.keep _ _ (by decide)).trans rfl), by
    funext g
    rcases g with ⟨t, s⟩
    rcases s with s | s <;> exact s.elim0⟩)
    (Cert.ReferenceIdeal.Run.run m ρ)

theorem quiescent_kernelIdeal_finite : @Cert.quiescent_KernelIdeal_pre_finite Cert.KernelIdeal.Gen.facts Cert.Pre_finite.facts :=
  fun m ρ _ => quiescent_kernelIdeal m ρ trivial

theorem quiescent_referenceIdeal_finite : @Cert.quiescent_ReferenceIdeal_pre_finite Cert.ReferenceIdeal.Gen.facts Cert.Pre_finite.facts :=
  fun m ρ _ => quiescent_referenceIdeal m ρ trivial

theorem preserves_kernel : Cert.preserves_Kernel_KernelIdeal :=
  IdealRules.named_const.statement Cert.KernelIdeal.κ "mask" .f32 0xF149F2CA#32 ⊥ rfl

end Cert.Proof

end
-- ==== Proof.Body.lean ====
/- The kernel's body at an index: the rows it stores, as functions of the blocks it loads. -/
module

public import proofs.«01_k».proof.Proof.Gen.KernelIdeal.Skeleton
public import proofs.«01_k».proof.Proof.Spec

@[expose] public section

set_option maxRecDepth 16384

noncomputable section

namespace Cert.KernelIdeal.Body

open Cert.KernelIdeal Cert.KernelIdeal.Gen Idealize.ShloMosaic Cert.Spec
open scoped BigOperators

/-- The score of a key, `⊥` past the 561 rows that are tokens. -/
def masked (s : Fin 576 → EReal) (i : Fin 576) : EReal := if i.val < 561 then s i else ⊥

theorem mask_const : (Named.named κ "mask" 0xF149F2CA#32 : Ideal .f32) = ⊥ := rfl

theorem lt561 : ∀ j : Fin 576, IntOp.cmpi .slt (BitVec.ofNat 32 j.val) 561#32 = BitVec.ofBool (decide (j.val < 561)) := by
  decide +kernel

theorem pay12_apply (i j : Fin 576) : k0_pay12 (ix2 i j) = BitVec.ofBool (decide (j.val < 561)) := by
  pointwise [k0_pay12]
  exact lt561 j

theorem select_masked (i : Fin 576) (s : Fin 576 → EReal) (j : Fin 576) :
    Scalar.select (k0_pay12 (ix2 i j)) (s j) (Named.named κ "mask" 0xF149F2CA#32 : Ideal .f32) = masked s j := by
  rw [pay12_apply, mask_const]
  unfold masked
  by_cases h : j.val < 561 <;> simp [h, Scalar.select]

/-- One head: the masked softmax of the scores of `q` and `k`, times `v`. -/
def head (q k v : FVec Ideal S576x64 .f32) : FVec Ideal S576x64 .f32 :=
  let s : FVec Ideal S576x576 .f32 :=
    select k0_pay12
      (mulf (matmul dot_S576x64_S576x64_S576x576_1_1_0_0_n_n none q k (constant S576x576 .f32 0x00000000#32))
        (broadcast S576x576 (Scalar.ofBits .f32 0x3E000000#32)))
      (broadcast S576x576 (Named.named κ "mask" 0xF149F2CA#32))
  let m : FVec Ideal S576 .f32 := multiReduction .maximumf [1] S576 s 0xFF800000#32 reduces_S576x576_S576 (.inl rfl) rfl
  let e : FVec Ideal S576x576 .f32 :=
    exp (subf s (broadcastTo S576x576 (shapeCast S576x1 m shapeCasts_S576_S576x1) broadcasts_S576x1_S576x576))
  let z : FVec Ideal S576 .f32 := multiReduction .add [1] S576 e 0x00000000#32 reduces_S576x576_S576 (.inl rfl) rfl
  matmul dot_S576x576_S576x64_S576x64_1_0_0_1_n_n none
    (divf e (broadcastTo S576x576 (shapeCast S576x1 z shapeCasts_S576_S576x1) broadcasts_S576x1_S576x576)) v
    (constant S576x64 .f32 0x00000000#32)

theorem head_apply (q k v : FVec Ideal S576x64 .f32) (r : Fin 576) (d : Fin 64) :
    head q k v (ix2 r d)
      = soft (masked (score (fun c => q (ix2 r c)) fun i c => k (ix2 i c))) fun i => v (ix2 i d) := by
  have e : ∀ x, Scalar.select (k0_pay12 (ix2 r x)) ((∑ c, q (ix2 r c) * k (ix2 x c)) * Ideal.ofBits .f32 0x3E000000#32)
      (Named.named κ "mask" 0xF149F2CA#32 : Ideal .f32) = masked (score (fun c => q (ix2 r c)) fun i c => k (ix2 i c)) x :=
    fun x => select_masked r (score (fun c => q (ix2 r c)) fun i c => k (ix2 i c)) x
  pointwise [head]
  simp only [e, negInf_eq]
  rfl

/-- The masked attention of the rows `Q`, at row `r` and column `k`. -/
def attnM (Q : Fin 576 → Fin 1152 → EReal) (r : Fin 576) (k : Fin 384) : EReal :=
  soft (masked (score (fun c => Q r (headCol 0 k c)) fun i c => Q i (headCol 1 k c))) fun i => Q i (headCol 2 k (inHead k))

theorem attnM_at (Q : Fin 576 → Fin 1152 → EReal) (r : Fin 576) (k : Fin 384) (h : ℕ) (d : Fin 64) (hk : k.val = 64 * h + d.val)
    (q : Fin 64 → Fin 1152) (K : Fin 64 → Fin 1152) (v : Fin 1152) (hq : ∀ c, (q c).val = 64 * h + c.val)
    (hK : ∀ c, (K c).val = 384 + 64 * h + c.val) (hv : v.val = 768 + 64 * h + d.val) :
    soft (masked (score (fun c => Q r (q c)) fun i c => Q i (K c))) (fun i => Q i v) = attnM Q r k := by
  have h0 : k.val / 64 = h := by have := d.isLt; omega
  have h1 : k.val % 64 = d.val := by have := d.isLt; omega
  have e0 : q = headCol 0 k := funext fun c => Fin.ext (by rw [hq]; simp only [headCol, h0]; simp; omega)
  have e1 : K = headCol 1 k := funext fun c => Fin.ext (by rw [hK]; simp only [headCol, h0]; simp; omega)
  have e2 : v = headCol 2 k (inHead k) := Fin.ext (by rw [hv]; simp only [headCol, inHead, h0, h1]; simp; omega)
  subst e0 e1 e2
  rfl

/-- The six heads side by side. -/
def heads (v81 : FVec Ideal S576x1152 .f32) : FVec Ideal S576x384 .f32 :=
  concatenate S576x384 1
    [⟨S576x64, head (extractStridedSlice S576x64 ![0, 0] v81 slices_S576x1152_o0_0_S576x64)
        (extractStridedSlice S576x64 ![0, 384] v81 slices_S576x1152_o0_384_S576x64)
        (extractStridedSlice S576x64 ![0, 768] v81 slices_S576x1152_o0_768_S576x64)⟩,
      ⟨S576x64, head (extractStridedSlice S576x64 ![0, 64] v81 slices_S576x1152_o0_64_S576x64)
        (extractStridedSlice S576x64 ![0, 448] v81 slices_S576x1152_o0_448_S576x64)
        (extractStridedSlice S576x64 ![0, 832] v81 slices_S576x1152_o0_832_S576x64)⟩,
      ⟨S576x64, head (extractStridedSlice S576x64 ![0, 128] v81 slices_S576x1152_o0_128_S576x64)
        (extractStridedSlice S576x64 ![0, 512] v81 slices_S576x1152_o0_512_S576x64)
        (extractStridedSlice S576x64 ![0, 896] v81 slices_S576x1152_o0_896_S576x64)⟩,
      ⟨S576x64, head (extractStridedSlice S576x64 ![0, 192] v81 slices_S576x1152_o0_192_S576x64)
        (extractStridedSlice S576x64 ![0, 576] v81 slices_S576x1152_o0_576_S576x64)
        (extractStridedSlice S576x64 ![0, 960] v81 slices_S576x1152_o0_960_S576x64)⟩,
      ⟨S576x64, head (extractStridedSlice S576x64 ![0, 256] v81 slices_S576x1152_o0_256_S576x64)
        (extractStridedSlice S576x64 ![0, 640] v81 slices_S576x1152_o0_640_S576x64)
        (extractStridedSlice S576x64 ![0, 1024] v81 slices_S576x1152_o0_1024_S576x64)⟩,
      ⟨S576x64, head (extractStridedSlice S576x64 ![0, 320] v81 slices_S576x1152_o0_320_S576x64)
        (extractStridedSlice S576x64 ![0, 704] v81 slices_S576x1152_o0_704_S576x64)
        (extractStridedSlice S576x64 ![0, 1088] v81 slices_S576x1152_o0_1088_S576x64)⟩]
    concatenates_S576x64_S576x64_S576x64_S576x64_S576x64_S576x64_S576x384_d1

/-- A head whose operands are the slices at columns `o`, `o + 384` and `o + 768`, `o = 64 h`, is that head of `attnM`. -/
theorem head_attnM (v81 : FVec Ideal S576x1152 .f32) (r : Fin 576) (k : Fin 384) (h : ℕ) (d : Fin 64) (hk : k.val = 64 * h + d.val)
    (o0 o1 o2 : ℕ) (s0 : S576x1152.Slices ![0, o0] S576x64) (s1 : S576x1152.Slices ![0, o1] S576x64)
    (s2 : S576x1152.Slices ![0, o2] S576x64) (h0 : o0 = 64 * h) (h1 : o1 = 384 + 64 * h) (h2 : o2 = 768 + 64 * h) :
    head (extractStridedSlice S576x64 ![0, o0] v81 s0) (extractStridedSlice S576x64 ![0, o1] v81 s1)
        (extractStridedSlice S576x64 ![0, o2] v81 s2) (ix2 r d)
      = attnM (fun i j => v81 (ix2 i j)) r k := by
  have hk' := k.isLt
  rw [head_apply]
  pointwise []
  exact attnM_at (fun i j => v81 (ix2 i j)) r k h d hk (fun c => ⟨o0 + c.val, by omega⟩) (fun c => ⟨o1 + c.val, by omega⟩)
    ⟨o2 + d.val, by omega⟩ (fun c => by simp only [h0]) (fun c => by simp only [h1]) (by simp only [h2])

theorem heads_apply (v81 : FVec Ideal S576x1152 .f32) (r : Fin 576) (k : Fin 384) :
    heads v81 (ix2 r k) = attnM (fun i j => v81 (ix2 i j)) r k := by
  have hk := k.isLt
  pointwise [heads]
  split_ifs
  all_goals first
    | exact head_attnM v81 r k 0 _ (by dsimp only; omega) _ _ _ _ _ _ rfl rfl rfl
    | exact head_attnM v81 r k 1 _ (by dsimp only; omega) _ _ _ _ _ _ rfl rfl rfl
    | exact head_attnM v81 r k 2 _ (by dsimp only; omega) _ _ _ _ _ _ rfl rfl rfl
    | exact head_attnM v81 r k 3 _ (by dsimp only; omega) _ _ _ _ _ _ rfl rfl rfl
    | exact head_attnM v81 r k 4 _ (by dsimp only; omega) _ _ _ _ _ _ rfl rfl rfl
    | exact head_attnM v81 r k 5 _ (by dsimp only; omega) _ _ _ _ _ _ rfl rfl rfl

/-- Attention, projection and the first residual. -/
theorem mid_eq (t2 : FVec Ideal S576x384 .f32) (v81 : FVec Ideal S576x1152 .f32) (w : Vec Ideal S384x384 .f32)
    (b : Vec Ideal S384 .f32) :
    k0_pay23 t2 v81 k0_pay12
        (k0_pay14 v81 k0_pay12 (extractStridedSlice S576x64 ![0, 0] v81 slices_S576x1152_o0_0_S576x64)) (k0_pay15 v81 k0_pay12)
        (k0_pay19 (k0_pay16 v81) (k0_pay17 v81 k0_pay12) (k0_pay18 v81 k0_pay12)) (k0_pay20 v81 k0_pay12) (k0_pay21 v81 k0_pay12)
        (k0_pay22 v81) w b
      = addf (addf t2 (matmul (F := Ideal) dot_S576x384_S384x384_S576x384_1_0_0_1_n_n (φ₂ := .f32) none (heads v81) w
          (constant S576x384 .f32 0x00000000#32)))
          (broadcastTo S576x384 (shapeCast S1x384 b shapeCasts_S384_S1x384) broadcasts_S1x384_S576x384) := rfl

theorem mid_apply (t2 : FVec Ideal S576x384 .f32) (v81 : FVec Ideal S576x1152 .f32) (w : Vec Ideal S384x384 .f32)
    (b : Vec Ideal S384 .f32) (r : Fin 576) (d : Fin 384) :
    addf (addf t2 (matmul (F := Ideal) dot_S576x384_S384x384_S576x384_1_0_0_1_n_n (φ₂ := .f32) none (heads v81) w
          (constant S576x384 .f32 0x00000000#32)))
          (broadcastTo S576x384 (shapeCast S1x384 b shapeCasts_S384_S1x384) broadcasts_S1x384_S576x384) (ix2 r d)
      = t2 (ix2 r d) + lin (fun k j => w (ix2 k j)) (fun j => b (ix1 j)) (attnM (fun i j => v81 (ix2 i j)) r) d := by
  pointwise []
  simp only [heads_apply]
  rw [add_assoc]
  rfl

/-- Queries, keys and values. -/
theorem qkv_apply (v3 v34 : FVec Ideal S288x384 .f32) (v39 : IVec S288x288 1) (v40 v41 : FVec Ideal S288x288 .f32)
    (v45 : Vec Ideal S1x16x384 .f32) (g b : Vec Ideal S384 .f32) (w : Vec Ideal S384x1152 .f32) (c : Vec Ideal S1152 .f32)
    (r : Fin 576) (j : Fin 1152) :
    k0_pay11 v3 v34 v39 v40 v41 v45 g b w c (ix2 r j)
      = lin (fun k j => w (ix2 k j)) (fun j => c (ix1 j))
          (ln (fun k => g (ix1 k)) (fun k => b (ix1 k)) fun k => k0_pay10 v3 v34 v39 v40 v41 v45 (ix2 r k)) j := by
  unfold k0_pay11
  generalize k0_pay10 v3 v34 v39 v40 v41 v45 = t2
  pointwise []
  rfl

/-- The second layer norm, the two-layer network and the second residual, on rows `x2`. -/
theorem fin_apply (v47 : FVec Ideal S576x384 .f32) (v81 : FVec Ideal S576x1152 .f32) (v84 : IVec S576x576 1)
    (h0 h1 h2 h3 h4 h5 : FVec Ideal S576x64 .f32) (pw : Vec Ideal S384x384 .f32) (pb g b : Vec Ideal S384 .f32)
    (w1 : Vec Ideal S384x1536 .f32) (c1 : Vec Ideal S1536 .f32) (w2 : Vec Ideal S1536x384 .f32) (c2 : Vec Ideal S384 .f32)
    (r : Fin 576) (d : Fin 384) :
    k0_pay1 (k0_pay23 v47 v81 v84 h0 h1 h2 h3 h4 h5 pw pb) g b (k0_pay25 v47 v81 v84 h0 h1 h2 h3 h4 h5 pw pb)
        (k0_pay26 v47 v81 v84 h0 h1 h2 h3 h4 h5 pw pb) (k0_pay27 (F := Ideal)) w1 c1 w2 c2 (ix3 (0 : Fin 1) r d)
      = k0_pay23 v47 v81 v84 h0 h1 h2 h3 h4 h5 pw pb (ix2 r d)
        + lin (fun k j => w2 (ix2 k j)) (fun j => c2 (ix1 j))
            (fun j => gelu (lin (fun k j => w1 (ix2 k j)) (fun j => c1 (ix1 j))
              (ln (fun k => g (ix1 k)) (fun k => b (ix1 k))
                fun k => k0_pay23 v47 v81 v84 h0 h1 h2 h3 h4 h5 pw pb (ix2 r k)) j)) d := by
  unfold k0_pay25 k0_pay26 k0_pay24
  generalize k0_pay23 v47 v81 v84 h0 h1 h2 h3 h4 h5 pw pb = x2
  pointwise [k0_pay1, k0_pay27]
  rw [add_assoc]
  rfl

end Cert.KernelIdeal.Body
end
-- ==== Proof.Out.lean ====
/- What the kernel's body leaves in its output block, row by row. -/
module

public import proofs.«01_k».proof.Proof.Body
public import proofs.«01_k».proof.Proof.FrameKernelIdeal
public import Idealize.ShloMosaic.Lib.Pipeline.Value

@[expose] public section

set_option maxRecDepth 16384

noncomputable section

namespace Cert.KernelIdeal.Body

open Cert.KernelIdeal Cert.KernelIdeal.Gen Idealize.ShloMosaic Cert.Spec
open scoped BigOperators

theorem z1 : (![0] : Fin 1 → ℕ) = fun _ => 0 := by decide
theorem z2 : (![0, 0] : Fin 2 → ℕ) = fun _ => 0 := by decide
theorem z3 : (![0, 0, 0] : Fin 3 → ℕ) = fun _ => 0 := by decide

theorem ld_0 (x : Vec Ideal S1x288x768 .f32) : View.ld x r0_0 = x := View.ld_unit_zero z3 _ x
theorem ld_1 (x : Vec Ideal S1x8x288 .f32) : View.ld x r0_1 = x := View.ld_unit_zero z3 _ x
theorem ld_2 (x : Vec Ideal S1x16x384 .f32) : View.ld x r0_2 = x := View.ld_unit_zero z3 _ x
theorem ld_3 (x : Vec Ideal S384 .f32) : View.ld x r0_3 = x := View.ld_unit_zero z1 _ x
theorem ld_4 (x : Vec Ideal S384x1152 .f32) : View.ld x r0_4 = x := View.ld_unit_zero z2 _ x
theorem ld_5 (x : Vec Ideal S1152 .f32) : View.ld x r0_5 = x := View.ld_unit_zero z1 _ x
theorem ld_6 (x : Vec Ideal S384x384 .f32) : View.ld x r0_6 = x := View.ld_unit_zero z2 _ x
theorem ld_7 (x : Vec Ideal S384x1536 .f32) : View.ld x r0_7 = x := View.ld_unit_zero z2 _ x
theorem ld_8 (x : Vec Ideal S1536 .f32) : View.ld x r0_8 = x := View.ld_unit_zero z1 _ x
theorem ld_9 (x : Vec Ideal S1536x384 .f32) : View.ld x r0_9 = x := View.ld_unit_zero z2 _ x

/-- The parameters in their buffers. -/
def par (x3 x4 : Vec Ideal S384 .f32) (x5 : Vec Ideal S384x1152 .f32) (x6 : Vec Ideal S1152 .f32) (x7 : Vec Ideal S384x384 .f32)
    (x8 x9 x10 : Vec Ideal S384 .f32) (x11 : Vec Ideal S384x1536 .f32) (x12 : Vec Ideal S1536 .f32)
    (x13 : Vec Ideal S1536x384 .f32) (x14 : Vec Ideal S384 .f32) : Par where
  g1 k := x3 (ix1 k)
  b1 k := x4 (ix1 k)
  qkvw k j := x5 (ix2 k j)
  qkvb j := x6 (ix1 j)
  projw k j := x7 (ix2 k j)
  projb j := x8 (ix1 j)
  g2 k := x9 (ix1 k)
  b2 k := x10 (ix1 k)
  fc1w k j := x11 (ix2 k j)
  fc1b j := x12 (ix1 j)
  fc2w k j := x13 (ix2 k j)
  fc2b j := x14 (ix1 j)

/-- The merged rows, as the body makes them of the blocks of tokens, of the class row and of the routing. -/
def rows (x0 : Vec Ideal S1x288x768 .f32) (x1 : Vec Ideal S1x16x384 .f32) (x2 : Vec Ideal S1x8x288 .f32) : FVec Ideal S576x384 .f32 :=
  k0_pay10 (k0_pay3 x0) (k0_pay6 x0 x2) (k0_pay7 x2) (k0_pay8 (F := Ideal)) (k0_pay9 (F := Ideal)) x1

set_option maxHeartbeats 1000000 in
theorem out_apply (x0 : Vec Ideal S1x288x768 .f32) (x1 : Vec Ideal S1x16x384 .f32) (x2 : Vec Ideal S1x8x288 .f32)
    (x3 x4 : Vec Ideal S384 .f32) (x5 : Vec Ideal S384x1152 .f32) (x6 : Vec Ideal S1152 .f32) (x7 : Vec Ideal S384x384 .f32)
    (x8 x9 x10 : Vec Ideal S384 .f32) (x11 : Vec Ideal S384x1536 .f32) (x12 : Vec Ideal S1536 .f32)
    (x13 : Vec Ideal S1536x384 .f32) (x14 : Vec Ideal S384 .f32) (r : Fin 576) (d : Fin 384) :
    out0_15 x0 x1 x2 x3 x4 x5 x6 x7 x8 x9 x10 x11 x12 x13 x14 (ix3 (0 : Fin 1) r d)
      = (par x3 x4 x5 x6 x7 x8 x9 x10 x11 x12 x13 x14).fin ((par x3 x4 x5 x6 x7 x8 x9 x10 x11 x12 x13 x14).mid
          (fun k => rows x0 x1 x2 (ix2 r k))
          (attnM (fun i => (par x3 x4 x5 x6 x7 x8 x9 x10 x11 x12 x13 x14).qkv fun k => rows x0 x1 x2 (ix2 i k)) r)) d := by
  unfold out0_15
  rw [View.canon_unit_zero z3]
  simp only [k0_pay28, k0_pay29, k0_pay30, k0_pay31, k0_pay32, k0_pay33, k0_pay34, k0_pay35, k0_pay36, k0_pay37, k0_pay38, k0_pay39,
    k0_pay40, k0_pay41]
  simp only [ld_0, ld_1, ld_2, ld_3, ld_4, ld_5, ld_6, ld_7, ld_8, ld_9]
  rw [fin_apply]
  have e13 : k0_pay13 (k0_pay3 x0) (k0_pay6 x0 x2) (k0_pay7 x2) (k0_pay8 (F := Ideal)) (k0_pay9 (F := Ideal)) x1 x3 x4 x5 x6
      = extractStridedSlice S576x64 ![0, 0] (k0_pay11 (k0_pay3 x0) (k0_pay6 x0 x2) (k0_pay7 x2) (k0_pay8 (F := Ideal)) (k0_pay9 (F := Ideal)) x1 x3 x4 x5 x6)
          slices_S576x1152_o0_0_S576x64 := rfl
  rw [e13, mid_eq]
  simp only [mid_apply, qkv_apply]
  rfl

end Cert.KernelIdeal.Body
end
-- ==== Proof.Bridge.lean ====
/- The kernel's masked rows and the reference's rows: the same block, the class row put last instead of first. -/
module

public import proofs.«01_k».proof.Proof.Body

@[expose] public section

set_option maxRecDepth 16384

noncomputable section

namespace Cert.KernelIdeal.Body

open Idealize.ShloMosaic Cert.Spec
open scoped BigOperators

/-- Where the kernel keeps row `i` of the reference: the class row at 560, every other row one place up. -/
def seatFn (i : Fin 561) : Fin 561 := if h : i.val = 0 then ⟨560, by omega⟩ else ⟨i.val - 1, by omega⟩

def seatInv (j : Fin 561) : Fin 561 := if h : j.val = 560 then ⟨0, by omega⟩ else ⟨j.val + 1, by omega⟩

def seatEquiv : Fin 561 ≃ Fin 561 where
  toFun := seatFn
  invFun := seatInv
  left_inv i := by
    by_cases h : i.val = 0
    · have e : seatFn i = ⟨560, by omega⟩ := dif_pos h
      rw [e]; exact Fin.ext h.symm
    · have e : seatFn i = ⟨i.val - 1, by omega⟩ := dif_neg h
      rw [e]
      have e' : seatInv ⟨i.val - 1, by omega⟩ = ⟨i.val - 1 + 1, by omega⟩ := dif_neg (show ¬ i.val - 1 = 560 by omega)
      rw [e']; exact Fin.ext (show i.val - 1 + 1 = i.val by omega)
  right_inv j := by
    by_cases h : j.val = 560
    · have e : seatInv j = ⟨0, by omega⟩ := dif_pos h
      rw [e]; exact Fin.ext h.symm
    · have e : seatInv j = ⟨j.val + 1, by omega⟩ := dif_neg h
      rw [e]
      have e' : seatFn ⟨j.val + 1, by omega⟩ = ⟨j.val + 1 - 1, by omega⟩ := dif_neg (show ¬ j.val + 1 = 0 by omega)
      rw [e']; exact Fin.ext (show j.val + 1 - 1 = j.val by omega)

/-- The same place among the 576 rows. -/
def seat (i : Fin 561) : Fin 576 := ⟨(seatFn i).val, by omega⟩

theorem attn_seat (Q : Fin 576 → Fin 1152 → EReal) (R : Fin 561 → Fin 1152 → EReal) (hQ : ∀ i, Q (seat i) = R i)
    (hR : ∀ i j, Num (R i j)) (r : Fin 561) (k : Fin 384) : attnM Q (seat r) k = attn R r k := by
  have hsurj : ∀ i : Fin 561, Q ⟨i.val, by omega⟩ = R (seatEquiv.symm i) := fun i => by
    rw [← hQ (seatEquiv.symm i)]
    congr 1
    apply Fin.ext
    show i.val = (seatEquiv (seatEquiv.symm i)).val
    rw [Equiv.apply_symm_apply]
  haveI : NeZero 561 := ⟨by decide⟩
  have hm := soft_mask (n := 561) (p := 15)
    (masked (score (fun c => Q (seat r) (headCol 0 k c)) fun i c => Q i (headCol 1 k c)))
    (fun i => Q i (headCol 2 k (inHead k)))
    (fun i => by
      unfold masked
      rw [if_pos (show (Fin.castAdd 15 i).val < 561 from i.isLt)]
      refine score_num (fun c => ?_) _ fun c => ?_
      · rw [hQ]; exact hR _ _
      · rw [show Q (Fin.castAdd 15 i) = R (seatEquiv.symm i) from hsurj i]; exact hR _ _)
    (fun i => by
      unfold masked
      rw [if_neg (show ¬ (Fin.natAdd 561 i).val < 561 by rw [Fin.val_natAdd]; omega)])
  refine hm.trans ?_
  unfold attn
  rw [← soft_equiv seatEquiv.symm (score (fun c => R r (headCol 0 k c)) fun i c => R i (headCol 1 k c))]
  congr 1
  · funext i
    unfold masked
    rw [if_pos (show (Fin.castAdd 15 i).val < 561 from i.isLt)]
    unfold score
    rw [hQ]
    simp only [show Q (Fin.castAdd 15 i) = R (seatEquiv.symm i) from hsurj i]
  · funext i
    exact congrFun (hsurj i) _

/-- The kernel's row is the reference's. -/
theorem block_seat (P : Par) (hP : P.Nums) (T : Fin 576 → Fin 384 → EReal) (R : Fin 561 → Fin 384 → EReal)
    (hT : ∀ i, T (seat i) = R i) (r : Fin 561) :
    P.fin (P.mid (T (seat r)) (attnM (fun i => P.qkv (T i)) (seat r))) = P.block R r := by
  unfold Par.block
  rw [hT]
  congr 2
  funext k
  exact attn_seat _ _ (fun i => by rw [hT]) (fun i j => hP.qkv (R i) j) r k

end Cert.KernelIdeal.Body
end
-- ==== Proof.Order.lean ====
/- A stable sort by a 0/1 key lists the unmarked positions first and in their order: the place of an unmarked position
   in that list is the number of unmarked positions before it. -/
module

public import Idealize.ShloMosaic.Lib.SortFacts
public import Mathlib.Data.Fintype.Card
public import Mathlib.Order.Interval.Finset.Fin

@[expose] public section

noncomputable section

namespace Cert.Order

open Idealize.ShloMosaic

section stable
variable {n : ℕ} (key : Fin n → ℤ)

/-- By the key, and among equal keys by the position. -/
def Lex (a b : Fin n) : Prop := key a < key b ∨ key a = key b ∧ a < b

/-- Strictly before by the key alone. -/
def less (a b : Fin n) : Bool := decide (key a < key b)

theorem lex_insert (a : Fin n) (l : List (Fin n)) (ha : ∀ c ∈ l, a < c) (hl : l.Pairwise (Lex key)) :
    (insertBefore (less key) a l).Pairwise (Lex key) := by
  induction l with
  | nil => exact List.pairwise_singleton _ _
  | cons b l ih =>
    rw [List.pairwise_cons] at hl
    unfold insertBefore
    split
    · rename_i h
      have hb : key b < key a := by simpa [less] using h
      refine List.pairwise_cons.mpr ⟨fun c hc => ?_, ih (fun c hc => ha c (List.mem_cons_of_mem _ hc)) hl.2⟩
      rcases List.mem_cons.mp ((perm_insertBefore (less key) a l).mem_iff.mp hc) with rfl | hc'
      · exact .inl hb
      · exact hl.1 c hc'
    · rename_i h
      have hb : key a ≤ key b := by simpa [less] using h
      refine List.pairwise_cons.mpr ⟨fun c hc => ?_, List.pairwise_cons.mpr hl⟩
      have hac := ha c hc
      rcases List.mem_cons.mp hc with rfl | hc'
      · rcases lt_or_eq_of_le hb with h | h
        · exact .inl h
        · exact .inr ⟨h, hac⟩
      · have hkc : key b ≤ key c := by
          rcases hl.1 c hc' with h | h
          · exact h.le
          · exact h.1.le
        rcases lt_or_eq_of_le (hb.trans hkc) with h | h
        · exact .inl h
        · exact .inr ⟨h, hac⟩

theorem lex_sort (l : List (Fin n)) (hl : l.Pairwise (· < ·)) : (stableSort (less key) l).Pairwise (Lex key) := by
  induction l with
  | nil => exact List.Pairwise.nil
  | cons a l ih =>
    rw [List.pairwise_cons] at hl
    unfold stableSort
    exact lex_insert key a _ (fun c hc => hl.1 c ((perm_stableSort _ l).mem_iff.mp hc)) (ih hl.2)

theorem sorted_lex (i j : Fin n) (hij : i < j) : Lex key (sortedFrom (less key) i) (sortedFrom (less key) j) := by
  have hp : ∀ a b : Fin (sortPositions n (less key)).length, a < b →
      Lex key ((sortPositions n (less key)).get a) ((sortPositions n (less key)).get b) :=
    List.pairwise_iff_get.mp (lex_sort key (List.finRange n) (List.pairwise_lt_finRange n))
  unfold sortedFrom
  exact hp _ _ (by simp only [Fin.lt_def, Fin.val_cast]; exact hij)

end stable

/-- A downward closed set of positions is an initial segment. -/
theorem initial {n : ℕ} (S : Finset (Fin n)) (hS : ∀ a b, a < b → b ∈ S → a ∈ S) (q : Fin n) : q ∈ S ↔ q.val < S.card := by
  constructor
  · intro hq
    have : Finset.Iic q ⊆ S := fun a ha => by
      rcases lt_or_eq_of_le (Finset.mem_Iic.mp ha) with h | h
      · exact hS a q h hq
      · exact h ▸ hq
    have := Finset.card_le_card this
    rw [Fin.card_Iic] at this
    omega
  · intro hq
    by_contra hn
    have : S ⊆ Finset.Iio q := fun a ha => by
      rw [Finset.mem_Iio]
      by_contra hle
      rcases lt_or_eq_of_le (not_lt.mp hle) with h | h
      · exact hn (hS q a h ha)
      · exact hn (h ▸ ha)
    have := Finset.card_le_card this
    rw [Fin.card_Iio] at this
    omega

variable {n : ℕ} (M : Fin n → Prop) [DecidablePred M]

/-- The key of a position: 1 if it is marked. -/
def mark (x : Fin n) : ℤ := if M x then 1 else 0

/-- The position a stable sort by the mark puts at `p`. -/
def place (p : Fin n) : Fin n := sortedFrom (less (mark M)) p

/-- How many unmarked positions lie before `x`. -/
def rank (x : Fin n) : ℕ := (Finset.univ.filter fun y => y < x ∧ ¬ M y).card

theorem place_injective : Function.Injective (place M) := sortedFrom_injective _
theorem place_surjective : Function.Surjective (place M) := sortedFrom_surjective _

theorem place_unmarked (p : Fin n) : ¬ M (place M p) ↔ p.val < (Finset.univ.filter fun y => ¬ M y).card := by
  have hcard : (Finset.univ.filter fun y => ¬ M y).card = (Finset.univ.filter fun q => ¬ M (place M q)).card := by
    rw [← Finset.card_image_of_injective (Finset.univ.filter fun q => ¬ M (place M q)) (place_injective M)]
    congr 1
    ext y
    simp only [Finset.mem_filter, Finset.mem_univ, true_and, Finset.mem_image]
    constructor
    · intro hy
      obtain ⟨q, rfl⟩ := place_surjective M y
      exact ⟨q, hy, rfl⟩
    · rintro ⟨q, hq, rfl⟩
      exact hq
  rw [hcard, ← initial (Finset.univ.filter fun q => ¬ M (place M q))]
  · simp
  · intro a b hab hb
    simp only [Finset.mem_filter, Finset.mem_univ, true_and] at hb ⊢
    intro ha
    have h := sorted_lex (mark M) a b hab
    have e1 : mark M (sortedFrom (less (mark M)) a) = 1 := if_pos ha
    have e0 : mark M (sortedFrom (less (mark M)) b) = 0 := if_neg hb
    rcases h with h | h
    · rw [e1, e0] at h; omega
    · rw [e1, e0] at h; omega

theorem rank_place (p : Fin n) (hp : p.val < (Finset.univ.filter fun y => ¬ M y).card) : rank M (place M p) = p.val := by
  have hm : ∀ q : Fin n, q.val ≤ p.val → ¬ M (place M q) := fun q hq => (place_unmarked M q).mpr (lt_of_le_of_lt hq hp)
  have key : ∀ q : Fin n, ¬ M (place M q) → mark M (sortedFrom (less (mark M)) q) = 0 := fun q hq => if_neg hq
  have hlt : ∀ a b : Fin n, a < b → ¬ M (place M a) → ¬ M (place M b) → place M a < place M b := fun a b hab ha hb => by
    rcases sorted_lex (mark M) a b hab with h | h
    · rw [key a ha, key b hb] at h; omega
    · exact h.2
  have : (Finset.univ.filter fun y => y < place M p ∧ ¬ M y) = (Finset.Iio p).image (place M) := by
    ext y
    simp only [Finset.mem_filter, Finset.mem_univ, true_and, Finset.mem_image, Finset.mem_Iio]
    constructor
    · rintro ⟨hy, hMy⟩
      obtain ⟨q, rfl⟩ := place_surjective M y
      refine ⟨q, ?_, rfl⟩
      by_contra hq
      rcases lt_or_eq_of_le (not_lt.mp hq) with h | h
      · exact absurd (hlt p q h (hm p le_rfl) hMy) (not_lt.mpr hy.le)
      · subst h; exact lt_irrefl _ hy
    · rintro ⟨q, hq, rfl⟩
      exact ⟨hlt q p hq (hm q hq.le) (hm p le_rfl), hm q hq.le⟩
  rw [rank, this, Finset.card_image_of_injective _ (place_injective M), Fin.card_Iio]

/-- The unmarked position of rank `p` is the one the sort puts at `p`. -/
theorem rank_iff (x p : Fin n) (hp : p.val < (Finset.univ.filter fun y => ¬ M y).card) :
    (¬ M x ∧ rank M x = p.val) ↔ x = place M p := by
  constructor
  · rintro ⟨hx, hr⟩
    obtain ⟨q, rfl⟩ := place_surjective M x
    have hq := (place_unmarked M q).mp hx
    rw [rank_place M q hq] at hr
    rw [Fin.ext hr]
  · rintro rfl
    exact ⟨(place_unmarked M p).mpr hp, rank_place M p hp⟩

end Cert.Order
end
end
-- ==== Proof.Merge.lean ====
/- Merging tokens: sixteen of the odd tokens are added to even ones, which are averaged; the rest follow in order. -/
module

public import proofs.«01_k».proof.Proof.Spec
public import proofs.«01_k».proof.Proof.Order

@[expose] public section

noncomputable section

namespace Cert.Merge

open Idealize.ShloMosaic Cert.Spec
open scoped BigOperators

/-- Token `2 r + p` after the class token. -/
def tok (X : Fin 577 → Fin 384 → EReal) (p : Fin 2) (r : Fin 288) : Fin 384 → EReal := X ⟨1 + (2 * r.val + p.val), by omega⟩

/-- Whether an odd token is merged away. -/
def Gone (I : Fin 16 → Fin 288) (x : Fin 288) : Prop := ∃ j, I j = x

instance (I : Fin 16 → Fin 288) : DecidablePred (Gone I) := fun _ => inferInstanceAs (Decidable (∃ _, _))

/-- The even token `r` with those merged into it. -/
def total (X : Fin 577 → Fin 384 → EReal) (A : Fin 288 → Fin 288) (I : Fin 16 → Fin 288) (r : Fin 288) (d : Fin 384) : EReal :=
  tok X 0 r d + ∑ j : Fin 16, if A (I j) = r then tok X 1 (I j) d else 0

/-- The number of tokens in the even token `r`. -/
def size (A : Fin 288 → Fin 288) (I : Fin 16 → Fin 288) (r : Fin 288) : EReal := 1 + ∑ j : Fin 16, if A (I j) = r then (1 : EReal) else 0

/-- The merged tokens: the class token, the even ones, the odd ones that are left. -/
def row (X : Fin 577 → Fin 384 → EReal) (A : Fin 288 → Fin 288) (I : Fin 16 → Fin 288) (i : Fin 561) (d : Fin 384) : EReal :=
  if i.val = 0 then X 0 d
  else if h : i.val ≤ 288 then Ideal.div (total X A I ⟨i.val - 1, by omega⟩ d) (size A I ⟨i.val - 1, by omega⟩)
  else tok X 1 (Order.place (Gone I) ⟨i.val - 289, by omega⟩) d

theorem size_real (A : Fin 288 → Fin 288) (I : Fin 16 → Fin 288) (r : Fin 288) :
    ∃ c : ℝ, c ≠ 0 ∧ size A I r = (c : EReal) := by
  refine ⟨1 + ∑ j : Fin 16, if A (I j) = r then (1 : ℝ) else 0, ?_, ?_⟩
  · have : 0 ≤ ∑ j : Fin 16, if A (I j) = r then (1 : ℝ) else 0 := Finset.sum_nonneg fun j _ => by split <;> norm_num
    linarith
  · unfold size
    rw [EReal.coe_add, EReal.coe_one]
    congr 1
    have e : ∀ s : Finset (Fin 16), (∑ j ∈ s, if A (I j) = r then (1 : EReal) else 0) = ((∑ j ∈ s, if A (I j) = r then (1 : ℝ) else 0 : ℝ) : EReal) := by
      intro s
      induction s using Finset.induction_on with
      | empty => simp
      | insert a s ha ih =>
        rw [Finset.sum_insert ha, Finset.sum_insert ha, EReal.coe_add, ih]
        congr 1
        split <;> simp
    exact e _

/-- Of the 288 odd tokens 272 are left. -/
theorem left_card (I : Fin 16 → Fin 288) (hI : Function.Injective I) : (Finset.univ.filter fun x => ¬ Gone I x).card = 272 := by
  have h : (Finset.univ.filter fun x => Gone I x) = Finset.univ.image I := by
    ext x
    simp only [Finset.mem_filter, Finset.mem_univ, true_and, Finset.mem_image]
    rfl
  have h16 : (Finset.univ.filter fun x => Gone I x).card = 16 := by
    rw [h, Finset.card_image_of_injective _ hI]
    simp
  have := Finset.card_filter_add_card_filter_not (s := (Finset.univ : Finset (Fin 288))) (fun x => Gone I x)
  simp only [Finset.card_univ, Fintype.card_fin] at this
  omega

/-- A sum over the merged tokens is a sum over the sixteen. -/
theorem sum_gone (I : Fin 16 → Fin 288) (hI : Function.Injective I) (f : Fin 288 → EReal) :
    (∑ x, if Gone I x then f x else 0) = ∑ j, f (I j) := by
  have h : (Finset.univ.filter fun x => Gone I x) = Finset.univ.image I := by
    ext x
    simp only [Finset.mem_filter, Finset.mem_univ, true_and, Finset.mem_image]
    rfl
  rw [← Finset.sum_filter, h, Finset.sum_image fun a _ b _ e => hI e]

end Cert.Merge
end
-- ==== Proof.Words.lean ====
/- Small numbers as words. -/
module

public import Idealize.ShloMosaic.PureOps.Ideal
public import Idealize.ShloMosaic.Lib.Routing.OpsPair

@[expose] public section

noncomputable section

namespace Cert.Words

open Idealize.ShloMosaic

/-- The words below 288. -/
def word (n : Fin 288) : BitVec 32 := BitVec.ofNat 32 n.val

theorem word_toNat (n : Fin 288) : (word n).toNat = n.val := by
  unfold word
  rw [BitVec.toNat_ofNat, Nat.mod_eq_of_lt (by omega)]

theorem word_toInt (n : Fin 288) : (word n).toInt = n.val := by
  rw [BitVec.toInt_eq_toNat_of_lt (by rw [word_toNat]; omega), word_toNat]

theorem word_wrap (n : Fin 288) (a : BitVec 32) : Scalar.select (IntOp.cmpi .slt (word n) 0#32) a (word n) = word n :=
  Routing.wrap_of_lt _ _ (by rw [word_toNat]; omega)

theorem word_row {w : BitVec 32} {n : Fin 288} (h : w = word n) : (⟨min w.toInt.toNat 287, by omega⟩ : Fin 288) = n :=
  Fin.ext (by subst h; show min (word n).toInt.toNat 287 = n.val; rw [word_toInt]; omega)

theorem word_inside (n : Fin 288) : IntOp.andi (IntOp.cmpi .sge (word n) 0#32) (IntOp.cmpi .sle (word n) 287#32) = 1#1 := by
  revert n
  unfold word
  decide +kernel

/-- A batch's number is not negative. -/
theorem batch_wrap (b : Fin 32) (a : BitVec 32) :
    Scalar.select (IntOp.cmpi .slt (BitVec.ofNat 32 b.val) 0#32) a (BitVec.ofNat 32 b.val) = BitVec.ofNat 32 b.val :=
  Routing.wrap_of_lt _ _ (by rw [BitVec.toNat_ofNat]; omega)

theorem batch_toInt (b : Fin 32) : (BitVec.ofNat 32 b.val).toInt = b.val := by
  revert b
  decide

end Cert.Words
end
-- ==== Proof.KerRows.lean ====
/- The kernel's merged rows, built by products with one-hot matrices. -/
module

public import proofs.«01_k».proof.Proof.Out
public import proofs.«01_k».proof.Proof.Bridge
public import proofs.«01_k».proof.Proof.Merge
public import proofs.«01_k».proof.Proof.Words
public import Idealize.ShloMosaic.Lib.Pointwise

@[expose] public section

set_option maxRecDepth 16384

noncomputable section

namespace Cert.KernelIdeal.Body

open Cert.KernelIdeal Cert.KernelIdeal.Gen Idealize.ShloMosaic Cert.Spec Cert.Words
open scoped BigOperators

/-- A small whole number, converted. -/
theorem word_of_nat (n : ℕ) (hn : n < 2 ^ 31) : Ideal.fptosi 32 (((n : ℕ) : ℝ) : EReal) = BitVec.ofNat 32 n := by
  rw [Ideal.fptosi, Ideal.toIntClamped_coe, if_pos (Nat.cast_nonneg n), Int.floor_natCast]
  rw [min_eq_right (by push_cast; omega), max_eq_right (by push_cast; omega), BitVec.ofInt_natCast]

theorem word_cmp (m n : ℕ) (hm : m < 2 ^ 31) (hn : n < 2 ^ 31) :
    IntOp.cmpi .eq (BitVec.ofNat 32 m) (BitVec.ofNat 32 n) = BitVec.ofBool (decide (m = n)) := by
  have e : (BitVec.ofNat 32 m = BitVec.ofNat 32 n) ↔ m = n := by
    rw [← BitVec.toNat_inj, BitVec.toNat_ofNat, BitVec.toNat_ofNat, Nat.mod_eq_of_lt (by omega), Nat.mod_eq_of_lt (by omega)]
  show BitVec.ofBool (BitVec.ofNat 32 m == BitVec.ofNat 32 n) = _
  congr 1
  rw [Bool.eq_iff_iff, beq_iff_eq, decide_eq_true_iff]
  exact e

theorem one_iff (p : Prop) [Decidable p] : decide ((if p then (1 : EReal) else 0) = 1) = decide p := by
  by_cases h : p <;> simp [h]

theorem rows_even (x0 : Vec Ideal S1x288x768 .f32) (x1 : Vec Ideal S1x16x384 .f32) (x2 : Vec Ideal S1x8x288 .f32) (i : Fin 576) (hi : i.val < 288) (d : Fin 384) :
    rows x0 x1 x2 (ix2 i d) = k0_pay6 (F := Ideal) x0 x2 (ix2 ⟨i.val, hi⟩ d) := by
  unfold rows
  generalize k0_pay6 (F := Ideal) x0 x2 = e
  generalize k0_pay7 (F := Ideal) x2 = p
  pointwise [k0_pay10]
  rw [dif_pos hi]

theorem rows_odd (x0 : Vec Ideal S1x288x768 .f32) (x1 : Vec Ideal S1x16x384 .f32) (x2 : Vec Ideal S1x8x288 .f32) (i : Fin 576) (hi : ¬ i.val < 288) (hj : i.val - 288 < 272) (d : Fin 384) :
    rows x0 x1 x2 (ix2 i d)
      = ∑ x : Fin 288, Scalar.select (k0_pay7 (F := Ideal) x2 (ix2 (⟨i.val - 288, by omega⟩ : Fin 288) x)) (1 : EReal) 0 * x0 (ix3 (0 : Fin 1) x (⟨384 + d.val, by omega⟩ : Fin 768)) := by
  unfold rows
  generalize k0_pay6 (F := Ideal) x0 x2 = e
  generalize k0_pay7 (F := Ideal) x2 = p
  pointwise [k0_pay10, k0_pay3, k0_pay2, k0_pay8, k0_pay9]
  rw [dif_neg hi, dif_pos hj]

theorem rows_class (x0 : Vec Ideal S1x288x768 .f32) (x1 : Vec Ideal S1x16x384 .f32) (x2 : Vec Ideal S1x8x288 .f32) (d : Fin 384) :
    rows x0 x1 x2 (ix2 (560 : Fin 576) d) = x1 (ix3 (0 : Fin 1) (0 : Fin 16) d) := by
  unfold rows
  generalize k0_pay6 (F := Ideal) x0 x2 = e
  generalize k0_pay7 (F := Ideal) x2 = p
  pointwise [k0_pay10]

/-- What the one-hot matrix of the odd tokens left has at a place. -/
theorem hot_left (x2 : Vec Ideal S1x8x288 .f32) (p x : Fin 288) :
    k0_pay7 (F := Ideal) x2 (ix2 p x)
      = IntOp.andi (IntOp.cmpi .eq (Ideal.fptosi 32 (x2 (ix3 (0 : Fin 1) (2 : Fin 8) x))) (BitVec.ofNat 32 p.val))
          (IntOp.xori (BitVec.ofBool (decide (x2 (ix3 (0 : Fin 1) (1 : Fin 8) x) = 1))) 1#1) := by
  pointwise [k0_pay7, k0_pay5, k0_pay4]
  rfl

/-- What the one-hot matrix of the merged tokens has at a place. -/
def hot (x2 : Vec Ideal S1x8x288 .f32) (r x : Fin 288) : BitVec 1 :=
  IntOp.andi (IntOp.cmpi .eq (Ideal.fptosi 32 (x2 (ix3 (0 : Fin 1) (0 : Fin 8) x))) (BitVec.ofNat 32 r.val))
    (BitVec.ofBool (decide (x2 (ix3 (0 : Fin 1) (1 : Fin 8) x) = 1)))

theorem mean_apply (x0 : Vec Ideal S1x288x768 .f32) (x2 : Vec Ideal S1x8x288 .f32) (r : Fin 288) (d : Fin 384) :
    k0_pay6 (F := Ideal) x0 x2 (ix2 r d)
      = (x0 (ix3 (0 : Fin 1) r (⟨d.val, by omega⟩ : Fin 768)) + ∑ x, Scalar.select (hot x2 r x) (x0 (ix3 (0 : Fin 1) x (⟨384 + d.val, by omega⟩ : Fin 768))) 0)
        * (Ideal.div 1 (1 + ∑ x, Scalar.select (hot x2 r x) (1 : EReal) 0)
          * (Ideal.ofBits .f32 0x40000000#32 - (1 + ∑ x, Scalar.select (hot x2 r x) (1 : EReal) 0) * Ideal.div 1 (1 + ∑ x, Scalar.select (hot x2 r x) (1 : EReal) 0))) := by
  pointwise [k0_pay6, k0_pay5, k0_pay4, k0_pay3, k0_pay2]
  rfl

variable {X : Fin 577 → Fin 384 → EReal} {A : Fin 288 → Fin 288} {I : Fin 16 → Fin 288} (hI : Function.Injective I)
  {x0 : Vec Ideal S1x288x768 .f32} {x1 : Vec Ideal S1x16x384 .f32} {x2 : Vec Ideal S1x8x288 .f32}
  (he : ∀ (r : Fin 288) (d : Fin 384), x0 (ix3 (0 : Fin 1) r (⟨d.val, by omega⟩ : Fin 768)) = Merge.tok X 0 r d)
  (ho : ∀ (r : Fin 288) (d : Fin 384), x0 (ix3 (0 : Fin 1) r (⟨384 + d.val, by omega⟩ : Fin 768)) = Merge.tok X 1 r d)
  (hc : ∀ d : Fin 384, x1 (ix3 (0 : Fin 1) (0 : Fin 16) d) = X 0 d)
  (hA : ∀ x : Fin 288, x2 (ix3 (0 : Fin 1) (0 : Fin 8) x) = (((A x).val : ℝ) : EReal))
  (hG : ∀ x : Fin 288, x2 (ix3 (0 : Fin 1) (1 : Fin 8) x) = if Merge.Gone I x then 1 else 0)
  (hR : ∀ x : Fin 288, x2 (ix3 (0 : Fin 1) (2 : Fin 8) x) = ((Order.rank (Merge.Gone I) x : ℝ) : EReal))

include hA hG in
theorem hot_eq (r x : Fin 288) : hot x2 r x = BitVec.ofBool (decide (Merge.Gone I x ∧ A x = r)) := by
  unfold hot
  rw [hA, hG, word_of_nat _ (by omega), word_cmp _ _ (by omega) (by omega)]
  rw [one_iff, show decide ((A x).val = r.val) = decide (A x = r) from decide_eq_decide.2 Fin.ext_iff.symm, Bool.decide_and]
  generalize decide (Merge.Gone I x) = a
  generalize decide (A x = r) = b
  cases a <;> cases b <;> rfl

include hI hA hG in
theorem sum_hot (r : Fin 288) (f : Fin 288 → EReal) : (∑ x, Scalar.select (hot x2 r x) (f x) 0) = ∑ j, if A (I j) = r then f (I j) else 0 := by
  rw [← Merge.sum_gone I hI fun x => if A x = r then f x else 0]
  refine Finset.sum_congr rfl fun x _ => ?_
  rw [hot_eq hA hG]
  by_cases h1 : Merge.Gone I x <;> by_cases h2 : A x = r <;> simp [h1, h2, Scalar.select]

include hI he ho hA hG in
theorem even_row (r : Fin 288) (d : Fin 384) :
    k0_pay6 (F := Ideal) x0 x2 (ix2 r d) = Ideal.div (Merge.total X A I r d) (Merge.size A I r) := by
  rw [mean_apply, sum_hot hI hA hG r fun x => x0 (ix3 (0 : Fin 1) x (⟨384 + d.val, by omega⟩ : Fin 768)), sum_hot hI hA hG r fun _ => 1]
  obtain ⟨c, hc, e⟩ := Merge.size_real A I r
  have e' : (1 : EReal) + ∑ j, (if A (I j) = r then (1 : EReal) else 0) = (c : EReal) := e
  rw [e', newton c hc, e, he]
  simp only [ho]
  rfl

include hG hR in
theorem hot_left_eq (p x : Fin 288) : k0_pay7 (F := Ideal) x2 (ix2 p x) = BitVec.ofBool (decide (¬ Merge.Gone I x ∧ Order.rank (Merge.Gone I) x = p.val)) := by
  have hr : Order.rank (Merge.Gone I) x < 2 ^ 31 := lt_of_le_of_lt (Finset.card_le_univ _) (by rw [Fintype.card_fin]; omega)
  rw [hot_left, hR, hG, word_of_nat _ hr, word_cmp _ _ hr (by omega)]
  rw [one_iff, Bool.decide_and, decide_not]
  generalize decide (Merge.Gone I x) = a
  generalize decide (Order.rank (Merge.Gone I) x = p.val) = b
  cases a <;> cases b <;> rfl

include hI ho hG hR in
theorem odd_row (i : Fin 576) (hi : ¬ i.val < 288) (hj : i.val - 288 < 272) (d : Fin 384) :
    rows x0 x1 x2 (ix2 i d) = Merge.tok X 1 (Order.place (Merge.Gone I) ⟨i.val - 288, by omega⟩) d := by
  rw [rows_odd x0 x1 x2 i hi hj, Finset.sum_eq_single (Order.place (Merge.Gone I) ⟨i.val - 288, by omega⟩)]
  · rw [hot_left_eq hG hR, ho]
    have := (Order.rank_iff (Merge.Gone I) (Order.place (Merge.Gone I) ⟨i.val - 288, by omega⟩) ⟨i.val - 288, by omega⟩ (by rw [Merge.left_card I hI]; exact hj)).2 rfl
    simp [this, Scalar.select]
  · intro x _ hx
    rw [hot_left_eq hG hR]
    have : ¬ (¬ Merge.Gone I x ∧ Order.rank (Merge.Gone I) x = i.val - 288) := fun q =>
      hx ((Order.rank_iff (Merge.Gone I) x ⟨i.val - 288, by omega⟩ (by rw [Merge.left_card I hI]; exact hj)).1 q)
    simp [this, Scalar.select]
  · exact fun q => (q (Finset.mem_univ _)).elim

include hI he ho hc hA hG hR in
/-- The kernel's rows are the merged tokens, the class token last. -/
theorem rows_seat (i : Fin 561) (d : Fin 384) : rows x0 x1 x2 (ix2 (seat i) d) = Merge.row X A I i d := by
  unfold Merge.row
  by_cases h0 : i.val = 0
  · rw [if_pos h0, show seat i = 560 from Fin.ext ((congrArg Fin.val (dif_pos h0) : (seatFn i).val = 560)), rows_class, hc]
  · have hs : (seat i).val = i.val - 1 := congrArg Fin.val (show seatFn i = ⟨i.val - 1, by omega⟩ from dif_neg h0)
    rw [if_neg h0]
    by_cases h1 : i.val ≤ 288
    · rw [dif_pos h1, rows_even x0 x1 x2 (seat i) (by omega), even_row hI he ho hA hG]
      simp only [hs]
    · rw [dif_neg h1, odd_row hI ho hG hR (seat i) (by omega) (by omega)]
      simp only [hs]
      rfl

end Cert.KernelIdeal.Body
end
-- ==== Proof.KernelEqs.lean ====
/- What each host operation before the kernel's launch says of the buffer it writes, once they have all run. -/
module

public import proofs.«01_k».proof.Proof.Gen.KernelIdeal.Launch
public import proofs.«01_k».proof.Proof.Settled

@[expose] public section

set_option maxRecDepth 16384

noncomputable section

namespace Cert.KernelIdeal.Host

open Cert.KernelIdeal Cert.KernelIdeal.Gen Idealize.ShloMosaic Idealize.ShloMosaic.TcCoe Idealize.ShloMosaic.StableHlo Cert.Settled

variable {F : FTy → Type} [FloatOps F] {W : Valuation τ sig (Elt F)} (h : Settled (List.flatten [hostOps0, hostOps0_1, hostOps0_2, hostOps0_3, hostOps0_4, hostOps0_5, hostOps0_6, hostOps0_7, hostOps0_8]) W)
include h

theorem e_cst : (W main_cst : Arr F S_ .f32) = constant S_ .f32 0x00000000#32 :=
  (h.sub 0 rfl).nullary 0 rfl
theorem e_v0 : (W main_v0 : Arr F S32x577 .f32) = Host.reduceAdd (W main_arg0 : Arr F S32x577x384 .f32) (W main_cst : Arr F S_ .f32) reducesTo_S32x577x384_S32x577_d2 h_S_ :=
  (h.sub 0 rfl).binary 1 rfl
theorem e_v1 : (W main_v1 : Arr F S32x577x1 .f32) = broadcastInDim S32x577x1 ![0, 1] bcast_S32x577_S32x577x1_0_1 (W main_v0 : Arr F S32x577 .f32) :=
  (h.sub 0 rfl).unary 2 rfl
theorem e_cst_0 : (W main_cst_0 : Arr F S_ .f32) = constant S_ .f32 0x43C00000#32 :=
  (h.sub 0 rfl).nullary 3 rfl
theorem e_v2 : (W main_v2 : Arr F S32x577x1 .f32) = broadcastInDim S32x577x1 ![] bcast_S_S32x577x1 (W main_cst_0 : Arr F S_ .f32) :=
  (h.sub 0 rfl).unary 4 rfl
theorem e_v3 : (W main_v3 : Arr F S32x577x1 .f32) = Host.divf (W main_v1 : Arr F S32x577x1 .f32) (W main_v2 : Arr F S32x577x1 .f32) :=
  (h.sub 0 rfl).binary 5 rfl
theorem e_v4 : (W main_v4 : Arr F S32x577x384 .f32) = broadcastInDim S32x577x384 ![0, 1, 2] bcast_S32x577x1_S32x577x384_0_1_2 (W main_v3 : Arr F S32x577x1 .f32) :=
  (h.sub 0 rfl).unary 6 rfl
theorem e_v5 : (W main_v5 : Arr F S32x577x384 .f32) = subf (W main_arg0 : Arr F S32x577x384 .f32) (W main_v4 : Arr F S32x577x384 .f32) :=
  (h.sub 0 rfl).binary 7 rfl
theorem e_v6 : (W main_v6 : Arr F S32x577x384 .f32) = broadcastInDim S32x577x384 ![0, 1, 2] bcast_S32x577x1_S32x577x384_0_1_2 (W main_v3 : Arr F S32x577x1 .f32) :=
  (h.sub 0 rfl).unary 8 rfl
theorem e_v7 : (W main_v7 : Arr F S32x577x384 .f32) = subf (W main_arg0 : Arr F S32x577x384 .f32) (W main_v6 : Arr F S32x577x384 .f32) :=
  (h.sub 0 rfl).binary 9 rfl
theorem e_v8 : (W main_v8 : Arr F S32x577x384 .f32) = mulf (W main_v5 : Arr F S32x577x384 .f32) (W main_v7 : Arr F S32x577x384 .f32) :=
  (h.sub 0 rfl).binary 10 rfl
theorem e_cst_1 : (W main_cst_1 : Arr F S_ .f32) = constant S_ .f32 0x00000000#32 :=
  (h.sub 0 rfl).nullary 11 rfl
theorem e_v9 : (W main_v9 : Arr F S32x577 .f32) = Host.reduceAdd (W main_v8 : Arr F S32x577x384 .f32) (W main_cst_1 : Arr F S_ .f32) reducesTo_S32x577x384_S32x577_d2 h_S_ :=
  (h.sub 0 rfl).binary 12 rfl
theorem e_v10 : (W main_v10 : Arr F S32x577x1 .f32) = broadcastInDim S32x577x1 ![0, 1] bcast_S32x577_S32x577x1_0_1 (W main_v9 : Arr F S32x577 .f32) :=
  (h.sub 0 rfl).unary 13 rfl
theorem e_cst_2 : (W main_cst_2 : Arr F S_ .f32) = constant S_ .f32 0x43C00000#32 :=
  (h.sub 0 rfl).nullary 14 rfl
theorem e_v11 : (W main_v11 : Arr F S32x577x1 .f32) = broadcastInDim S32x577x1 ![] bcast_S_S32x577x1 (W main_cst_2 : Arr F S_ .f32) :=
  (h.sub 0 rfl).unary 15 rfl
theorem e_v12 : (W main_v12 : Arr F S32x577x1 .f32) = Host.divf (W main_v10 : Arr F S32x577x1 .f32) (W main_v11 : Arr F S32x577x1 .f32) :=
  (h.sub 0 rfl).binary 16 rfl
theorem e_v13 : (W main_v13 : Arr F S32x577x384 .f32) = broadcastInDim S32x577x384 ![0, 1, 2] bcast_S32x577x1_S32x577x384_0_1_2 (W main_v3 : Arr F S32x577x1 .f32) :=
  (h.sub 0 rfl).unary 17 rfl
theorem e_v14 : (W main_v14 : Arr F S32x577x384 .f32) = subf (W main_arg0 : Arr F S32x577x384 .f32) (W main_v13 : Arr F S32x577x384 .f32) :=
  (h.sub 0 rfl).binary 18 rfl
theorem e_cst_3 : (W main_cst_3 : Arr F S_ .f32) = constant S_ .f32 0x358637BD#32 :=
  (h.sub 0 rfl).nullary 19 rfl
theorem e_v15 : (W main_v15 : Arr F S32x577x1 .f32) = broadcastInDim S32x577x1 ![] bcast_S_S32x577x1 (W main_cst_3 : Arr F S_ .f32) :=
  (h.sub 0 rfl).unary 20 rfl
theorem e_v16 : (W main_v16 : Arr F S32x577x1 .f32) = addf (W main_v12 : Arr F S32x577x1 .f32) (W main_v15 : Arr F S32x577x1 .f32) :=
  (h.sub 0 rfl).binary 21 rfl
theorem e_v17 : (W main_v17 : Arr F S32x577x1 .f32) = Host.rsqrt (W main_v16 : Arr F S32x577x1 .f32) :=
  (h.sub 0 rfl).unary 22 rfl
theorem e_v18 : (W main_v18 : Arr F S32x577x384 .f32) = broadcastInDim S32x577x384 ![0, 1, 2] bcast_S32x577x1_S32x577x384_0_1_2 (W main_v17 : Arr F S32x577x1 .f32) :=
  (h.sub 0 rfl).unary 23 rfl
theorem e_v19 : (W main_v19 : Arr F S32x577x384 .f32) = mulf (W main_v14 : Arr F S32x577x384 .f32) (W main_v18 : Arr F S32x577x384 .f32) :=
  (h.sub 0 rfl).binary 24 rfl
theorem e_v20 : (W main_v20 : Arr F S1x1x384 .f32) = broadcastInDim S1x1x384 ![2] bcast_S384_S1x1x384_2 (W main_arg1 : Arr F S384 .f32) :=
  (h.sub 0 rfl).unary 25 rfl
theorem e_v21 : (W main_v21 : Arr F S32x577x384 .f32) = broadcastInDim S32x577x384 ![0, 1, 2] bcast_S1x1x384_S32x577x384_0_1_2 (W main_v20 : Arr F S1x1x384 .f32) :=
  (h.sub 0 rfl).unary 26 rfl
theorem e_v22 : (W main_v22 : Arr F S32x577x384 .f32) = mulf (W main_v19 : Arr F S32x577x384 .f32) (W main_v21 : Arr F S32x577x384 .f32) :=
  (h.sub 0 rfl).binary 27 rfl
theorem e_v23 : (W main_v23 : Arr F S1x1x384 .f32) = broadcastInDim S1x1x384 ![2] bcast_S384_S1x1x384_2 (W main_arg2 : Arr F S384 .f32) :=
  (h.sub 0 rfl).unary 28 rfl
theorem e_v24 : (W main_v24 : Arr F S32x577x384 .f32) = broadcastInDim S32x577x384 ![0, 1, 2] bcast_S1x1x384_S32x577x384_0_1_2 (W main_v23 : Arr F S1x1x384 .f32) :=
  (h.sub 0 rfl).unary 29 rfl
theorem e_v25 : (W main_v25 : Arr F S32x577x384 .f32) = addf (W main_v22 : Arr F S32x577x384 .f32) (W main_v24 : Arr F S32x577x384 .f32) :=
  (h.sub 0 rfl).binary 30 rfl
theorem e_v26 : (W main_v26 : Arr F S32x577x1152 .f32) = Host.dotGeneral dot_S32x577x384_S384x1152_S32x577x1152_2_0_01_1_n_n none (W main_v25 : Arr F S32x577x384 .f32) (W main_arg3 : Arr F S384x1152 .f32) :=
  (h.sub 0 rfl).binary 31 rfl
theorem e_v27 : (W main_v27 : Arr F S1x1x1152 .f32) = broadcastInDim S1x1x1152 ![2] bcast_S1152_S1x1x1152_2 (W main_arg4 : Arr F S1152 .f32) :=
  (h.sub 0 rfl).unary 32 rfl
theorem e_v28 : (W main_v28 : Arr F S32x577x1152 .f32) = broadcastInDim S32x577x1152 ![0, 1, 2] bcast_S1x1x1152_S32x577x1152_0_1_2 (W main_v27 : Arr F S1x1x1152 .f32) :=
  (h.sub 0 rfl).unary 33 rfl
theorem e_v29 : (W main_v29 : Arr F S32x577x1152 .f32) = addf (W main_v26 : Arr F S32x577x1152 .f32) (W main_v28 : Arr F S32x577x1152 .f32) :=
  (h.sub 0 rfl).binary 34 rfl
theorem e_v30 : (W main_v30 : Arr F S32x577x3x6x64 .f32) = shapeCast S32x577x3x6x64 (W main_v29 : Arr F S32x577x1152 .f32) shapeCasts_S32x577x1152_S32x577x3x6x64 :=
  (h.sub 0 rfl).reshape 35 rfl
theorem e_v31 : (W main_v31 : Arr F S32x577x1x6x64 .f32) = extractStridedSlice S32x577x1x6x64 ![0, 0, 1, 0, 0] (W main_v30 : Arr F S32x577x3x6x64 .f32) slices_S32x577x3x6x64_S32x577x1x6x64_0_0_1_0_0 :=
  (h.sub 0 rfl).unary 36 rfl
theorem e_v32 : (W main_v32 : Arr F S32x577x6x64 .f32) = shapeCast S32x577x6x64 (W main_v31 : Arr F S32x577x1x6x64 .f32) shapeCasts_S32x577x1x6x64_S32x577x6x64 :=
  (h.sub 0 rfl).reshape 37 rfl
theorem e_cst_4 : (W main_cst_4 : Arr F S_ .f32) = constant S_ .f32 0x00000000#32 :=
  (h.sub 0 rfl).nullary 38 rfl
theorem e_v33 : (W main_v33 : Arr F S32x577x64 .f32) = Host.reduceAdd (W main_v32 : Arr F S32x577x6x64 .f32) (W main_cst_4 : Arr F S_ .f32) reducesTo_S32x577x6x64_S32x577x64_d2 h_S_ :=
  (h.sub 0 rfl).binary 39 rfl
theorem e_cst_5 : (W main_cst_5 : Arr F S_ .f32) = constant S_ .f32 0x40C00000#32 :=
  (h.sub 0 rfl).nullary 40 rfl
theorem e_v34 : (W main_v34 : Arr F S32x577x64 .f32) = broadcastInDim S32x577x64 ![] bcast_S_S32x577x64 (W main_cst_5 : Arr F S_ .f32) :=
  (h.sub 0 rfl).unary 41 rfl
theorem e_v35 : (W main_v35 : Arr F S32x577x64 .f32) = Host.divf (W main_v33 : Arr F S32x577x64 .f32) (W main_v34 : Arr F S32x577x64 .f32) :=
  (h.sub 0 rfl).binary 42 rfl
theorem e_v36 : (W main_v36 : Arr F S32x576x64 .f32) = extractStridedSlice S32x576x64 ![0, 1, 0] (W main_v35 : Arr F S32x577x64 .f32) slices_S32x577x64_S32x576x64_0_1_0 :=
  (h.sub 0 rfl).unary 43 rfl
theorem e_call0_v0 : (W main_call0_v0 : Arr F S32x576x64 .f32) = mulf (W main_v36 : Arr F S32x576x64 .f32) (W main_v36 : Arr F S32x576x64 .f32) :=
  (h.sub 1 rfl).binary 0 rfl
theorem e_call0_cst : (W main_call0_cst : Arr F S_ .f32) = constant S_ .f32 0x00000000#32 :=
  (h.sub 1 rfl).nullary 1 rfl
theorem e_call0_v1 : (W main_call0_v1 : Arr F S32x576 .f32) = Host.reduceAdd (W main_call0_v0 : Arr F S32x576x64 .f32) (W main_call0_cst : Arr F S_ .f32) reducesTo_S32x576x64_S32x576_d2 h_S_ :=
  (h.sub 1 rfl).binary 2 rfl
theorem e_call0_v2 : (W main_call0_v2 : Arr F S32x576x1 .f32) = broadcastInDim S32x576x1 ![0, 1] bcast_S32x576_S32x576x1_0_1 (W main_call0_v1 : Arr F S32x576 .f32) :=
  (h.sub 1 rfl).unary 3 rfl
theorem e_v37 : (W main_v37 : Arr F S32x576x1 .f32) = Host.sqrt (W main_call0_v2 : Arr F S32x576x1 .f32) :=
  (h.sub 1 rfl).unary 4 rfl
theorem e_cst_6 : (W main_cst_6 : Arr F S_ .f32) = constant S_ .f32 0x2B8CBCCC#32 :=
  (h.sub 2 rfl).nullary 0 rfl
theorem e_v38 : (W main_v38 : Arr F S32x576x1 .f32) = broadcastInDim S32x576x1 ![] bcast_S_S32x576x1 (W main_cst_6 : Arr F S_ .f32) :=
  (h.sub 2 rfl).unary 1 rfl
theorem e_v39 : (W main_v39 : Arr F S32x576x1 .f32) = maximumf (W main_v37 : Arr F S32x576x1 .f32) (W main_v38 : Arr F S32x576x1 .f32) :=
  (h.sub 2 rfl).binary 2 rfl
theorem e_v40 : (W main_v40 : Arr F S32x576x64 .f32) = broadcastInDim S32x576x64 ![0, 1, 2] bcast_S32x576x1_S32x576x64_0_1_2 (W main_v39 : Arr F S32x576x1 .f32) :=
  (h.sub 2 rfl).unary 3 rfl
theorem e_v41 : (W main_v41 : Arr F S32x576x64 .f32) = Host.divf (W main_v36 : Arr F S32x576x64 .f32) (W main_v40 : Arr F S32x576x64 .f32) :=
  (h.sub 2 rfl).binary 4 rfl
theorem e_v42 : (W main_v42 : Arr F S32x288x64 .f32) = Host.slice S32x288x64 ![0, 1, 0] ![1, 2, 1] (W main_v41 : Arr F S32x576x64 .f32) slicesBy_S32x576x64_S32x288x64_0s1_1s2_0s1 :=
  (h.sub 2 rfl).unary 5 rfl
theorem e_v43 : (W main_v43 : Arr F S32x288x64 .f32) = Host.slice S32x288x64 ![0, 0, 0] ![1, 2, 1] (W main_v41 : Arr F S32x576x64 .f32) slicesBy_S32x576x64_S32x288x64_0s1_0s2_0s1 :=
  (h.sub 2 rfl).unary 6 rfl
theorem e_v44 : (W main_v44 : Arr F S32x288x288 .f32) = Host.dotGeneral dot_S32x288x64_S32x288x64_S32x288x288_2_2_1_1_0_0 none (W main_v42 : Arr F S32x288x64 .f32) (W main_v43 : Arr F S32x288x64 .f32) :=
  (h.sub 2 rfl).binary 7 rfl
theorem e_cst_7 : (W main_cst_7 : Arr F S_ .f32) = constant S_ .f32 0xFF800000#32 :=
  (h.sub 2 rfl).nullary 8 rfl
theorem e_v45 : (W main_v45 : Arr F S32x288 .f32) = Host.reduce FloatOps.maximumf (W main_v44 : Arr F S32x288x288 .f32) (W main_cst_7 : Arr F S_ .f32) reducesTo_S32x288x288_S32x288_d2 h_S_ :=
  (h.sub 2 rfl).binary 9 rfl
theorem e_call1_v0 : (W main_call1_v0 : Arr F S32x288x288 .i32) = iotaInDim S32x288x288 32 2 :=
  (h.sub 3 rfl).nullary 0 rfl
theorem e_call1_cst : (W main_call1_cst : Arr F S_ .f32) = constant S_ .f32 0xFF800000#32 :=
  (h.sub 3 rfl).nullary 1 rfl
theorem e_call1_c : (W main_call1_c : Arr F S_ .i32) = constantI S_ 32 0#32 :=
  (h.sub 3 rfl).nullary 2 rfl
theorem e_call1_v1_0 : (W main_call1_v1_0 : Arr F S32x288 .f32) = (fun j => (Host.argReduce reducer_argmax_f32_i32 (W main_v44 : Arr F S32x288x288 .f32) (W main_call1_v0 : Arr F S32x288x288 .i32) (W main_call1_cst : Arr F S_ .f32) (W main_call1_c : Arr F S_ .i32) reducesTo_S32x288x288_S32x288_d2 h_S_ j).1) :=
  (h.sub 3 rfl).quaternary 3 rfl
theorem e_v46 : (W main_v46 : Arr F S32x288 .i32) = (fun j => (Host.argReduce reducer_argmax_f32_i32 (W main_v44 : Arr F S32x288x288 .f32) (W main_call1_v0 : Arr F S32x288x288 .i32) (W main_call1_cst : Arr F S_ .f32) (W main_call1_c : Arr F S_ .i32) reducesTo_S32x288x288_S32x288_d2 h_S_ j).2) :=
  (h.sub 3 rfl).quaternary 4 rfl
theorem e_values : (W main_values : Arr F S32x16 .f32) = (Host.topK S32x16 1 (FloatOps.cmpfTotal .gt) (W main_v45 : Arr F S32x288 .f32) sliceFits_S32x288_S32x16).1 :=
  (h.sub 4 rfl).unary 0 rfl
theorem e_indices : (W main_indices : Arr F S32x16 .i32) = (Host.topK S32x16 1 (FloatOps.cmpfTotal .gt) (W main_v45 : Arr F S32x288 .f32) sliceFits_S32x288_S32x16).2 :=
  (h.sub 4 rfl).unary 1 rfl
theorem e_cst_8 : (W main_cst_8 : Arr F S_ .f32) = constant S_ .f32 0x00000000#32 :=
  (h.sub 4 rfl).nullary 2 rfl
theorem e_v47 : (W main_v47 : Arr F S32x288 .f32) = broadcastInDim S32x288 ![] bcast_S_S32x288 (W main_cst_8 : Arr F S_ .f32) :=
  (h.sub 4 rfl).unary 3 rfl
theorem e_v48 : (W main_v48 : Arr F S32 .i32) = iotaInDim S32 32 0 :=
  (h.sub 4 rfl).nullary 4 rfl
theorem e_v49 : (W main_v49 : Arr F S32x1 .i32) = broadcastInDim S32x1 ![0] bcast_S32_S32x1_0 (W main_v48 : Arr F S32 .i32) :=
  (h.sub 4 rfl).unary 5 rfl
theorem e_c : (W main_c : Arr F S_ .i32) = constantI S_ 32 0#32 :=
  (h.sub 4 rfl).nullary 6 rfl
theorem e_v50 : (W main_v50 : Arr F S32x1 .i32) = broadcastInDim S32x1 ![] bcast_S_S32x1 (W main_c : Arr F S_ .i32) :=
  (h.sub 4 rfl).unary 7 rfl
theorem e_v51 : (W main_v51 : Arr F S32x1 .i1) = cmpi .slt (W main_v49 : Arr F S32x1 .i32) (W main_v50 : Arr F S32x1 .i32) :=
  (h.sub 4 rfl).binary 8 rfl
theorem e_c_9 : (W main_c_9 : Arr F S_ .i32) = constantI S_ 32 32#32 :=
  (h.sub 4 rfl).nullary 9 rfl
theorem e_v52 : (W main_v52 : Arr F S32x1 .i32) = broadcastInDim S32x1 ![] bcast_S_S32x1 (W main_c_9 : Arr F S_ .i32) :=
  (h.sub 4 rfl).unary 10 rfl
theorem e_v53 : (W main_v53 : Arr F S32x1 .i32) = addi (W main_v49 : Arr F S32x1 .i32) (W main_v52 : Arr F S32x1 .i32) :=
  (h.sub 4 rfl).binary 11 rfl
theorem e_v54 : (W main_v54 : Arr F S32x1 .i32) = select (W main_v51 : Arr F S32x1 .i1) (W main_v53 : Arr F S32x1 .i32) (W main_v49 : Arr F S32x1 .i32) :=
  (h.sub 4 rfl).ternary 12 rfl
theorem e_c_10 : (W main_c_10 : Arr F S_ .i32) = constantI S_ 32 0#32 :=
  (h.sub 4 rfl).nullary 13 rfl
theorem e_v55 : (W main_v55 : Arr F S32x16 .i32) = broadcastInDim S32x16 ![] bcast_S_S32x16 (W main_c_10 : Arr F S_ .i32) :=
  (h.sub 4 rfl).unary 14 rfl
theorem e_v56 : (W main_v56 : Arr F S32x16 .i1) = cmpi .slt (W main_indices : Arr F S32x16 .i32) (W main_v55 : Arr F S32x16 .i32) :=
  (h.sub 4 rfl).binary 15 rfl
theorem e_c_11 : (W main_c_11 : Arr F S_ .i32) = constantI S_ 32 288#32 :=
  (h.sub 4 rfl).nullary 16 rfl
theorem e_v57 : (W main_v57 : Arr F S32x16 .i32) = broadcastInDim S32x16 ![] bcast_S_S32x16 (W main_c_11 : Arr F S_ .i32) :=
  (h.sub 4 rfl).unary 17 rfl
theorem e_v58 : (W main_v58 : Arr F S32x16 .i32) = addi (W main_indices : Arr F S32x16 .i32) (W main_v57 : Arr F S32x16 .i32) :=
  (h.sub 4 rfl).binary 18 rfl
theorem e_v59 : (W main_v59 : Arr F S32x16 .i32) = select (W main_v56 : Arr F S32x16 .i1) (W main_v58 : Arr F S32x16 .i32) (W main_indices : Arr F S32x16 .i32) :=
  (h.sub 4 rfl).ternary 19 rfl
theorem e_v60 : (W main_v60 : Arr F S32x16 .i32) = broadcastInDim S32x16 ![0, 1] bcast_S32x1_S32x16_0_1 (W main_v54 : Arr F S32x1 .i32) :=
  (h.sub 4 rfl).unary 20 rfl
theorem e_v61 : (W main_v61 : Arr F S32x16x1 .i32) = broadcastInDim S32x16x1 ![0, 1] bcast_S32x16_S32x16x1_0_1 (W main_v60 : Arr F S32x16 .i32) :=
  (h.sub 4 rfl).unary 21 rfl
theorem e_v62 : (W main_v62 : Arr F S32x16x1 .i32) = broadcastInDim S32x16x1 ![0, 1] bcast_S32x16_S32x16x1_0_1 (W main_v59 : Arr F S32x16 .i32) :=
  (h.sub 4 rfl).unary 22 rfl
theorem e_v63 : (W main_v63 : Arr F S32x16x2 .i32) = concatenate S32x16x2 2 [⟨S32x16x1, (W main_v61 : Arr F S32x16x1 .i32)⟩, ⟨S32x16x1, (W main_v62 : Arr F S32x16x1 .i32)⟩] concatenates_S32x16x1_S32x16x1_S32x16x2_d2 :=
  (h.sub 4 rfl).binary 23 rfl
theorem e_cst_12 : (W main_cst_12 : Arr F S_ .f32) = constant S_ .f32 0x3F800000#32 :=
  (h.sub 4 rfl).nullary 24 rfl
theorem e_v64 : (W main_v64 : Arr F S32x16 .f32) = broadcastInDim S32x16 ![] bcast_S_S32x16 (W main_cst_12 : Arr F S_ .f32) :=
  (h.sub 4 rfl).unary 25 rfl
theorem e_v65 : (W main_v65 : Arr F S32x288 .f32) = Host.scatter scatter_S32x288_S32x16x2_S32x16_n_01_01_2 (fun _ b => b) (W main_v47 : Arr F S32x288 .f32) (W main_v63 : Arr F S32x16x2 .i32) (W main_v64 : Arr F S32x16 .f32) :=
  (h.sub 4 rfl).ternary 26 rfl
theorem e_cst_13 : (W main_cst_13 : Arr F S_ .f32) = constant S_ .f32 0x3F800000#32 :=
  (h.sub 4 rfl).nullary 27 rfl
theorem e_v66 : (W main_v66 : Arr F S32x288 .f32) = broadcastInDim S32x288 ![] bcast_S_S32x288 (W main_cst_13 : Arr F S_ .f32) :=
  (h.sub 4 rfl).unary 28 rfl
theorem e_v67 : (W main_v67 : Arr F S32x288 .f32) = subf (W main_v66 : Arr F S32x288 .f32) (W main_v65 : Arr F S32x288 .f32) :=
  (h.sub 4 rfl).binary 29 rfl
theorem e_call2_call0_cst : (W main_call2_call0_cst : Arr F S_ .f32) = constant S_ .f32 0x00000000#32 :=
  (h.sub 5 rfl).nullary 0 rfl
theorem e_call2_call0_v0 : (W main_call2_call0_v0 : Arr F S_ .f32) = broadcastInDim S_ ![] bcast_S_S_ (W main_call2_call0_cst : Arr F S_ .f32) :=
  (h.sub 5 rfl).unary 1 rfl
theorem e_v68 : (W main_v68 : Arr F S32x288 .f32) = Host.reduceWindowAdd ![1, 288] ![1, 1] ![0, 287] ![0, 0] (W main_v67 : Arr F S32x288 .f32) (W main_call2_call0_v0 : Arr F S_ .f32) reduceWindows_S32x288_S32x288_w1s1p0_0_w288s1p287_0 h_S_ :=
  (h.sub 5 rfl).binary 2 rfl
theorem e_v69 : (W main_v69 : Arr F S32x288 .f32) = subf (W main_v68 : Arr F S32x288 .f32) (W main_v67 : Arr F S32x288 .f32) :=
  (h.sub 6 rfl).binary 0 rfl
theorem e_v70 : (W main_v70 : Arr F S32x288 .f32) = sitofp .f32 (W main_v46 : Arr F S32x288 .i32) :=
  (h.sub 6 rfl).unary 1 rfl
theorem e_v71 : (W main_v71 : Arr F S32x1x288 .f32) = broadcastInDim S32x1x288 ![0, 2] bcast_S32x288_S32x1x288_0_2 (W main_v70 : Arr F S32x288 .f32) :=
  (h.sub 6 rfl).unary 2 rfl
theorem e_v72 : (W main_v72 : Arr F S32x1x288 .f32) = broadcastInDim S32x1x288 ![0, 2] bcast_S32x288_S32x1x288_0_2 (W main_v65 : Arr F S32x288 .f32) :=
  (h.sub 6 rfl).unary 3 rfl
theorem e_v73 : (W main_v73 : Arr F S32x1x288 .f32) = broadcastInDim S32x1x288 ![0, 2] bcast_S32x288_S32x1x288_0_2 (W main_v69 : Arr F S32x288 .f32) :=
  (h.sub 6 rfl).unary 4 rfl
theorem e_v74 : (W main_v74 : Arr F S32x3x288 .f32) = concatenate S32x3x288 1 [⟨S32x1x288, (W main_v71 : Arr F S32x1x288 .f32)⟩, ⟨S32x1x288, (W main_v72 : Arr F S32x1x288 .f32)⟩, ⟨S32x1x288, (W main_v73 : Arr F S32x1x288 .f32)⟩] concatenates_S32x1x288_S32x1x288_S32x1x288_S32x3x288_d1 :=
  (h.sub 6 rfl).nary 5 rfl
theorem e_c_14 : (W main_c_14 : Arr F S_ .i32) = constantI S_ 32 0#32 :=
  (h.sub 6 rfl).nullary 6 rfl
theorem e_call3_v0 : (W main_call3_v0 : Arr F S_ .f32) = sitofp .f32 (W main_c_14 : Arr F S_ .i32) :=
  (h.sub 7 rfl).unary 0 rfl
theorem e_v75 : (W main_v75 : Arr F S32x8x288 .f32) = pad S32x8x288 ![0, 0, 0] ![0, 5, 0] ![0, 0, 0] (W main_v74 : Arr F S32x3x288 .f32) (W main_call3_v0 : Arr F S_ .f32) pads_S32x3x288_S32x8x288_000_050_000 h_S_ :=
  (h.sub 7 rfl).binary 1 rfl
theorem e_v76 : (W main_v76 : Arr F S32x576x384 .f32) = extractStridedSlice S32x576x384 ![0, 1, 0] (W main_arg0 : Arr F S32x577x384 .f32) slices_S32x577x384_S32x576x384_0_1_0 :=
  (h.sub 8 rfl).unary 0 rfl
theorem e_v77 : (W main_v77 : Arr F S32x288x768 .f32) = shapeCast S32x288x768 (W main_v76 : Arr F S32x576x384 .f32) shapeCasts_S32x576x384_S32x288x768 :=
  (h.sub 8 rfl).reshape 1 rfl
theorem e_v78 : (W main_v78 : Arr F S32x1x384 .f32) = extractStridedSlice S32x1x384 ![0, 0, 0] (W main_arg0 : Arr F S32x577x384 .f32) slices_S32x577x384_S32x1x384_0_0_0 :=
  (h.sub 8 rfl).unary 2 rfl
theorem e_cst_15 : (W main_cst_15 : Arr F S_ .f32) = constant S_ .f32 0x00000000#32 :=
  (h.sub 8 rfl).nullary 3 rfl
theorem e_v79 : (W main_v79 : Arr F S32x15x384 .f32) = broadcastInDim S32x15x384 ![] bcast_S_S32x15x384 (W main_cst_15 : Arr F S_ .f32) :=
  (h.sub 8 rfl).unary 4 rfl
theorem e_v80 : (W main_v80 : Arr F S32x16x384 .f32) = concatenate S32x16x384 1 [⟨S32x1x384, (W main_v78 : Arr F S32x1x384 .f32)⟩, ⟨S32x15x384, (W main_v79 : Arr F S32x15x384 .f32)⟩] concatenates_S32x1x384_S32x15x384_S32x16x384_d1 :=
  (h.sub 8 rfl).binary 5 rfl

end Cert.KernelIdeal.Host

end
-- ==== Proof.KerHost.lean ====
/- What the kernel's launch is given: the tokens in pairs, the class token, and three rows of marks. -/
module

public import proofs.«01_k».proof.Proof.KernelEqs
public import proofs.«01_k».proof.Proof.Spec
public import proofs.«01_k».proof.Proof.Merge
public import proofs.«01_k».proof.Proof.Words
public import Idealize.ShloMosaic.Lib.Pointwise
public import Idealize.ShloMosaic.Lib.Routing.OpsPair
public import Idealize.ShloMosaic.Lib.Routing.OpsSet

@[expose] public section

set_option maxRecDepth 16384

noncomputable section

namespace Cert.KernelIdeal.Host

open Cert.KernelIdeal Cert.KernelIdeal.Gen Idealize.ShloMosaic Idealize.ShloMosaic.TcCoe Idealize.ShloMosaic.StableHlo Cert.Settled Cert.Spec Cert.Words
open scoped BigOperators

/-! ### A running sum -/

theorem fold_add {T : Type} (g : T → EReal) (l : List T) (v : EReal) : l.foldl (fun r n => r + g n) v = v + (l.map g).sum := by
  induction l generalizing v with
  | nil => simp
  | cons a l ih => rw [List.foldl_cons, ih, List.map_cons, List.sum_cons, add_assoc]

/-- What a window's place adds to a running sum: nothing before the row's start. -/
def term (x : FVec Ideal S32x288 .f32) (b : Fin 32) (j t : Fin 288) : EReal :=
  if h : 287 ≤ j.val + t.val then x (ix2 b ⟨j.val + t.val - 287, by omega⟩) else 0

theorem window_term (x : FVec Ideal S32x288 .f32) (b : Fin 32) (j : Fin 288) (k : (⟨2, ![1, 288]⟩ : Shape).Idx) (c : EReal) (hc : c = 0)
    (inst : Decidable (∀ a : Fin 2, (![0, 287] : Fin 2 → ℕ) a ≤ (ix2 b j a).val * (![1, 1] : Fin 2 → ℕ) a + (k a).val
          ∧ (ix2 b j a).val * (![1, 1] : Fin 2 → ℕ) a + (k a).val - (![0, 287] : Fin 2 → ℕ) a < S32x288.size a)) :
    @dite EReal (∀ a : Fin 2, (![0, 287] : Fin 2 → ℕ) a ≤ (ix2 b j a).val * (![1, 1] : Fin 2 → ℕ) a + (k a).val
          ∧ (ix2 b j a).val * (![1, 1] : Fin 2 → ℕ) a + (k a).val - (![0, 287] : Fin 2 → ℕ) a < S32x288.size a) inst
        (fun hin => x (fun a : Fin 2 => ⟨(ix2 b j a).val * (![1, 1] : Fin 2 → ℕ) a + (k a).val - (![0, 287] : Fin 2 → ℕ) a, (hin a).2⟩)) (fun _ => c)
      = term x b j (k 1) := by
  have k0 : (k 0).val < 1 := (k 0).isLt
  have k1 : (k 1).val < 288 := (k 1).isLt
  unfold term
  by_cases hj : 287 ≤ j.val + (k 1).val
  · rw [dif_pos hj, dif_pos fun a => by
      match a with
      | 0 => exact ⟨Nat.zero_le _, show b.val * 1 + (k 0).val - 0 < 32 by omega⟩
      | 1 => exact ⟨show 287 ≤ j.val * 1 + (k 1).val by omega, show j.val * 1 + (k 1).val - 287 < 288 by omega⟩]
    congr 1
    funext a
    match a with
    | 0 => exact Fin.ext (show b.val * 1 + (k 0).val - 0 = b.val by omega)
    | 1 => exact Fin.ext (show j.val * 1 + (k 1).val - 287 = j.val + (k 1).val - 287 by omega)
  · rw [dif_neg hj, dif_neg fun hin => hj (by have : 287 ≤ j.val * 1 + (k 1).val := (hin 1).1; omega), hc]

theorem running (x : FVec Ideal S32x288 .f32) (z : FVec Ideal S_ .f32) (hz : z (Shape.Idx.first h_S_) = (0 : EReal)) (b : Fin 32) (j : Fin 288) :
    (Host.reduceWindowAdd ![1, 288] ![1, 1] ![0, 287] ![0, 0] x z reduceWindows_S32x288_S32x288_w1s1p0_0_w288s1p287_0 h_S_ : FVec Ideal S32x288 .f32) (ix2 b j)
      = ∑ y : Fin 288, if y ≤ j then (x (ix2 b y) : EReal) else 0 := by
  show Ideal.hostReduceWindowAdd ![1, 288] ![1, 1] ![0, 287] ![0, 0] reduceWindows_S32x288_S32x288_w1s1p0_0_w288s1p287_0 x (z (Shape.Idx.first h_S_)) (ix2 b j) = _
  rw [hz]
  unfold Ideal.hostReduceWindowAdd Host.reduceWindow
  rw [fold_add, ← Fin.sum_univ_def, zero_add]
  refine Eq.trans (Fintype.sum_congr _ (fun n => term x b j ((⟨2, ![1, 288]⟩ : Shape).rowMajor.symm n 1)) fun n => window_term x b j ((⟨2, ![1, 288]⟩ : Shape).rowMajor.symm n) 0 rfl _) ?_
  refine (Equiv.sum_comp (⟨2, ![1, 288]⟩ : Shape).rowMajor.symm fun k => term x b j (k 1)).trans ?_
  rw [ValueIdx.sum_idx2, Fin.sum_univ_one]
  show ∑ t : Fin 288, term x b j t = _
  rw [← Finset.sum_filter, show (∑ t : Fin 288, term x b j t) = ∑ t ∈ Finset.univ.filter (fun t : Fin 288 => 287 ≤ j.val + t.val), term x b j t from
    (Finset.sum_filter_of_ne fun t _ ht => by
      by_contra q
      exact ht (dif_neg q)).symm]
  refine Finset.sum_bij' (fun t _ => ⟨j.val + t.val - 287, by omega⟩) (fun y hy => ⟨y.val + 287 - j.val, by
    have : y.val ≤ j.val := (Finset.mem_filter.1 hy).2
    omega⟩) ?_ ?_ ?_ ?_ ?_
  · intro t ht
    exact Finset.mem_filter.2 ⟨Finset.mem_univ _, show j.val + t.val - 287 ≤ j.val by omega⟩
  · intro y hy
    have : y.val ≤ j.val := (Finset.mem_filter.1 hy).2
    exact Finset.mem_filter.2 ⟨Finset.mem_univ _, show 287 ≤ j.val + (y.val + 287 - j.val) by omega⟩
  · intro t ht
    have : 287 ≤ j.val + t.val := (Finset.mem_filter.1 ht).2
    exact Fin.ext (show j.val + t.val - 287 + 287 - j.val = t.val by omega)
  · intro y hy
    have : y.val ≤ j.val := (Finset.mem_filter.1 hy).2
    exact Fin.ext (show j.val + (y.val + 287 - j.val) - 287 = y.val by omega)
  · intro t ht
    exact dif_pos (Finset.mem_filter.1 ht).2

theorem coe_sum' {T : Type} (s : Finset T) (f : T → ℝ) : (∑ y ∈ s, ((f y : ℝ) : EReal)) = ((∑ y ∈ s, f y : ℝ) : EReal) := by
  classical
  induction s using Finset.induction_on with
  | empty => simp
  | insert a s ha ih => rw [Finset.sum_insert ha, Finset.sum_insert ha, ih, EReal.coe_add]

theorem left_term (M : Fin 288 → Prop) [DecidablePred M] (y : Fin 288) : ((1 : EReal) - if M y then 1 else 0) = ((if M y then (0 : ℝ) else 1 : ℝ) : EReal) := by
  by_cases h : M y
  · rw [if_pos h, if_pos h, ← EReal.coe_one, ← EReal.coe_sub, sub_self]
  · rw [if_neg h, if_neg h, sub_zero, EReal.coe_one]

/-- A running sum of marks, less the own mark, is a rank. -/
theorem rank_sum (M : Fin 288 → Prop) [DecidablePred M] (i : Fin 288) :
    (∑ y : Fin 288, if y ≤ i then ((1 : EReal) - if M y then 1 else 0) else 0) - ((1 : EReal) - if M i then 1 else 0) = ((Order.rank M i : ℝ) : EReal) := by
  have e : ∀ y : Fin 288, (if y ≤ i then ((1 : EReal) - if M y then 1 else 0) else 0) = ((if y ≤ i then (if M y then 0 else 1) else 0 : ℝ) : EReal) := fun y => by
    rw [left_term]
    by_cases h : y ≤ i
    · rw [if_pos h, if_pos h]
    · rw [if_neg h, if_neg h, EReal.coe_zero]
  rw [Finset.sum_congr rfl fun y _ => e y, coe_sum', left_term, ← EReal.coe_sub]
  congr 1
  have e2 : ∀ y : Fin 288, (if y ≤ i then (if M y then 0 else 1) else 0 : ℝ) = (if y < i ∧ ¬ M y then 1 else 0) + if y = i then (if M y then 0 else 1) else 0 := fun y => by
    rcases lt_trichotomy y i with h | h | h
    · by_cases hm : M y <;> simp [h, h.le, h.ne, hm]
    · subst h; simp
    · simp [h.not_ge, h.not_gt, h.ne']
  rw [Finset.sum_congr rfl fun y _ => e2 y, Finset.sum_add_distrib, Finset.sum_ite_eq' , if_pos (Finset.mem_univ _), Finset.sum_boole, add_sub_cancel_right]
  rfl

/-! ### The rows of marks -/

theorem inside (b : Fin 32) (m : Fin 8) (hm : m.val < 3) (i : Fin 288) : ∀ a : Fin 3,
    (![0, 0, 0] : Fin 3 → ℕ) a ≤ (ix3 b m i a).val ∧ ((ix3 b m i a).val - (![0, 0, 0] : Fin 3 → ℕ) a) % ((![0, 0, 0] : Fin 3 → ℕ) a + 1) = 0
      ∧ ((ix3 b m i a).val - (![0, 0, 0] : Fin 3 → ℕ) a) / ((![0, 0, 0] : Fin 3 → ℕ) a + 1) < S32x3x288.size a
  | 0 => ⟨Nat.zero_le _, Nat.mod_one _, show (b.val - 0) / (0 + 1) < 32 by omega⟩
  | 1 => ⟨Nat.zero_le _, Nat.mod_one _, show (m.val - 0) / (0 + 1) < 3 by omega⟩
  | 2 => ⟨Nat.zero_le _, Nat.mod_one _, show (i.val - 0) / (0 + 1) < 288 by omega⟩

variable {W : Valuation τ sig (Elt Ideal)} (h : Settled (List.flatten [hostOps0, hostOps0_1, hostOps0_2, hostOps0_3, hostOps0_4, hostOps0_5, hostOps0_6, hostOps0_7, hostOps0_8]) W)
include h

section Marks

variable {A : Fin 32 → Fin 288 → Fin 288} {I : Fin 32 → Fin 16 → Fin 288}
  (hA : ∀ (b : Fin 32) (i : Fin 288), (W main_v46 : Arr Ideal S32x288 .i32) (ix2 b i) = word (A b i))
  (hI : ∀ (b : Fin 32) (j : Fin 16), (W main_indices : Arr Ideal S32x16 .i32) (ix2 b j) = word (I b j))

theorem mark_index0 (b : Fin 32) (j : Fin 16) : (W main_v63 : Arr Ideal S32x16x2 .i32) (ix3 b j (0 : Fin 2)) = BitVec.ofNat 32 b.val := by
  rw [e_v63 h, e_v61 h, e_v60 h, e_v54 h, e_v53 h, e_v52 h, e_c_9 h, e_v51 h, e_v50 h, e_c h, e_v49 h, e_v48 h]
  generalize (W main_v62 : Arr Ideal S32x16x1 .i32) = z
  pointwise []
  exact batch_wrap b _

include hI

theorem mark_index1 (b : Fin 32) (j : Fin 16) : (W main_v63 : Arr Ideal S32x16x2 .i32) (ix3 b j (1 : Fin 2)) = word (I b j) := by
  rw [e_v63 h, e_v62 h, e_v59 h, e_v58 h, e_v57 h, e_c_11 h, e_v56 h, e_v55 h, e_c_10 h]
  generalize (W main_v61 : Arr Ideal S32x16x1 .i32) = z
  pointwise []
  rw [hI]
  exact word_wrap _ _

theorem mark_at (b : Fin 32) (i : Fin 288) :
    (W main_v65 : Arr Ideal S32x288 .f32) (ix2 b i) = if Merge.Gone (I b) i then (1 : EReal) else 0 := by
  rw [e_v65 h]
  have land : ∀ (p : Fin 32) (j : Fin 16), scatter_S32x288_S32x16x2_S32x16_n_01_01_2.resultIdx? (ix2 p j) (W main_v63 : Arr Ideal S32x16x2 .i32) = some (ix2 b i)
      ↔ p = b ∧ I p j = i := fun p j => by
    refine (Routing.scatter_lands2 scatter_S32x288_S32x16x2_S32x16_n_01_01_2 rfl rfl rfl (W main_v63 : Arr Ideal S32x16x2 .i32) p j b i).trans ?_
    have e0 : ((W main_v63 : Arr Ideal S32x16x2 .i32) (ix3 p j (0 : Fin 2))).toInt = p.val := by rw [mark_index0 h, batch_toInt]
    have e1 : ((W main_v63 : Arr Ideal S32x16x2 .i32) (ix3 p j (1 : Fin 2))).toInt = (I p j).val := by rw [mark_index1 h hI, word_toInt]
    constructor
    · rintro ⟨g0, g1⟩
      exact ⟨Fin.ext (by exact_mod_cast e0.symm.trans g0), Fin.ext (by exact_mod_cast e1.symm.trans g1)⟩
    · rintro ⟨rfl, rfl⟩
      exact ⟨e0, e1⟩
  by_cases hg : Merge.Gone (I b) i
  · rw [if_pos hg]
    obtain ⟨j, hj⟩ := hg
    refine Routing.scatter_set_hit _ _ _ _ _ _ (fun k _ => ?_) (ix2 b j) ((land b j).2 ⟨rfl, hj⟩)
    rw [e_v64 h, e_cst_12 h]
    exact one_eq
  · rw [if_neg hg, Routing.scatter_set_miss _ _ _ _ _ fun k hk => ?_]
    · rw [e_v47 h, e_cst_8 h]
      exact (show Ideal.ofBits .f32 0x00000000#32 = 0 from Ideal.ofBits_zero _)
    · obtain ⟨p, j, rfl⟩ : ∃ (p : Fin 32) (j : Fin 16), k = ix2 p j := ⟨k 0, k 1, ValueIdx.eq_ix2 k⟩
      obtain ⟨rfl, hj⟩ := (land p j).1 hk
      exact hg ⟨j, hj⟩

theorem left_at (b : Fin 32) (i : Fin 288) :
    (W main_v67 : Arr Ideal S32x288 .f32) (ix2 b i) = (1 : EReal) - if Merge.Gone (I b) i then (1 : EReal) else 0 := by
  rw [← mark_at h hI, e_v67 h, e_v66 h, e_cst_13 h, ← one_eq]
  rfl

theorem rank_at (b : Fin 32) (i : Fin 288) :
    (W main_v69 : Arr Ideal S32x288 .f32) (ix2 b i) = ((Order.rank (Merge.Gone (I b)) i : ℝ) : EReal) := by
  rw [← rank_sum]
  simp only [← left_at h hI]
  rw [← running (W main_v67 : Arr Ideal S32x288 .f32) (W main_call2_call0_v0 : Arr Ideal S_ .f32) ?_ b i, ← e_v68 h, e_v69 h]
  · rfl
  · rw [e_call2_call0_v0 h, e_call2_call0_cst h]
    exact (show Ideal.ofBits .f32 0x00000000#32 = 0 from Ideal.ofBits_zero _)

theorem meta_mark (b : Fin 32) (i : Fin 288) :
    (W main_v75 : Arr Ideal S32x8x288 .f32) (ix3 b (1 : Fin 8) i) = if Merge.Gone (I b) i then (1 : EReal) else 0 := by
  rw [← mark_at h hI, e_v75 h, e_v74 h, e_v72 h]
  generalize (W main_v71 : Arr Ideal S32x1x288 .f32) = z1
  generalize (W main_v73 : Arr Ideal S32x1x288 .f32) = z2
  generalize (W main_v65 : Arr Ideal S32x288 .f32) = z3
  generalize (W main_call3_v0 : Arr Ideal S_ .f32) = z4
  pointwise []
  exact dif_pos (inside b (1 : Fin 8) (by decide) i)

theorem meta_rank (b : Fin 32) (i : Fin 288) :
    (W main_v75 : Arr Ideal S32x8x288 .f32) (ix3 b (2 : Fin 8) i) = ((Order.rank (Merge.Gone (I b)) i : ℝ) : EReal) := by
  rw [← rank_at h hI, e_v75 h, e_v74 h, e_v73 h]
  generalize (W main_v71 : Arr Ideal S32x1x288 .f32) = z1
  generalize (W main_v72 : Arr Ideal S32x1x288 .f32) = z2
  generalize (W main_v69 : Arr Ideal S32x288 .f32) = z3
  generalize (W main_call3_v0 : Arr Ideal S_ .f32) = z4
  pointwise []
  exact dif_pos (inside b (2 : Fin 8) (by decide) i)

omit hI
include hA

theorem meta_match (b : Fin 32) (i : Fin 288) :
    (W main_v75 : Arr Ideal S32x8x288 .f32) (ix3 b (0 : Fin 8) i) = (((A b i).val : ℝ) : EReal) := by
  have e : (W main_v70 : Arr Ideal S32x288 .f32) (ix2 b i) = (((A b i).val : ℝ) : EReal) := by
    rw [e_v70 h]
    show ((((W main_v46 : Arr Ideal S32x288 .i32) (ix2 b i)).toInt : ℝ) : EReal) = _
    rw [hA, word_toInt]
    norm_cast
  rw [← e, e_v75 h, e_v74 h, e_v71 h]
  generalize (W main_v70 : Arr Ideal S32x288 .f32) = z1
  generalize (W main_v72 : Arr Ideal S32x1x288 .f32) = z2
  generalize (W main_v73 : Arr Ideal S32x1x288 .f32) = z3
  generalize (W main_call3_v0 : Arr Ideal S_ .f32) = z4
  pointwise []
  exact dif_pos (inside b (0 : Fin 8) (by decide) i)

end Marks

/-! ### The tokens -/

theorem even_at (b : Fin 32) (r : Fin 288) (d : Fin 384) :
    (W main_v77 : Arr Ideal S32x288x768 .f32) (ix3 b r (⟨d.val, by omega⟩ : Fin 768)) = Merge.tok (fun i k => (W main_arg0 : Arr Ideal S32x577x384 .f32) (ix3 b i k)) 0 r d := by
  rw [e_v77 h, e_v76 h]
  generalize (W main_arg0 : Arr Ideal S32x577x384 .f32) = x
  pointwise [Merge.tok]
  exact congrArg x (congrArg₂ (ix3 b) (Fin.ext (show 1 + (r.val * 2 + d.val / 384) = 1 + 2 * r.val by omega)) (Fin.ext (show d.val % 384 = d.val by omega)))

theorem odd_at (b : Fin 32) (r : Fin 288) (d : Fin 384) :
    (W main_v77 : Arr Ideal S32x288x768 .f32) (ix3 b r (⟨384 + d.val, by omega⟩ : Fin 768)) = Merge.tok (fun i k => (W main_arg0 : Arr Ideal S32x577x384 .f32) (ix3 b i k)) 1 r d := by
  rw [e_v77 h, e_v76 h]
  generalize (W main_arg0 : Arr Ideal S32x577x384 .f32) = x
  pointwise [Merge.tok]
  exact congrArg x (congrArg₂ (ix3 b) (Fin.ext (show 1 + (r.val * 2 + (384 + d.val) / 384) = 1 + (2 * r.val + 1) by omega)) rfl)

theorem class_at (b : Fin 32) (d : Fin 384) :
    (W main_v80 : Arr Ideal S32x16x384 .f32) (ix3 b (0 : Fin 16) d) = (W main_arg0 : Arr Ideal S32x577x384 .f32) (ix3 b (0 : Fin 577) d) := by
  rw [e_v80 h, e_v78 h]
  generalize (W main_arg0 : Arr Ideal S32x577x384 .f32) = x
  generalize (W main_v79 : Arr Ideal S32x15x384 .f32) = z
  pointwise []

end Cert.KernelIdeal.Host
end
-- ==== Proof.ReferenceEqs.lean ====
/- What each operation of the reference says of the buffer it writes, once the whole line has run. -/
module

public import proofs.«01_k».proof.Proof.Reference
public import proofs.«01_k».proof.Proof.Settled

@[expose] public section

set_option maxRecDepth 16384

noncomputable section

namespace Cert.ReferenceIdeal.Run

open Cert.ReferenceIdeal Cert.ReferenceIdeal.Gen Idealize.ShloMosaic Idealize.ShloMosaic.TcCoe Idealize.ShloMosaic.StableHlo Cert.Settled

variable {F : FTy → Type} [FloatOps F] {W : Valuation τ sig (Elt F)} (h : Settled line W)
include h

theorem e_cst : (W main_cst : Arr F S_ .f32) = constant S_ .f32 0x00000000#32 :=
  h.left.left.nullary 0 rfl
theorem e_v0 : (W main_v0 : Arr F S32x577 .f32) = Host.reduceAdd (W main_arg0 : Arr F S32x577x384 .f32) (W main_cst : Arr F S_ .f32) reducesTo_S32x577x384_S32x577_d2 h_S_ :=
  h.left.left.binary 1 rfl
theorem e_v1 : (W main_v1 : Arr F S32x577x1 .f32) = broadcastInDim S32x577x1 ![0, 1] bcast_S32x577_S32x577x1_0_1 (W main_v0 : Arr F S32x577 .f32) :=
  h.left.left.unary 2 rfl
theorem e_cst_0 : (W main_cst_0 : Arr F S_ .f32) = constant S_ .f32 0x43C00000#32 :=
  h.left.left.nullary 3 rfl
theorem e_v2 : (W main_v2 : Arr F S32x577x1 .f32) = broadcastInDim S32x577x1 ![] bcast_S_S32x577x1 (W main_cst_0 : Arr F S_ .f32) :=
  h.left.left.unary 4 rfl
theorem e_v3 : (W main_v3 : Arr F S32x577x1 .f32) = Host.divf (W main_v1 : Arr F S32x577x1 .f32) (W main_v2 : Arr F S32x577x1 .f32) :=
  h.left.left.binary 5 rfl
theorem e_c : (W main_c : Arr F S_ .i32) = constantI S_ 32 0#32 :=
  h.left.left.nullary 6 rfl
theorem e_call0_cst : (W main_call0_cst : Arr F S_ .f32) = constant S_ .f32 0x00000000#32 :=
  h.left.left.nullary 7 rfl
theorem e_call0_v0 : (W main_call0_v0 : Arr F S32x577 .f32) = Host.reduceAdd (W main_arg0 : Arr F S32x577x384 .f32) (W main_call0_cst : Arr F S_ .f32) reducesTo_S32x577x384_S32x577_d2 h_S_ :=
  h.left.left.binary 8 rfl
theorem e_call0_v1 : (W main_call0_v1 : Arr F S32x577x1 .f32) = broadcastInDim S32x577x1 ![0, 1] bcast_S32x577_S32x577x1_0_1 (W main_call0_v0 : Arr F S32x577 .f32) :=
  h.left.left.unary 9 rfl
theorem e_call0_cst_0 : (W main_call0_cst_0 : Arr F S_ .f32) = constant S_ .f32 0x43C00000#32 :=
  h.left.left.nullary 10 rfl
theorem e_call0_v2 : (W main_call0_v2 : Arr F S32x577x1 .f32) = broadcastInDim S32x577x1 ![] bcast_S_S32x577x1 (W main_call0_cst_0 : Arr F S_ .f32) :=
  h.left.left.unary 11 rfl
theorem e_call0_v3 : (W main_call0_v3 : Arr F S32x577x1 .f32) = Host.divf (W main_call0_v1 : Arr F S32x577x1 .f32) (W main_call0_v2 : Arr F S32x577x1 .f32) :=
  h.left.left.binary 12 rfl
theorem e_call0_v4 : (W main_call0_v4 : Arr F S32x577x384 .f32) = broadcastInDim S32x577x384 ![0, 1, 2] bcast_S32x577x1_S32x577x384_0_1_2 (W main_call0_v3 : Arr F S32x577x1 .f32) :=
  h.left.left.unary 13 rfl
theorem e_call0_v5 : (W main_call0_v5 : Arr F S32x577x384 .f32) = subf (W main_arg0 : Arr F S32x577x384 .f32) (W main_call0_v4 : Arr F S32x577x384 .f32) :=
  h.left.left.binary 14 rfl
theorem e_call0_v6 : (W main_call0_v6 : Arr F S32x577x384 .f32) = mulf (W main_call0_v5 : Arr F S32x577x384 .f32) (W main_call0_v5 : Arr F S32x577x384 .f32) :=
  h.left.left.binary 15 rfl
theorem e_call0_v7 : (W main_call0_v7 : Arr F S_ .f32) = sitofp .f32 (W main_c : Arr F S_ .i32) :=
  h.left.left.unary 16 rfl
theorem e_call0_cst_1 : (W main_call0_cst_1 : Arr F S_ .f32) = constant S_ .f32 0x43C00000#32 :=
  h.left.left.nullary 17 rfl
theorem e_call0_v8 : (W main_call0_v8 : Arr F S_ .f32) = subf (W main_call0_cst_1 : Arr F S_ .f32) (W main_call0_v7 : Arr F S_ .f32) :=
  h.left.left.binary 18 rfl
theorem e_call0_cst_2 : (W main_call0_cst_2 : Arr F S_ .f32) = constant S_ .f32 0x00000000#32 :=
  h.left.left.nullary 19 rfl
theorem e_call0_v9 : (W main_call0_v9 : Arr F S32x577 .f32) = Host.reduceAdd (W main_call0_v6 : Arr F S32x577x384 .f32) (W main_call0_cst_2 : Arr F S_ .f32) reducesTo_S32x577x384_S32x577_d2 h_S_ :=
  h.left.left.binary 20 rfl
theorem e_call0_v10 : (W main_call0_v10 : Arr F S32x577x1 .f32) = broadcastInDim S32x577x1 ![0, 1] bcast_S32x577_S32x577x1_0_1 (W main_call0_v9 : Arr F S32x577 .f32) :=
  h.left.left.unary 21 rfl
theorem e_call0_v11 : (W main_call0_v11 : Arr F S32x577x1 .f32) = broadcastInDim S32x577x1 ![] bcast_S_S32x577x1 (W main_call0_v8 : Arr F S_ .f32) :=
  h.left.left.unary 22 rfl
theorem e_call0_v12 : (W main_call0_v12 : Arr F S32x577x1 .f32) = Host.divf (W main_call0_v10 : Arr F S32x577x1 .f32) (W main_call0_v11 : Arr F S32x577x1 .f32) :=
  h.left.left.binary 23 rfl
theorem e_call0_cst_3 : (W main_call0_cst_3 : Arr F S_ .f32) = constant S_ .f32 0x00000000#32 :=
  h.left.left.nullary 24 rfl
theorem e_call0_v13 : (W main_call0_v13 : Arr F S_ .i1) = cmpf .ogt (W main_call0_v8 : Arr F S_ .f32) (W main_call0_cst_3 : Arr F S_ .f32) :=
  h.left.left.binary 25 rfl
theorem e_call0_cst_4 : (W main_call0_cst_4 : Arr F S_ .f32) = constant S_ .f32 0x7FC00000#32 :=
  h.left.left.nullary 26 rfl
theorem e_call0_call0_v0 : (W main_call0_call0_v0 : Arr F S_ .f32) = id (W main_call0_cst_4 : Arr F S_ .f32) :=
  h.left.left.unary 27 rfl
theorem e_call0_call0_v1 : (W main_call0_call0_v1 : Arr F S32x577x1 .f32) = broadcastInDim S32x577x1 ![] bcast_S_S32x577x1 (W main_call0_call0_v0 : Arr F S_ .f32) :=
  h.left.left.unary 28 rfl
theorem e_v4 : (W main_v4 : Arr F S32x577x1 .f32) = select (broadcastInDim S32x577x1 ![] bcast_S_S32x577x1 (W main_call0_v13 : Arr F S_ .i1)) (W main_call0_v12 : Arr F S32x577x1 .f32) (W main_call0_call0_v1 : Arr F S32x577x1 .f32) :=
  h.left.left.ternary 29 rfl
theorem e_v5 : (W main_v5 : Arr F S32x577x384 .f32) = broadcastInDim S32x577x384 ![0, 1, 2] bcast_S32x577x1_S32x577x384_0_1_2 (W main_v3 : Arr F S32x577x1 .f32) :=
  h.left.right.left.unary 0 rfl
theorem e_v6 : (W main_v6 : Arr F S32x577x384 .f32) = subf (W main_arg0 : Arr F S32x577x384 .f32) (W main_v5 : Arr F S32x577x384 .f32) :=
  h.left.right.left.binary 1 rfl
theorem e_cst_1 : (W main_cst_1 : Arr F S_ .f32) = constant S_ .f32 0x358637BD#32 :=
  h.left.right.left.nullary 2 rfl
theorem e_v7 : (W main_v7 : Arr F S32x577x1 .f32) = broadcastInDim S32x577x1 ![] bcast_S_S32x577x1 (W main_cst_1 : Arr F S_ .f32) :=
  h.left.right.left.unary 3 rfl
theorem e_v8 : (W main_v8 : Arr F S32x577x1 .f32) = addf (W main_v4 : Arr F S32x577x1 .f32) (W main_v7 : Arr F S32x577x1 .f32) :=
  h.left.right.left.binary 4 rfl
theorem e_v9 : (W main_v9 : Arr F S32x577x1 .f32) = Host.sqrt (W main_v8 : Arr F S32x577x1 .f32) :=
  h.left.right.left.unary 5 rfl
theorem e_v10 : (W main_v10 : Arr F S32x577x384 .f32) = broadcastInDim S32x577x384 ![0, 1, 2] bcast_S32x577x1_S32x577x384_0_1_2 (W main_v9 : Arr F S32x577x1 .f32) :=
  h.left.right.left.unary 6 rfl
theorem e_v11 : (W main_v11 : Arr F S32x577x384 .f32) = Host.divf (W main_v6 : Arr F S32x577x384 .f32) (W main_v10 : Arr F S32x577x384 .f32) :=
  h.left.right.left.binary 7 rfl
theorem e_v12 : (W main_v12 : Arr F S1x1x384 .f32) = broadcastInDim S1x1x384 ![2] bcast_S384_S1x1x384_2 (W main_arg1 : Arr F S384 .f32) :=
  h.left.right.left.unary 8 rfl
theorem e_v13 : (W main_v13 : Arr F S32x577x384 .f32) = broadcastInDim S32x577x384 ![0, 1, 2] bcast_S1x1x384_S32x577x384_0_1_2 (W main_v12 : Arr F S1x1x384 .f32) :=
  h.left.right.left.unary 9 rfl
theorem e_v14 : (W main_v14 : Arr F S32x577x384 .f32) = mulf (W main_v11 : Arr F S32x577x384 .f32) (W main_v13 : Arr F S32x577x384 .f32) :=
  h.left.right.left.binary 10 rfl
theorem e_v15 : (W main_v15 : Arr F S1x1x384 .f32) = broadcastInDim S1x1x384 ![2] bcast_S384_S1x1x384_2 (W main_arg2 : Arr F S384 .f32) :=
  h.left.right.left.unary 11 rfl
theorem e_v16 : (W main_v16 : Arr F S32x577x384 .f32) = broadcastInDim S32x577x384 ![0, 1, 2] bcast_S1x1x384_S32x577x384_0_1_2 (W main_v15 : Arr F S1x1x384 .f32) :=
  h.left.right.left.unary 12 rfl
theorem e_v17 : (W main_v17 : Arr F S32x577x384 .f32) = addf (W main_v14 : Arr F S32x577x384 .f32) (W main_v16 : Arr F S32x577x384 .f32) :=
  h.left.right.left.binary 13 rfl
theorem e_v18 : (W main_v18 : Arr F S32x577x1152 .f32) = Host.dotGeneral dot_S32x577x384_S384x1152_S32x577x1152_2_0_01_1_n_n none (W main_v17 : Arr F S32x577x384 .f32) (W main_arg3 : Arr F S384x1152 .f32) :=
  h.left.right.left.binary 14 rfl
theorem e_v19 : (W main_v19 : Arr F S1x1x1152 .f32) = broadcastInDim S1x1x1152 ![2] bcast_S1152_S1x1x1152_2 (W main_arg4 : Arr F S1152 .f32) :=
  h.left.right.left.unary 15 rfl
theorem e_v20 : (W main_v20 : Arr F S32x577x1152 .f32) = broadcastInDim S32x577x1152 ![0, 1, 2] bcast_S1x1x1152_S32x577x1152_0_1_2 (W main_v19 : Arr F S1x1x1152 .f32) :=
  h.left.right.left.unary 16 rfl
theorem e_v21 : (W main_v21 : Arr F S32x577x1152 .f32) = addf (W main_v18 : Arr F S32x577x1152 .f32) (W main_v20 : Arr F S32x577x1152 .f32) :=
  h.left.right.left.binary 17 rfl
theorem e_v22 : (W main_v22 : Arr F S32x577x3x6x64 .f32) = shapeCast S32x577x3x6x64 (W main_v21 : Arr F S32x577x1152 .f32) shapeCasts_S32x577x1152_S32x577x3x6x64 :=
  h.left.right.left.reshape 18 rfl
theorem e_v23 : (W main_v23 : Arr F S32x577x1x6x64 .f32) = extractStridedSlice S32x577x1x6x64 ![0, 0, 1, 0, 0] (W main_v22 : Arr F S32x577x3x6x64 .f32) slices_S32x577x3x6x64_S32x577x1x6x64_0_0_1_0_0 :=
  h.left.right.left.unary 19 rfl
theorem e_v24 : (W main_v24 : Arr F S32x577x6x64 .f32) = shapeCast S32x577x6x64 (W main_v23 : Arr F S32x577x1x6x64 .f32) shapeCasts_S32x577x1x6x64_S32x577x6x64 :=
  h.left.right.left.reshape 20 rfl
theorem e_cst_2 : (W main_cst_2 : Arr F S_ .f32) = constant S_ .f32 0x00000000#32 :=
  h.left.right.left.nullary 21 rfl
theorem e_v25 : (W main_v25 : Arr F S32x577x64 .f32) = Host.reduceAdd (W main_v24 : Arr F S32x577x6x64 .f32) (W main_cst_2 : Arr F S_ .f32) reducesTo_S32x577x6x64_S32x577x64_d2 h_S_ :=
  h.left.right.left.binary 22 rfl
theorem e_cst_3 : (W main_cst_3 : Arr F S_ .f32) = constant S_ .f32 0x40C00000#32 :=
  h.left.right.left.nullary 23 rfl
theorem e_v26 : (W main_v26 : Arr F S32x577x64 .f32) = broadcastInDim S32x577x64 ![] bcast_S_S32x577x64 (W main_cst_3 : Arr F S_ .f32) :=
  h.left.right.left.unary 24 rfl
theorem e_v27 : (W main_v27 : Arr F S32x577x64 .f32) = Host.divf (W main_v25 : Arr F S32x577x64 .f32) (W main_v26 : Arr F S32x577x64 .f32) :=
  h.left.right.left.binary 25 rfl
theorem e_v28 : (W main_v28 : Arr F S32x1x384 .f32) = extractStridedSlice S32x1x384 ![0, 0, 0] (W main_arg0 : Arr F S32x577x384 .f32) slices_S32x577x384_S32x1x384_0_0_0 :=
  h.left.right.left.unary 26 rfl
theorem e_v29 : (W main_v29 : Arr F S32x576x384 .f32) = extractStridedSlice S32x576x384 ![0, 1, 0] (W main_arg0 : Arr F S32x577x384 .f32) slices_S32x577x384_S32x576x384_0_1_0 :=
  h.left.right.left.unary 27 rfl
theorem e_v30 : (W main_v30 : Arr F S32x576x64 .f32) = extractStridedSlice S32x576x64 ![0, 1, 0] (W main_v27 : Arr F S32x577x64 .f32) slices_S32x577x64_S32x576x64_0_1_0 :=
  h.left.right.left.unary 28 rfl
theorem e_call1_v0 : (W main_call1_v0 : Arr F S32x576x64 .f32) = mulf (W main_v30 : Arr F S32x576x64 .f32) (W main_v30 : Arr F S32x576x64 .f32) :=
  h.left.right.left.binary 29 rfl
theorem e_call1_cst : (W main_call1_cst : Arr F S_ .f32) = constant S_ .f32 0x00000000#32 :=
  h.left.right.right.left.nullary 0 rfl
theorem e_call1_v1 : (W main_call1_v1 : Arr F S32x576 .f32) = Host.reduceAdd (W main_call1_v0 : Arr F S32x576x64 .f32) (W main_call1_cst : Arr F S_ .f32) reducesTo_S32x576x64_S32x576_d2 h_S_ :=
  h.left.right.right.left.binary 1 rfl
theorem e_call1_v2 : (W main_call1_v2 : Arr F S32x576x1 .f32) = broadcastInDim S32x576x1 ![0, 1] bcast_S32x576_S32x576x1_0_1 (W main_call1_v1 : Arr F S32x576 .f32) :=
  h.left.right.right.left.unary 2 rfl
theorem e_v31 : (W main_v31 : Arr F S32x576x1 .f32) = Host.sqrt (W main_call1_v2 : Arr F S32x576x1 .f32) :=
  h.left.right.right.left.unary 3 rfl
theorem e_cst_4 : (W main_cst_4 : Arr F S_ .f32) = constant S_ .f32 0x2B8CBCCC#32 :=
  h.left.right.right.left.nullary 4 rfl
theorem e_v32 : (W main_v32 : Arr F S32x576x1 .f32) = broadcastInDim S32x576x1 ![] bcast_S_S32x576x1 (W main_cst_4 : Arr F S_ .f32) :=
  h.left.right.right.left.unary 5 rfl
theorem e_v33 : (W main_v33 : Arr F S32x576x1 .f32) = maximumf (W main_v31 : Arr F S32x576x1 .f32) (W main_v32 : Arr F S32x576x1 .f32) :=
  h.left.right.right.left.binary 6 rfl
theorem e_v34 : (W main_v34 : Arr F S32x576x64 .f32) = broadcastInDim S32x576x64 ![0, 1, 2] bcast_S32x576x1_S32x576x64_0_1_2 (W main_v33 : Arr F S32x576x1 .f32) :=
  h.left.right.right.left.unary 7 rfl
theorem e_v35 : (W main_v35 : Arr F S32x576x64 .f32) = Host.divf (W main_v30 : Arr F S32x576x64 .f32) (W main_v34 : Arr F S32x576x64 .f32) :=
  h.left.right.right.left.binary 8 rfl
theorem e_v36 : (W main_v36 : Arr F S32x288x64 .f32) = Host.slice S32x288x64 ![0, 0, 0] ![1, 2, 1] (W main_v35 : Arr F S32x576x64 .f32) slicesBy_S32x576x64_S32x288x64_0s1_0s2_0s1 :=
  h.left.right.right.left.unary 9 rfl
theorem e_v37 : (W main_v37 : Arr F S32x288x64 .f32) = Host.slice S32x288x64 ![0, 1, 0] ![1, 2, 1] (W main_v35 : Arr F S32x576x64 .f32) slicesBy_S32x576x64_S32x288x64_0s1_1s2_0s1 :=
  h.left.right.right.left.unary 10 rfl
theorem e_v38 : (W main_v38 : Arr F S32x288x288 .f32) = Host.dotGeneral dot_S32x288x64_S32x288x64_S32x288x288_2_2_1_1_0_0 none (W main_v37 : Arr F S32x288x64 .f32) (W main_v36 : Arr F S32x288x64 .f32) :=
  h.left.right.right.left.binary 11 rfl
theorem e_cst_5 : (W main_cst_5 : Arr F S_ .f32) = constant S_ .f32 0xFF800000#32 :=
  h.left.right.right.left.nullary 12 rfl
theorem e_v39 : (W main_v39 : Arr F S32x288 .f32) = Host.reduce FloatOps.maximumf (W main_v38 : Arr F S32x288x288 .f32) (W main_cst_5 : Arr F S_ .f32) reducesTo_S32x288x288_S32x288_d2 h_S_ :=
  h.left.right.right.left.binary 13 rfl
theorem e_call2_v0 : (W main_call2_v0 : Arr F S32x288x288 .i32) = iotaInDim S32x288x288 32 2 :=
  h.left.right.right.left.nullary 14 rfl
theorem e_call2_cst : (W main_call2_cst : Arr F S_ .f32) = constant S_ .f32 0xFF800000#32 :=
  h.left.right.right.left.nullary 15 rfl
theorem e_call2_c : (W main_call2_c : Arr F S_ .i32) = constantI S_ 32 0#32 :=
  h.left.right.right.left.nullary 16 rfl
theorem e_call2_v1_0 : (W main_call2_v1_0 : Arr F S32x288 .f32) = (fun j => (Host.argReduce reducer_argmax_f32_i32 (W main_v38 : Arr F S32x288x288 .f32) (W main_call2_v0 : Arr F S32x288x288 .i32) (W main_call2_cst : Arr F S_ .f32) (W main_call2_c : Arr F S_ .i32) reducesTo_S32x288x288_S32x288_d2 h_S_ j).1) :=
  h.left.right.right.left.quaternary 17 rfl
theorem e_v40 : (W main_v40 : Arr F S32x288 .i32) = (fun j => (Host.argReduce reducer_argmax_f32_i32 (W main_v38 : Arr F S32x288x288 .f32) (W main_call2_v0 : Arr F S32x288x288 .i32) (W main_call2_cst : Arr F S_ .f32) (W main_call2_c : Arr F S_ .i32) reducesTo_S32x288x288_S32x288_d2 h_S_ j).2) :=
  h.left.right.right.left.quaternary 18 rfl
theorem e_values : (W main_values : Arr F S32x16 .f32) = (Host.topK S32x16 1 (FloatOps.cmpfTotal .gt) (W main_v39 : Arr F S32x288 .f32) sliceFits_S32x288_S32x16).1 :=
  h.left.right.right.left.unary 19 rfl
theorem e_indices : (W main_indices : Arr F S32x16 .i32) = (Host.topK S32x16 1 (FloatOps.cmpfTotal .gt) (W main_v39 : Arr F S32x288 .f32) sliceFits_S32x288_S32x16).2 :=
  h.left.right.right.left.unary 20 rfl
theorem e_v41 : (W main_v41 : Arr F S32x288x384 .f32) = Host.slice S32x288x384 ![0, 0, 0] ![1, 2, 1] (W main_v29 : Arr F S32x576x384 .f32) slicesBy_S32x576x384_S32x288x384_0s1_0s2_0s1 :=
  h.left.right.right.left.unary 21 rfl
theorem e_v42 : (W main_v42 : Arr F S32x288x384 .f32) = Host.slice S32x288x384 ![0, 1, 0] ![1, 2, 1] (W main_v29 : Arr F S32x576x384 .f32) slicesBy_S32x576x384_S32x288x384_0s1_1s2_0s1 :=
  h.left.right.right.left.unary 22 rfl
theorem e_v43 : (W main_v43 : Arr F S32 .i32) = iotaInDim S32 32 0 :=
  h.left.right.right.left.nullary 23 rfl
theorem e_v44 : (W main_v44 : Arr F S32x1 .i32) = broadcastInDim S32x1 ![0] bcast_S32_S32x1_0 (W main_v43 : Arr F S32 .i32) :=
  h.left.right.right.left.unary 24 rfl
theorem e_call3_c : (W main_call3_c : Arr F S_ .i32) = constantI S_ 32 0#32 :=
  h.left.right.right.left.nullary 25 rfl
theorem e_call3_v0 : (W main_call3_v0 : Arr F S32x16 .i32) = broadcastInDim S32x16 ![] bcast_S_S32x16 (W main_call3_c : Arr F S_ .i32) :=
  h.left.right.right.left.unary 26 rfl
theorem e_call3_v1 : (W main_call3_v1 : Arr F S32x16 .i1) = cmpi .slt (W main_indices : Arr F S32x16 .i32) (W main_call3_v0 : Arr F S32x16 .i32) :=
  h.left.right.right.left.binary 27 rfl
theorem e_call3_c_0 : (W main_call3_c_0 : Arr F S_ .i32) = constantI S_ 32 288#32 :=
  h.left.right.right.left.nullary 28 rfl
theorem e_call3_v2 : (W main_call3_v2 : Arr F S32x16 .i32) = broadcastInDim S32x16 ![] bcast_S_S32x16 (W main_call3_c_0 : Arr F S_ .i32) :=
  h.left.right.right.left.unary 29 rfl
theorem e_call3_v3 : (W main_call3_v3 : Arr F S32x16 .i32) = addi (W main_indices : Arr F S32x16 .i32) (W main_call3_v2 : Arr F S32x16 .i32) :=
  h.left.right.right.right.left.binary 0 rfl
theorem e_call3_v4 : (W main_call3_v4 : Arr F S32x16 .i32) = select (W main_call3_v1 : Arr F S32x16 .i1) (W main_call3_v3 : Arr F S32x16 .i32) (W main_indices : Arr F S32x16 .i32) :=
  h.left.right.right.right.left.ternary 1 rfl
theorem e_call3_v5 : (W main_call3_v5 : Arr F S32x16x1 .i32) = shapeCast S32x16x1 (W main_call3_v4 : Arr F S32x16 .i32) shapeCasts_S32x16_S32x16x1 :=
  h.left.right.right.right.left.reshape 2 rfl
theorem e_call3_c_1 : (W main_call3_c_1 : Arr F S1 .i32) = constantI S1 32 287#32 :=
  h.left.right.right.right.left.nullary 3 rfl
theorem e_call3_c_2 : (W main_call3_c_2 : Arr F S_ .i32) = constantI S_ 32 0#32 :=
  h.left.right.right.right.left.nullary 4 rfl
theorem e_call3_v6 : (W main_call3_v6 : Arr F S32x16x1 .i32) = broadcastInDim S32x16x1 ![] bcast_S_S32x16x1 (W main_call3_c_2 : Arr F S_ .i32) :=
  h.left.right.right.right.left.unary 5 rfl
theorem e_call3_v7 : (W main_call3_v7 : Arr F S32x16x1 .i1) = cmpi .sge (W main_call3_v5 : Arr F S32x16x1 .i32) (W main_call3_v6 : Arr F S32x16x1 .i32) :=
  h.left.right.right.right.left.binary 6 rfl
theorem e_call3_v8 : (W main_call3_v8 : Arr F S1x1x1 .i32) = broadcastInDim S1x1x1 ![2] bcast_S1_S1x1x1_2 (W main_call3_c_1 : Arr F S1 .i32) :=
  h.left.right.right.right.left.unary 7 rfl
theorem e_call3_v9 : (W main_call3_v9 : Arr F S32x16x1 .i32) = broadcastInDim S32x16x1 ![0, 1, 2] bcast_S1x1x1_S32x16x1_0_1_2 (W main_call3_v8 : Arr F S1x1x1 .i32) :=
  h.left.right.right.right.left.unary 8 rfl
theorem e_call3_v10 : (W main_call3_v10 : Arr F S32x16x1 .i1) = cmpi .sle (W main_call3_v5 : Arr F S32x16x1 .i32) (W main_call3_v9 : Arr F S32x16x1 .i32) :=
  h.left.right.right.right.left.binary 9 rfl
theorem e_call3_v11 : (W main_call3_v11 : Arr F S32x16x1 .i1) = andi (W main_call3_v7 : Arr F S32x16x1 .i1) (W main_call3_v10 : Arr F S32x16x1 .i1) :=
  h.left.right.right.right.left.binary 10 rfl
theorem e_call3_c_3 : (W main_call3_c_3 : Arr F S_ .i1) = constantI S_ 1 1#1 :=
  h.left.right.right.right.left.nullary 11 rfl
theorem e_call3_v12 : (W main_call3_v12 : Arr F S32x16 .i1) = Host.reduce IntOp.andi (W main_call3_v11 : Arr F S32x16x1 .i1) (W main_call3_c_3 : Arr F S_ .i1) reducesTo_S32x16x1_S32x16_d2 h_S_ :=
  h.left.right.right.right.left.binary 12 rfl
theorem e_call3_v13 : (W main_call3_v13 : Arr F S32x16 .i32) = Host.gather gather_S32x288_S32x16x1_S32x16_n_1_0_0_1_2_11 (W main_v40 : Arr F S32x288 .i32) (W main_call3_v5 : Arr F S32x16x1 .i32) :=
  h.left.right.right.right.left.binary 13 rfl
theorem e_call3_c_4 : (W main_call3_c_4 : Arr F S_ .i32) = constantI S_ 32 2147483648#32 :=
  h.left.right.right.right.left.nullary 14 rfl
theorem e_call3_v14 : (W main_call3_v14 : Arr F S32x16 .i32) = broadcastInDim S32x16 ![] bcast_S_S32x16 (W main_call3_c_4 : Arr F S_ .i32) :=
  h.left.right.right.right.left.unary 15 rfl
theorem e_v45 : (W main_v45 : Arr F S32x16 .i32) = select (W main_call3_v12 : Arr F S32x16 .i1) (W main_call3_v13 : Arr F S32x16 .i32) (W main_call3_v14 : Arr F S32x16 .i32) :=
  h.left.right.right.right.left.ternary 16 rfl
theorem e_v46 : (W main_v46 : Arr F S32x16x1 .i32) = broadcastInDim S32x16x1 ![0, 1] bcast_S32x16_S32x16x1_0_1 (W main_indices : Arr F S32x16 .i32) :=
  h.left.right.right.right.left.unary 17 rfl
theorem e_call4_c : (W main_call4_c : Arr F S_ .i32) = constantI S_ 32 0#32 :=
  h.left.right.right.right.left.nullary 18 rfl
theorem e_call4_v0 : (W main_call4_v0 : Arr F S32x16x1 .i32) = broadcastInDim S32x16x1 ![] bcast_S_S32x16x1 (W main_call4_c : Arr F S_ .i32) :=
  h.left.right.right.right.left.unary 19 rfl
theorem e_call4_v1 : (W main_call4_v1 : Arr F S32x16x1 .i1) = cmpi .slt (W main_v46 : Arr F S32x16x1 .i32) (W main_call4_v0 : Arr F S32x16x1 .i32) :=
  h.left.right.right.right.left.binary 20 rfl
theorem e_call4_c_0 : (W main_call4_c_0 : Arr F S_ .i32) = constantI S_ 32 288#32 :=
  h.left.right.right.right.left.nullary 21 rfl
theorem e_call4_v2 : (W main_call4_v2 : Arr F S32x16x1 .i32) = broadcastInDim S32x16x1 ![] bcast_S_S32x16x1 (W main_call4_c_0 : Arr F S_ .i32) :=
  h.left.right.right.right.left.unary 22 rfl
theorem e_call4_v3 : (W main_call4_v3 : Arr F S32x16x1 .i32) = addi (W main_v46 : Arr F S32x16x1 .i32) (W main_call4_v2 : Arr F S32x16x1 .i32) :=
  h.left.right.right.right.left.binary 23 rfl
theorem e_call4_v4 : (W main_call4_v4 : Arr F S32x16x1 .i32) = select (W main_call4_v1 : Arr F S32x16x1 .i1) (W main_call4_v3 : Arr F S32x16x1 .i32) (W main_v46 : Arr F S32x16x1 .i32) :=
  h.left.right.right.right.left.ternary 24 rfl
theorem e_call4_c_1 : (W main_call4_c_1 : Arr F S1 .i32) = constantI S1 32 287#32 :=
  h.left.right.right.right.left.nullary 25 rfl
theorem e_call4_c_2 : (W main_call4_c_2 : Arr F S_ .i32) = constantI S_ 32 0#32 :=
  h.left.right.right.right.left.nullary 26 rfl
theorem e_call4_v5 : (W main_call4_v5 : Arr F S32x16x1 .i32) = broadcastInDim S32x16x1 ![] bcast_S_S32x16x1 (W main_call4_c_2 : Arr F S_ .i32) :=
  h.left.right.right.right.left.unary 27 rfl
theorem e_call4_v6 : (W main_call4_v6 : Arr F S32x16x1 .i1) = cmpi .sge (W main_call4_v4 : Arr F S32x16x1 .i32) (W main_call4_v5 : Arr F S32x16x1 .i32) :=
  h.left.right.right.right.left.binary 28 rfl
theorem e_call4_v7 : (W main_call4_v7 : Arr F S1x1x1 .i32) = broadcastInDim S1x1x1 ![2] bcast_S1_S1x1x1_2 (W main_call4_c_1 : Arr F S1 .i32) :=
  h.left.right.right.right.left.unary 29 rfl
theorem e_call4_v8 : (W main_call4_v8 : Arr F S32x16x1 .i32) = broadcastInDim S32x16x1 ![0, 1, 2] bcast_S1x1x1_S32x16x1_0_1_2 (W main_call4_v7 : Arr F S1x1x1 .i32) :=
  h.left.right.right.right.right.unary 0 rfl
theorem e_call4_v9 : (W main_call4_v9 : Arr F S32x16x1 .i1) = cmpi .sle (W main_call4_v4 : Arr F S32x16x1 .i32) (W main_call4_v8 : Arr F S32x16x1 .i32) :=
  h.left.right.right.right.right.binary 1 rfl
theorem e_call4_v10 : (W main_call4_v10 : Arr F S32x16x1 .i1) = andi (W main_call4_v6 : Arr F S32x16x1 .i1) (W main_call4_v9 : Arr F S32x16x1 .i1) :=
  h.left.right.right.right.right.binary 2 rfl
theorem e_call4_c_3 : (W main_call4_c_3 : Arr F S_ .i1) = constantI S_ 1 1#1 :=
  h.left.right.right.right.right.nullary 3 rfl
theorem e_call4_v11 : (W main_call4_v11 : Arr F S32x16 .i1) = Host.reduce IntOp.andi (W main_call4_v10 : Arr F S32x16x1 .i1) (W main_call4_c_3 : Arr F S_ .i1) reducesTo_S32x16x1_S32x16_d2 h_S_ :=
  h.left.right.right.right.right.binary 4 rfl
theorem e_call4_v12 : (W main_call4_v12 : Arr F S32x16x384 .f32) = Host.gather gather_S32x288x384_S32x16x1_S32x16x384_2_1_0_0_1_2_11384 (W main_v42 : Arr F S32x288x384 .f32) (W main_call4_v4 : Arr F S32x16x1 .i32) :=
  h.left.right.right.right.right.binary 5 rfl
theorem e_call4_v13 : (W main_call4_v13 : Arr F S32x16x384 .i1) = broadcastInDim S32x16x384 ![0, 1] bcast_S32x16_S32x16x384_0_1 (W main_call4_v11 : Arr F S32x16 .i1) :=
  h.left.right.right.right.right.unary 6 rfl
theorem e_call4_cst : (W main_call4_cst : Arr F S_ .f32) = constant S_ .f32 0x7FC00000#32 :=
  h.left.right.right.right.right.nullary 7 rfl
theorem e_call4_v14 : (W main_call4_v14 : Arr F S32x16x384 .f32) = broadcastInDim S32x16x384 ![] bcast_S_S32x16x384 (W main_call4_cst : Arr F S_ .f32) :=
  h.left.right.right.right.right.unary 8 rfl
theorem e_v47 : (W main_v47 : Arr F S32x16x384 .f32) = select (W main_call4_v13 : Arr F S32x16x384 .i1) (W main_call4_v12 : Arr F S32x16x384 .f32) (W main_call4_v14 : Arr F S32x16x384 .f32) :=
  h.left.right.right.right.right.ternary 9 rfl
theorem e_c_6 : (W main_c_6 : Arr F S_ .i32) = constantI S_ 32 0#32 :=
  h.left.right.right.right.right.nullary 10 rfl
theorem e_v48 : (W main_v48 : Arr F S32x1 .i32) = broadcastInDim S32x1 ![] bcast_S_S32x1 (W main_c_6 : Arr F S_ .i32) :=
  h.left.right.right.right.right.unary 11 rfl
theorem e_v49 : (W main_v49 : Arr F S32x1 .i1) = cmpi .slt (W main_v44 : Arr F S32x1 .i32) (W main_v48 : Arr F S32x1 .i32) :=
  h.right.left.left.binary 0 rfl
theorem e_c_7 : (W main_c_7 : Arr F S_ .i32) = constantI S_ 32 32#32 :=
  h.right.left.left.nullary 1 rfl
theorem e_v50 : (W main_v50 : Arr F S32x1 .i32) = broadcastInDim S32x1 ![] bcast_S_S32x1 (W main_c_7 : Arr F S_ .i32) :=
  h.right.left.left.unary 2 rfl
theorem e_v51 : (W main_v51 : Arr F S32x1 .i32) = addi (W main_v44 : Arr F S32x1 .i32) (W main_v50 : Arr F S32x1 .i32) :=
  h.right.left.left.binary 3 rfl
theorem e_v52 : (W main_v52 : Arr F S32x1 .i32) = select (W main_v49 : Arr F S32x1 .i1) (W main_v51 : Arr F S32x1 .i32) (W main_v44 : Arr F S32x1 .i32) :=
  h.right.left.left.ternary 4 rfl
theorem e_c_8 : (W main_c_8 : Arr F S_ .i32) = constantI S_ 32 0#32 :=
  h.right.left.left.nullary 5 rfl
theorem e_v53 : (W main_v53 : Arr F S32x16 .i32) = broadcastInDim S32x16 ![] bcast_S_S32x16 (W main_c_8 : Arr F S_ .i32) :=
  h.right.left.left.unary 6 rfl
theorem e_v54 : (W main_v54 : Arr F S32x16 .i1) = cmpi .slt (W main_v45 : Arr F S32x16 .i32) (W main_v53 : Arr F S32x16 .i32) :=
  h.right.left.left.binary 7 rfl
theorem e_c_9 : (W main_c_9 : Arr F S_ .i32) = constantI S_ 32 288#32 :=
  h.right.left.left.nullary 8 rfl
theorem e_v55 : (W main_v55 : Arr F S32x16 .i32) = broadcastInDim S32x16 ![] bcast_S_S32x16 (W main_c_9 : Arr F S_ .i32) :=
  h.right.left.left.unary 9 rfl
theorem e_v56 : (W main_v56 : Arr F S32x16 .i32) = addi (W main_v45 : Arr F S32x16 .i32) (W main_v55 : Arr F S32x16 .i32) :=
  h.right.left.left.binary 10 rfl
theorem e_v57 : (W main_v57 : Arr F S32x16 .i32) = select (W main_v54 : Arr F S32x16 .i1) (W main_v56 : Arr F S32x16 .i32) (W main_v45 : Arr F S32x16 .i32) :=
  h.right.left.left.ternary 11 rfl
theorem e_v58 : (W main_v58 : Arr F S32x16 .i32) = broadcastInDim S32x16 ![0, 1] bcast_S32x1_S32x16_0_1 (W main_v52 : Arr F S32x1 .i32) :=
  h.right.left.left.unary 12 rfl
theorem e_v59 : (W main_v59 : Arr F S32x16x1 .i32) = broadcastInDim S32x16x1 ![0, 1] bcast_S32x16_S32x16x1_0_1 (W main_v58 : Arr F S32x16 .i32) :=
  h.right.left.left.unary 13 rfl
theorem e_v60 : (W main_v60 : Arr F S32x16x1 .i32) = broadcastInDim S32x16x1 ![0, 1] bcast_S32x16_S32x16x1_0_1 (W main_v57 : Arr F S32x16 .i32) :=
  h.right.left.left.unary 14 rfl
theorem e_v61 : (W main_v61 : Arr F S32x16x2 .i32) = concatenate S32x16x2 2 [⟨S32x16x1, (W main_v59 : Arr F S32x16x1 .i32)⟩, ⟨S32x16x1, (W main_v60 : Arr F S32x16x1 .i32)⟩] concatenates_S32x16x1_S32x16x1_S32x16x2_d2 :=
  h.right.left.left.binary 15 rfl
theorem e_v62 : (W main_v62 : Arr F S32x288x384 .f32) = Host.scatterAdd scatter_S32x288x384_S32x16x2_S32x16x384_2_01_01_2 (W main_v41 : Arr F S32x288x384 .f32) (W main_v61 : Arr F S32x16x2 .i32) (W main_v47 : Arr F S32x16x384 .f32) :=
  h.right.left.left.ternary 16 rfl
theorem e_cst_10 : (W main_cst_10 : Arr F S_ .f32) = constant S_ .f32 0x3F800000#32 :=
  h.right.left.left.nullary 17 rfl
theorem e_v63 : (W main_v63 : Arr F S32x288x1 .f32) = broadcastInDim S32x288x1 ![] bcast_S_S32x288x1 (W main_cst_10 : Arr F S_ .f32) :=
  h.right.left.left.unary 18 rfl
theorem e_c_11 : (W main_c_11 : Arr F S_ .i32) = constantI S_ 32 0#32 :=
  h.right.left.left.nullary 19 rfl
theorem e_v64 : (W main_v64 : Arr F S32x1 .i32) = broadcastInDim S32x1 ![] bcast_S_S32x1 (W main_c_11 : Arr F S_ .i32) :=
  h.right.left.left.unary 20 rfl
theorem e_v65 : (W main_v65 : Arr F S32x1 .i1) = cmpi .slt (W main_v44 : Arr F S32x1 .i32) (W main_v64 : Arr F S32x1 .i32) :=
  h.right.left.left.binary 21 rfl
theorem e_c_12 : (W main_c_12 : Arr F S_ .i32) = constantI S_ 32 32#32 :=
  h.right.left.left.nullary 22 rfl
theorem e_v66 : (W main_v66 : Arr F S32x1 .i32) = broadcastInDim S32x1 ![] bcast_S_S32x1 (W main_c_12 : Arr F S_ .i32) :=
  h.right.left.left.unary 23 rfl
theorem e_v67 : (W main_v67 : Arr F S32x1 .i32) = addi (W main_v44 : Arr F S32x1 .i32) (W main_v66 : Arr F S32x1 .i32) :=
  h.right.left.left.binary 24 rfl
theorem e_v68 : (W main_v68 : Arr F S32x1 .i32) = select (W main_v65 : Arr F S32x1 .i1) (W main_v67 : Arr F S32x1 .i32) (W main_v44 : Arr F S32x1 .i32) :=
  h.right.left.left.ternary 25 rfl
theorem e_c_13 : (W main_c_13 : Arr F S_ .i32) = constantI S_ 32 0#32 :=
  h.right.left.left.nullary 26 rfl
theorem e_v69 : (W main_v69 : Arr F S32x16 .i32) = broadcastInDim S32x16 ![] bcast_S_S32x16 (W main_c_13 : Arr F S_ .i32) :=
  h.right.left.left.unary 27 rfl
theorem e_v70 : (W main_v70 : Arr F S32x16 .i1) = cmpi .slt (W main_v45 : Arr F S32x16 .i32) (W main_v69 : Arr F S32x16 .i32) :=
  h.right.left.left.binary 28 rfl
theorem e_c_14 : (W main_c_14 : Arr F S_ .i32) = constantI S_ 32 288#32 :=
  h.right.left.left.nullary 29 rfl
theorem e_v71 : (W main_v71 : Arr F S32x16 .i32) = broadcastInDim S32x16 ![] bcast_S_S32x16 (W main_c_14 : Arr F S_ .i32) :=
  h.right.left.right.unary 0 rfl
theorem e_v72 : (W main_v72 : Arr F S32x16 .i32) = addi (W main_v45 : Arr F S32x16 .i32) (W main_v71 : Arr F S32x16 .i32) :=
  h.right.left.right.binary 1 rfl
theorem e_v73 : (W main_v73 : Arr F S32x16 .i32) = select (W main_v70 : Arr F S32x16 .i1) (W main_v72 : Arr F S32x16 .i32) (W main_v45 : Arr F S32x16 .i32) :=
  h.right.left.right.ternary 2 rfl
theorem e_v74 : (W main_v74 : Arr F S32x16 .i32) = broadcastInDim S32x16 ![0, 1] bcast_S32x1_S32x16_0_1 (W main_v68 : Arr F S32x1 .i32) :=
  h.right.left.right.unary 3 rfl
theorem e_v75 : (W main_v75 : Arr F S32x16x1 .i32) = broadcastInDim S32x16x1 ![0, 1] bcast_S32x16_S32x16x1_0_1 (W main_v74 : Arr F S32x16 .i32) :=
  h.right.left.right.unary 4 rfl
theorem e_v76 : (W main_v76 : Arr F S32x16x1 .i32) = broadcastInDim S32x16x1 ![0, 1] bcast_S32x16_S32x16x1_0_1 (W main_v73 : Arr F S32x16 .i32) :=
  h.right.left.right.unary 5 rfl
theorem e_v77 : (W main_v77 : Arr F S32x16x2 .i32) = concatenate S32x16x2 2 [⟨S32x16x1, (W main_v75 : Arr F S32x16x1 .i32)⟩, ⟨S32x16x1, (W main_v76 : Arr F S32x16x1 .i32)⟩] concatenates_S32x16x1_S32x16x1_S32x16x2_d2 :=
  h.right.left.right.binary 6 rfl
theorem e_cst_15 : (W main_cst_15 : Arr F S_ .f32) = constant S_ .f32 0x3F800000#32 :=
  h.right.left.right.nullary 7 rfl
theorem e_v78 : (W main_v78 : Arr F S32x16x1 .f32) = broadcastInDim S32x16x1 ![] bcast_S_S32x16x1 (W main_cst_15 : Arr F S_ .f32) :=
  h.right.left.right.unary 8 rfl
theorem e_v79 : (W main_v79 : Arr F S32x288x1 .f32) = Host.scatterAdd scatter_S32x288x1_S32x16x2_S32x16x1_2_01_01_2 (W main_v63 : Arr F S32x288x1 .f32) (W main_v77 : Arr F S32x16x2 .i32) (W main_v78 : Arr F S32x16x1 .f32) :=
  h.right.left.right.ternary 9 rfl
theorem e_v80 : (W main_v80 : Arr F S32x288x384 .f32) = broadcastInDim S32x288x384 ![0, 1, 2] bcast_S32x288x1_S32x288x384_0_1_2 (W main_v79 : Arr F S32x288x1 .f32) :=
  h.right.left.right.unary 10 rfl
theorem e_v81 : (W main_v81 : Arr F S32x288x384 .f32) = Host.divf (W main_v62 : Arr F S32x288x384 .f32) (W main_v80 : Arr F S32x288x384 .f32) :=
  h.right.left.right.binary 11 rfl
theorem e_c_16 : (W main_c_16 : Arr F S_ .i32) = constantI S_ 32 0#32 :=
  h.right.left.right.nullary 12 rfl
theorem e_v82 : (W main_v82 : Arr F S32x288 .i32) = broadcastInDim S32x288 ![] bcast_S_S32x288 (W main_c_16 : Arr F S_ .i32) :=
  h.right.left.right.unary 13 rfl
theorem e_c_17 : (W main_c_17 : Arr F S_ .i32) = constantI S_ 32 0#32 :=
  h.right.left.right.nullary 14 rfl
theorem e_v83 : (W main_v83 : Arr F S32x1 .i32) = broadcastInDim S32x1 ![] bcast_S_S32x1 (W main_c_17 : Arr F S_ .i32) :=
  h.right.left.right.unary 15 rfl
theorem e_v84 : (W main_v84 : Arr F S32x1 .i1) = cmpi .slt (W main_v44 : Arr F S32x1 .i32) (W main_v83 : Arr F S32x1 .i32) :=
  h.right.left.right.binary 16 rfl
theorem e_c_18 : (W main_c_18 : Arr F S_ .i32) = constantI S_ 32 32#32 :=
  h.right.left.right.nullary 17 rfl
theorem e_v85 : (W main_v85 : Arr F S32x1 .i32) = broadcastInDim S32x1 ![] bcast_S_S32x1 (W main_c_18 : Arr F S_ .i32) :=
  h.right.left.right.unary 18 rfl
theorem e_v86 : (W main_v86 : Arr F S32x1 .i32) = addi (W main_v44 : Arr F S32x1 .i32) (W main_v85 : Arr F S32x1 .i32) :=
  h.right.left.right.binary 19 rfl
theorem e_v87 : (W main_v87 : Arr F S32x1 .i32) = select (W main_v84 : Arr F S32x1 .i1) (W main_v86 : Arr F S32x1 .i32) (W main_v44 : Arr F S32x1 .i32) :=
  h.right.left.right.ternary 20 rfl
theorem e_c_19 : (W main_c_19 : Arr F S_ .i32) = constantI S_ 32 0#32 :=
  h.right.left.right.nullary 21 rfl
theorem e_v88 : (W main_v88 : Arr F S32x16 .i32) = broadcastInDim S32x16 ![] bcast_S_S32x16 (W main_c_19 : Arr F S_ .i32) :=
  h.right.left.right.unary 22 rfl
theorem e_v89 : (W main_v89 : Arr F S32x16 .i1) = cmpi .slt (W main_indices : Arr F S32x16 .i32) (W main_v88 : Arr F S32x16 .i32) :=
  h.right.left.right.binary 23 rfl
theorem e_c_20 : (W main_c_20 : Arr F S_ .i32) = constantI S_ 32 288#32 :=
  h.right.left.right.nullary 24 rfl
theorem e_v90 : (W main_v90 : Arr F S32x16 .i32) = broadcastInDim S32x16 ![] bcast_S_S32x16 (W main_c_20 : Arr F S_ .i32) :=
  h.right.left.right.unary 25 rfl
theorem e_v91 : (W main_v91 : Arr F S32x16 .i32) = addi (W main_indices : Arr F S32x16 .i32) (W main_v90 : Arr F S32x16 .i32) :=
  h.right.left.right.binary 26 rfl
theorem e_v92 : (W main_v92 : Arr F S32x16 .i32) = select (W main_v89 : Arr F S32x16 .i1) (W main_v91 : Arr F S32x16 .i32) (W main_indices : Arr F S32x16 .i32) :=
  h.right.left.right.ternary 27 rfl
theorem e_v93 : (W main_v93 : Arr F S32x16 .i32) = broadcastInDim S32x16 ![0, 1] bcast_S32x1_S32x16_0_1 (W main_v87 : Arr F S32x1 .i32) :=
  h.right.left.right.unary 28 rfl
theorem e_v94 : (W main_v94 : Arr F S32x16x1 .i32) = broadcastInDim S32x16x1 ![0, 1] bcast_S32x16_S32x16x1_0_1 (W main_v93 : Arr F S32x16 .i32) :=
  h.right.left.right.unary 29 rfl
theorem e_v95 : (W main_v95 : Arr F S32x16x1 .i32) = broadcastInDim S32x16x1 ![0, 1] bcast_S32x16_S32x16x1_0_1 (W main_v92 : Arr F S32x16 .i32) :=
  h.right.right.left.left.unary 0 rfl
theorem e_v96 : (W main_v96 : Arr F S32x16x2 .i32) = concatenate S32x16x2 2 [⟨S32x16x1, (W main_v94 : Arr F S32x16x1 .i32)⟩, ⟨S32x16x1, (W main_v95 : Arr F S32x16x1 .i32)⟩] concatenates_S32x16x1_S32x16x1_S32x16x2_d2 :=
  h.right.right.left.left.binary 1 rfl
theorem e_c_21 : (W main_c_21 : Arr F S_ .i32) = constantI S_ 32 1#32 :=
  h.right.right.left.left.nullary 2 rfl
theorem e_v97 : (W main_v97 : Arr F S32x16 .i32) = broadcastInDim S32x16 ![] bcast_S_S32x16 (W main_c_21 : Arr F S_ .i32) :=
  h.right.right.left.left.unary 3 rfl
theorem e_v98 : (W main_v98 : Arr F S32x288 .i32) = Host.scatter scatter_S32x288_S32x16x2_S32x16_n_01_01_2 (fun _ b => b) (W main_v82 : Arr F S32x288 .i32) (W main_v96 : Arr F S32x16x2 .i32) (W main_v97 : Arr F S32x16 .i32) :=
  h.right.right.left.left.ternary 4 rfl
theorem e_call5_v0 : (W main_call5_v0 : Arr F S32x288 .i32) = iotaInDim S32x288 32 1 :=
  h.right.right.left.left.nullary 5 rfl
theorem e_call5_v1_0 : (W main_call5_v1_0 : Arr F S32x288 .i32) = (Host.sort2 S32x288 1 comparator_i32_i32_d1 (W main_v98 : Arr F S32x288 .i32) (W main_call5_v0 : Arr F S32x288 .i32)).1 :=
  h.right.right.left.left.binary 6 rfl
theorem e_v99 : (W main_v99 : Arr F S32x288 .i32) = (Host.sort2 S32x288 1 comparator_i32_i32_d1 (W main_v98 : Arr F S32x288 .i32) (W main_call5_v0 : Arr F S32x288 .i32)).2 :=
  h.right.right.left.left.binary 7 rfl
theorem e_v100 : (W main_v100 : Arr F S32x272 .i32) = extractStridedSlice S32x272 ![0, 0] (W main_v99 : Arr F S32x288 .i32) slices_S32x288_S32x272_0_0 :=
  h.right.right.left.left.unary 8 rfl
theorem e_v101 : (W main_v101 : Arr F S32x272x1 .i32) = broadcastInDim S32x272x1 ![0, 1] bcast_S32x272_S32x272x1_0_1 (W main_v100 : Arr F S32x272 .i32) :=
  h.right.right.left.left.unary 9 rfl
theorem e_call6_c : (W main_call6_c : Arr F S_ .i32) = constantI S_ 32 0#32 :=
  h.right.right.left.left.nullary 10 rfl
theorem e_call6_v0 : (W main_call6_v0 : Arr F S32x272x1 .i32) = broadcastInDim S32x272x1 ![] bcast_S_S32x272x1 (W main_call6_c : Arr F S_ .i32) :=
  h.right.right.left.left.unary 11 rfl
theorem e_call6_v1 : (W main_call6_v1 : Arr F S32x272x1 .i1) = cmpi .slt (W main_v101 : Arr F S32x272x1 .i32) (W main_call6_v0 : Arr F S32x272x1 .i32) :=
  h.right.right.left.left.binary 12 rfl
theorem e_call6_c_0 : (W main_call6_c_0 : Arr F S_ .i32) = constantI S_ 32 288#32 :=
  h.right.right.left.left.nullary 13 rfl
theorem e_call6_v2 : (W main_call6_v2 : Arr F S32x272x1 .i32) = broadcastInDim S32x272x1 ![] bcast_S_S32x272x1 (W main_call6_c_0 : Arr F S_ .i32) :=
  h.right.right.left.left.unary 14 rfl
theorem e_call6_v3 : (W main_call6_v3 : Arr F S32x272x1 .i32) = addi (W main_v101 : Arr F S32x272x1 .i32) (W main_call6_v2 : Arr F S32x272x1 .i32) :=
  h.right.right.left.left.binary 15 rfl
theorem e_call6_v4 : (W main_call6_v4 : Arr F S32x272x1 .i32) = select (W main_call6_v1 : Arr F S32x272x1 .i1) (W main_call6_v3 : Arr F S32x272x1 .i32) (W main_v101 : Arr F S32x272x1 .i32) :=
  h.right.right.left.left.ternary 16 rfl
theorem e_call6_c_1 : (W main_call6_c_1 : Arr F S1 .i32) = constantI S1 32 287#32 :=
  h.right.right.left.left.nullary 17 rfl
theorem e_call6_c_2 : (W main_call6_c_2 : Arr F S_ .i32) = constantI S_ 32 0#32 :=
  h.right.right.left.left.nullary 18 rfl
theorem e_call6_v5 : (W main_call6_v5 : Arr F S32x272x1 .i32) = broadcastInDim S32x272x1 ![] bcast_S_S32x272x1 (W main_call6_c_2 : Arr F S_ .i32) :=
  h.right.right.left.left.unary 19 rfl
theorem e_call6_v6 : (W main_call6_v6 : Arr F S32x272x1 .i1) = cmpi .sge (W main_call6_v4 : Arr F S32x272x1 .i32) (W main_call6_v5 : Arr F S32x272x1 .i32) :=
  h.right.right.left.left.binary 20 rfl
theorem e_call6_v7 : (W main_call6_v7 : Arr F S1x1x1 .i32) = broadcastInDim S1x1x1 ![2] bcast_S1_S1x1x1_2 (W main_call6_c_1 : Arr F S1 .i32) :=
  h.right.right.left.left.unary 21 rfl
theorem e_call6_v8 : (W main_call6_v8 : Arr F S32x272x1 .i32) = broadcastInDim S32x272x1 ![0, 1, 2] bcast_S1x1x1_S32x272x1_0_1_2 (W main_call6_v7 : Arr F S1x1x1 .i32) :=
  h.right.right.left.left.unary 22 rfl
theorem e_call6_v9 : (W main_call6_v9 : Arr F S32x272x1 .i1) = cmpi .sle (W main_call6_v4 : Arr F S32x272x1 .i32) (W main_call6_v8 : Arr F S32x272x1 .i32) :=
  h.right.right.left.left.binary 23 rfl
theorem e_call6_v10 : (W main_call6_v10 : Arr F S32x272x1 .i1) = andi (W main_call6_v6 : Arr F S32x272x1 .i1) (W main_call6_v9 : Arr F S32x272x1 .i1) :=
  h.right.right.left.left.binary 24 rfl
theorem e_call6_c_3 : (W main_call6_c_3 : Arr F S_ .i1) = constantI S_ 1 1#1 :=
  h.right.right.left.left.nullary 25 rfl
theorem e_call6_v11 : (W main_call6_v11 : Arr F S32x272 .i1) = Host.reduce IntOp.andi (W main_call6_v10 : Arr F S32x272x1 .i1) (W main_call6_c_3 : Arr F S_ .i1) reducesTo_S32x272x1_S32x272_d2 h_S_ :=
  h.right.right.left.left.binary 26 rfl
theorem e_call6_v12 : (W main_call6_v12 : Arr F S32x272x384 .f32) = Host.gather gather_S32x288x384_S32x272x1_S32x272x384_2_1_0_0_1_2_11384 (W main_v42 : Arr F S32x288x384 .f32) (W main_call6_v4 : Arr F S32x272x1 .i32) :=
  h.right.right.left.left.binary 27 rfl
theorem e_call6_v13 : (W main_call6_v13 : Arr F S32x272x384 .i1) = broadcastInDim S32x272x384 ![0, 1] bcast_S32x272_S32x272x384_0_1 (W main_call6_v11 : Arr F S32x272 .i1) :=
  h.right.right.left.left.unary 28 rfl
theorem e_call6_cst : (W main_call6_cst : Arr F S_ .f32) = constant S_ .f32 0x7FC00000#32 :=
  h.right.right.left.left.nullary 29 rfl
theorem e_call6_v14 : (W main_call6_v14 : Arr F S32x272x384 .f32) = broadcastInDim S32x272x384 ![] bcast_S_S32x272x384 (W main_call6_cst : Arr F S_ .f32) :=
  h.right.right.left.right.left.unary 0 rfl
theorem e_v102 : (W main_v102 : Arr F S32x272x384 .f32) = select (W main_call6_v13 : Arr F S32x272x384 .i1) (W main_call6_v12 : Arr F S32x272x384 .f32) (W main_call6_v14 : Arr F S32x272x384 .f32) :=
  h.right.right.left.right.left.ternary 1 rfl
theorem e_v103 : (W main_v103 : Arr F S32x560x384 .f32) = concatenate S32x560x384 1 [⟨S32x288x384, (W main_v81 : Arr F S32x288x384 .f32)⟩, ⟨S32x272x384, (W main_v102 : Arr F S32x272x384 .f32)⟩] concatenates_S32x288x384_S32x272x384_S32x560x384_d1 :=
  h.right.right.left.right.left.binary 2 rfl
theorem e_v104 : (W main_v104 : Arr F S32x561x384 .f32) = concatenate S32x561x384 1 [⟨S32x1x384, (W main_v28 : Arr F S32x1x384 .f32)⟩, ⟨S32x560x384, (W main_v103 : Arr F S32x560x384 .f32)⟩] concatenates_S32x1x384_S32x560x384_S32x561x384_d1 :=
  h.right.right.left.right.left.binary 3 rfl
theorem e_cst_22 : (W main_cst_22 : Arr F S_ .f32) = constant S_ .f32 0x00000000#32 :=
  h.right.right.left.right.left.nullary 4 rfl
theorem e_v105 : (W main_v105 : Arr F S32x561 .f32) = Host.reduceAdd (W main_v104 : Arr F S32x561x384 .f32) (W main_cst_22 : Arr F S_ .f32) reducesTo_S32x561x384_S32x561_d2 h_S_ :=
  h.right.right.left.right.left.binary 5 rfl
theorem e_v106 : (W main_v106 : Arr F S32x561x1 .f32) = broadcastInDim S32x561x1 ![0, 1] bcast_S32x561_S32x561x1_0_1 (W main_v105 : Arr F S32x561 .f32) :=
  h.right.right.left.right.left.unary 6 rfl
theorem e_cst_23 : (W main_cst_23 : Arr F S_ .f32) = constant S_ .f32 0x43C00000#32 :=
  h.right.right.left.right.left.nullary 7 rfl
theorem e_v107 : (W main_v107 : Arr F S32x561x1 .f32) = broadcastInDim S32x561x1 ![] bcast_S_S32x561x1 (W main_cst_23 : Arr F S_ .f32) :=
  h.right.right.left.right.left.unary 8 rfl
theorem e_v108 : (W main_v108 : Arr F S32x561x1 .f32) = Host.divf (W main_v106 : Arr F S32x561x1 .f32) (W main_v107 : Arr F S32x561x1 .f32) :=
  h.right.right.left.right.left.binary 9 rfl
theorem e_c_24 : (W main_c_24 : Arr F S_ .i32) = constantI S_ 32 0#32 :=
  h.right.right.left.right.left.nullary 10 rfl
theorem e_call7_cst : (W main_call7_cst : Arr F S_ .f32) = constant S_ .f32 0x00000000#32 :=
  h.right.right.left.right.left.nullary 11 rfl
theorem e_call7_v0 : (W main_call7_v0 : Arr F S32x561 .f32) = Host.reduceAdd (W main_v104 : Arr F S32x561x384 .f32) (W main_call7_cst : Arr F S_ .f32) reducesTo_S32x561x384_S32x561_d2 h_S_ :=
  h.right.right.left.right.left.binary 12 rfl
theorem e_call7_v1 : (W main_call7_v1 : Arr F S32x561x1 .f32) = broadcastInDim S32x561x1 ![0, 1] bcast_S32x561_S32x561x1_0_1 (W main_call7_v0 : Arr F S32x561 .f32) :=
  h.right.right.left.right.left.unary 13 rfl
theorem e_call7_cst_0 : (W main_call7_cst_0 : Arr F S_ .f32) = constant S_ .f32 0x43C00000#32 :=
  h.right.right.left.right.left.nullary 14 rfl
theorem e_call7_v2 : (W main_call7_v2 : Arr F S32x561x1 .f32) = broadcastInDim S32x561x1 ![] bcast_S_S32x561x1 (W main_call7_cst_0 : Arr F S_ .f32) :=
  h.right.right.left.right.left.unary 15 rfl
theorem e_call7_v3 : (W main_call7_v3 : Arr F S32x561x1 .f32) = Host.divf (W main_call7_v1 : Arr F S32x561x1 .f32) (W main_call7_v2 : Arr F S32x561x1 .f32) :=
  h.right.right.left.right.left.binary 16 rfl
theorem e_call7_v4 : (W main_call7_v4 : Arr F S32x561x384 .f32) = broadcastInDim S32x561x384 ![0, 1, 2] bcast_S32x561x1_S32x561x384_0_1_2 (W main_call7_v3 : Arr F S32x561x1 .f32) :=
  h.right.right.left.right.left.unary 17 rfl
theorem e_call7_v5 : (W main_call7_v5 : Arr F S32x561x384 .f32) = subf (W main_v104 : Arr F S32x561x384 .f32) (W main_call7_v4 : Arr F S32x561x384 .f32) :=
  h.right.right.left.right.left.binary 18 rfl
theorem e_call7_v6 : (W main_call7_v6 : Arr F S32x561x384 .f32) = mulf (W main_call7_v5 : Arr F S32x561x384 .f32) (W main_call7_v5 : Arr F S32x561x384 .f32) :=
  h.right.right.left.right.left.binary 19 rfl
theorem e_call7_v7 : (W main_call7_v7 : Arr F S_ .f32) = sitofp .f32 (W main_c_24 : Arr F S_ .i32) :=
  h.right.right.left.right.left.unary 20 rfl
theorem e_call7_cst_1 : (W main_call7_cst_1 : Arr F S_ .f32) = constant S_ .f32 0x43C00000#32 :=
  h.right.right.left.right.left.nullary 21 rfl
theorem e_call7_v8 : (W main_call7_v8 : Arr F S_ .f32) = subf (W main_call7_cst_1 : Arr F S_ .f32) (W main_call7_v7 : Arr F S_ .f32) :=
  h.right.right.left.right.left.binary 22 rfl
theorem e_call7_cst_2 : (W main_call7_cst_2 : Arr F S_ .f32) = constant S_ .f32 0x00000000#32 :=
  h.right.right.left.right.left.nullary 23 rfl
theorem e_call7_v9 : (W main_call7_v9 : Arr F S32x561 .f32) = Host.reduceAdd (W main_call7_v6 : Arr F S32x561x384 .f32) (W main_call7_cst_2 : Arr F S_ .f32) reducesTo_S32x561x384_S32x561_d2 h_S_ :=
  h.right.right.left.right.left.binary 24 rfl
theorem e_call7_v10 : (W main_call7_v10 : Arr F S32x561x1 .f32) = broadcastInDim S32x561x1 ![0, 1] bcast_S32x561_S32x561x1_0_1 (W main_call7_v9 : Arr F S32x561 .f32) :=
  h.right.right.left.right.left.unary 25 rfl
theorem e_call7_v11 : (W main_call7_v11 : Arr F S32x561x1 .f32) = broadcastInDim S32x561x1 ![] bcast_S_S32x561x1 (W main_call7_v8 : Arr F S_ .f32) :=
  h.right.right.left.right.left.unary 26 rfl
theorem e_call7_v12 : (W main_call7_v12 : Arr F S32x561x1 .f32) = Host.divf (W main_call7_v10 : Arr F S32x561x1 .f32) (W main_call7_v11 : Arr F S32x561x1 .f32) :=
  h.right.right.left.right.left.binary 27 rfl
theorem e_call7_cst_3 : (W main_call7_cst_3 : Arr F S_ .f32) = constant S_ .f32 0x00000000#32 :=
  h.right.right.left.right.left.nullary 28 rfl
theorem e_call7_v13 : (W main_call7_v13 : Arr F S_ .i1) = cmpf .ogt (W main_call7_v8 : Arr F S_ .f32) (W main_call7_cst_3 : Arr F S_ .f32) :=
  h.right.right.left.right.left.binary 29 rfl
theorem e_call7_cst_4 : (W main_call7_cst_4 : Arr F S_ .f32) = constant S_ .f32 0x7FC00000#32 :=
  h.right.right.left.right.right.left.nullary 0 rfl
theorem e_call7_call0_v0 : (W main_call7_call0_v0 : Arr F S_ .f32) = id (W main_call7_cst_4 : Arr F S_ .f32) :=
  h.right.right.left.right.right.left.unary 1 rfl
theorem e_call7_call0_v1 : (W main_call7_call0_v1 : Arr F S32x561x1 .f32) = broadcastInDim S32x561x1 ![] bcast_S_S32x561x1 (W main_call7_call0_v0 : Arr F S_ .f32) :=
  h.right.right.left.right.right.left.unary 2 rfl
theorem e_v109 : (W main_v109 : Arr F S32x561x1 .f32) = select (broadcastInDim S32x561x1 ![] bcast_S_S32x561x1 (W main_call7_v13 : Arr F S_ .i1)) (W main_call7_v12 : Arr F S32x561x1 .f32) (W main_call7_call0_v1 : Arr F S32x561x1 .f32) :=
  h.right.right.left.right.right.left.ternary 3 rfl
theorem e_v110 : (W main_v110 : Arr F S32x561x384 .f32) = broadcastInDim S32x561x384 ![0, 1, 2] bcast_S32x561x1_S32x561x384_0_1_2 (W main_v108 : Arr F S32x561x1 .f32) :=
  h.right.right.left.right.right.left.unary 4 rfl
theorem e_v111 : (W main_v111 : Arr F S32x561x384 .f32) = subf (W main_v104 : Arr F S32x561x384 .f32) (W main_v110 : Arr F S32x561x384 .f32) :=
  h.right.right.left.right.right.left.binary 5 rfl
theorem e_cst_25 : (W main_cst_25 : Arr F S_ .f32) = constant S_ .f32 0x358637BD#32 :=
  h.right.right.left.right.right.left.nullary 6 rfl
theorem e_v112 : (W main_v112 : Arr F S32x561x1 .f32) = broadcastInDim S32x561x1 ![] bcast_S_S32x561x1 (W main_cst_25 : Arr F S_ .f32) :=
  h.right.right.left.right.right.left.unary 7 rfl
theorem e_v113 : (W main_v113 : Arr F S32x561x1 .f32) = addf (W main_v109 : Arr F S32x561x1 .f32) (W main_v112 : Arr F S32x561x1 .f32) :=
  h.right.right.left.right.right.left.binary 8 rfl
theorem e_v114 : (W main_v114 : Arr F S32x561x1 .f32) = Host.sqrt (W main_v113 : Arr F S32x561x1 .f32) :=
  h.right.right.left.right.right.left.unary 9 rfl
theorem e_v115 : (W main_v115 : Arr F S32x561x384 .f32) = broadcastInDim S32x561x384 ![0, 1, 2] bcast_S32x561x1_S32x561x384_0_1_2 (W main_v114 : Arr F S32x561x1 .f32) :=
  h.right.right.left.right.right.left.unary 10 rfl
theorem e_v116 : (W main_v116 : Arr F S32x561x384 .f32) = Host.divf (W main_v111 : Arr F S32x561x384 .f32) (W main_v115 : Arr F S32x561x384 .f32) :=
  h.right.right.left.right.right.left.binary 11 rfl
theorem e_v117 : (W main_v117 : Arr F S1x1x384 .f32) = broadcastInDim S1x1x384 ![2] bcast_S384_S1x1x384_2 (W main_arg1 : Arr F S384 .f32) :=
  h.right.right.left.right.right.left.unary 12 rfl
theorem e_v118 : (W main_v118 : Arr F S32x561x384 .f32) = broadcastInDim S32x561x384 ![0, 1, 2] bcast_S1x1x384_S32x561x384_0_1_2 (W main_v117 : Arr F S1x1x384 .f32) :=
  h.right.right.left.right.right.left.unary 13 rfl
theorem e_v119 : (W main_v119 : Arr F S32x561x384 .f32) = mulf (W main_v116 : Arr F S32x561x384 .f32) (W main_v118 : Arr F S32x561x384 .f32) :=
  h.right.right.left.right.right.left.binary 14 rfl
theorem e_v120 : (W main_v120 : Arr F S1x1x384 .f32) = broadcastInDim S1x1x384 ![2] bcast_S384_S1x1x384_2 (W main_arg2 : Arr F S384 .f32) :=
  h.right.right.left.right.right.left.unary 15 rfl
theorem e_v121 : (W main_v121 : Arr F S32x561x384 .f32) = broadcastInDim S32x561x384 ![0, 1, 2] bcast_S1x1x384_S32x561x384_0_1_2 (W main_v120 : Arr F S1x1x384 .f32) :=
  h.right.right.left.right.right.left.unary 16 rfl
theorem e_v122 : (W main_v122 : Arr F S32x561x384 .f32) = addf (W main_v119 : Arr F S32x561x384 .f32) (W main_v121 : Arr F S32x561x384 .f32) :=
  h.right.right.left.right.right.left.binary 17 rfl
theorem e_v123 : (W main_v123 : Arr F S32x561x1152 .f32) = Host.dotGeneral dot_S32x561x384_S384x1152_S32x561x1152_2_0_01_1_n_n none (W main_v122 : Arr F S32x561x384 .f32) (W main_arg3 : Arr F S384x1152 .f32) :=
  h.right.right.left.right.right.left.binary 18 rfl
theorem e_v124 : (W main_v124 : Arr F S1x1x1152 .f32) = broadcastInDim S1x1x1152 ![2] bcast_S1152_S1x1x1152_2 (W main_arg4 : Arr F S1152 .f32) :=
  h.right.right.left.right.right.left.unary 19 rfl
theorem e_v125 : (W main_v125 : Arr F S32x561x1152 .f32) = broadcastInDim S32x561x1152 ![0, 1, 2] bcast_S1x1x1152_S32x561x1152_0_1_2 (W main_v124 : Arr F S1x1x1152 .f32) :=
  h.right.right.left.right.right.left.unary 20 rfl
theorem e_v126 : (W main_v126 : Arr F S32x561x1152 .f32) = addf (W main_v123 : Arr F S32x561x1152 .f32) (W main_v125 : Arr F S32x561x1152 .f32) :=
  h.right.right.left.right.right.left.binary 21 rfl
theorem e_v127 : (W main_v127 : Arr F S32x561x3x6x64 .f32) = shapeCast S32x561x3x6x64 (W main_v126 : Arr F S32x561x1152 .f32) shapeCasts_S32x561x1152_S32x561x3x6x64 :=
  h.right.right.left.right.right.left.reshape 22 rfl
theorem e_v128 : (W main_v128 : Arr F S32x561x1x6x64 .f32) = extractStridedSlice S32x561x1x6x64 ![0, 0, 0, 0, 0] (W main_v127 : Arr F S32x561x3x6x64 .f32) slices_S32x561x3x6x64_S32x561x1x6x64_0_0_0_0_0 :=
  h.right.right.left.right.right.left.unary 23 rfl
theorem e_v129 : (W main_v129 : Arr F S32x561x6x64 .f32) = shapeCast S32x561x6x64 (W main_v128 : Arr F S32x561x1x6x64 .f32) shapeCasts_S32x561x1x6x64_S32x561x6x64 :=
  h.right.right.left.right.right.left.reshape 24 rfl
theorem e_v130 : (W main_v130 : Arr F S32x6x561x64 .f32) = transpose S32x6x561x64 [0, 2, 1, 3] (W main_v129 : Arr F S32x561x6x64 .f32) transposes_S32x561x6x64_S32x6x561x64_0_2_1_3 :=
  h.right.right.left.right.right.left.unary 25 rfl
theorem e_v131 : (W main_v131 : Arr F S32x561x1x6x64 .f32) = extractStridedSlice S32x561x1x6x64 ![0, 0, 1, 0, 0] (W main_v127 : Arr F S32x561x3x6x64 .f32) slices_S32x561x3x6x64_S32x561x1x6x64_0_0_1_0_0 :=
  h.right.right.left.right.right.left.unary 26 rfl
theorem e_v132 : (W main_v132 : Arr F S32x561x6x64 .f32) = shapeCast S32x561x6x64 (W main_v131 : Arr F S32x561x1x6x64 .f32) shapeCasts_S32x561x1x6x64_S32x561x6x64 :=
  h.right.right.left.right.right.left.reshape 27 rfl
theorem e_v133 : (W main_v133 : Arr F S32x6x561x64 .f32) = transpose S32x6x561x64 [0, 2, 1, 3] (W main_v132 : Arr F S32x561x6x64 .f32) transposes_S32x561x6x64_S32x6x561x64_0_2_1_3 :=
  h.right.right.left.right.right.left.unary 28 rfl
theorem e_v134 : (W main_v134 : Arr F S32x561x1x6x64 .f32) = extractStridedSlice S32x561x1x6x64 ![0, 0, 2, 0, 0] (W main_v127 : Arr F S32x561x3x6x64 .f32) slices_S32x561x3x6x64_S32x561x1x6x64_0_0_2_0_0 :=
  h.right.right.left.right.right.left.unary 29 rfl
theorem e_v135 : (W main_v135 : Arr F S32x561x6x64 .f32) = shapeCast S32x561x6x64 (W main_v134 : Arr F S32x561x1x6x64 .f32) shapeCasts_S32x561x1x6x64_S32x561x6x64 :=
  h.right.right.left.right.right.right.reshape 0 rfl
theorem e_v136 : (W main_v136 : Arr F S32x6x561x64 .f32) = transpose S32x6x561x64 [0, 2, 1, 3] (W main_v135 : Arr F S32x561x6x64 .f32) transposes_S32x561x6x64_S32x6x561x64_0_2_1_3 :=
  h.right.right.left.right.right.right.unary 1 rfl
theorem e_v137 : (W main_v137 : Arr F S32x6x64x561 .f32) = transpose S32x6x64x561 [0, 1, 3, 2] (W main_v133 : Arr F S32x6x561x64 .f32) transposes_S32x6x561x64_S32x6x64x561_0_1_3_2 :=
  h.right.right.left.right.right.right.unary 2 rfl
theorem e_v138 : (W main_v138 : Arr F S32x6x561x561 .f32) = Host.dotGeneral dot_S32x6x561x64_S32x6x64x561_S32x6x561x561_3_2_2_3_01_01 none (W main_v130 : Arr F S32x6x561x64 .f32) (W main_v137 : Arr F S32x6x64x561 .f32) :=
  h.right.right.left.right.right.right.binary 3 rfl
theorem e_cst_26 : (W main_cst_26 : Arr F S_ .f32) = constant S_ .f32 0x3E000000#32 :=
  h.right.right.left.right.right.right.nullary 4 rfl
theorem e_v139 : (W main_v139 : Arr F S32x6x561x561 .f32) = broadcastInDim S32x6x561x561 ![] bcast_S_S32x6x561x561 (W main_cst_26 : Arr F S_ .f32) :=
  h.right.right.left.right.right.right.unary 5 rfl
theorem e_v140 : (W main_v140 : Arr F S32x6x561x561 .f32) = mulf (W main_v138 : Arr F S32x6x561x561 .f32) (W main_v139 : Arr F S32x6x561x561 .f32) :=
  h.right.right.left.right.right.right.binary 6 rfl
theorem e_cst_27 : (W main_cst_27 : Arr F S_ .f32) = constant S_ .f32 0xFF800000#32 :=
  h.right.right.left.right.right.right.nullary 7 rfl
theorem e_v141 : (W main_v141 : Arr F S32x6x561 .f32) = Host.reduce FloatOps.maximumf (W main_v140 : Arr F S32x6x561x561 .f32) (W main_cst_27 : Arr F S_ .f32) reducesTo_S32x6x561x561_S32x6x561_d3 h_S_ :=
  h.right.right.left.right.right.right.binary 8 rfl
theorem e_cst_28 : (W main_cst_28 : Arr F S_ .f32) = constant S_ .f32 0xFF800000#32 :=
  h.right.right.left.right.right.right.nullary 9 rfl
theorem e_v142 : (W main_v142 : Arr F S32x6x561 .f32) = broadcastInDim S32x6x561 ![] bcast_S_S32x6x561 (W main_cst_28 : Arr F S_ .f32) :=
  h.right.right.left.right.right.right.unary 10 rfl
theorem e_v143 : (W main_v143 : Arr F S32x6x561 .f32) = maximumf (W main_v142 : Arr F S32x6x561 .f32) (W main_v141 : Arr F S32x6x561 .f32) :=
  h.right.right.left.right.right.right.binary 11 rfl
theorem e_v144 : (W main_v144 : Arr F S32x6x561x1 .f32) = broadcastInDim S32x6x561x1 ![0, 1, 2] bcast_S32x6x561_S32x6x561x1_0_1_2 (W main_v143 : Arr F S32x6x561 .f32) :=
  h.right.right.left.right.right.right.unary 12 rfl
theorem e_v145 : (W main_v145 : Arr F S32x6x561x561 .f32) = broadcastInDim S32x6x561x561 ![0, 1, 2, 3] bcast_S32x6x561x1_S32x6x561x561_0_1_2_3 (W main_v144 : Arr F S32x6x561x1 .f32) :=
  h.right.right.left.right.right.right.unary 13 rfl
theorem e_v146 : (W main_v146 : Arr F S32x6x561x561 .f32) = subf (W main_v140 : Arr F S32x6x561x561 .f32) (W main_v145 : Arr F S32x6x561x561 .f32) :=
  h.right.right.left.right.right.right.binary 14 rfl
theorem e_v147 : (W main_v147 : Arr F S32x6x561x561 .f32) = Host.exp (W main_v146 : Arr F S32x6x561x561 .f32) :=
  h.right.right.right.left.unary 0 rfl
theorem e_cst_29 : (W main_cst_29 : Arr F S_ .f32) = constant S_ .f32 0x00000000#32 :=
  h.right.right.right.left.nullary 1 rfl
theorem e_v148 : (W main_v148 : Arr F S32x6x561 .f32) = Host.reduceAdd (W main_v147 : Arr F S32x6x561x561 .f32) (W main_cst_29 : Arr F S_ .f32) reducesTo_S32x6x561x561_S32x6x561_d3 h_S_ :=
  h.right.right.right.left.binary 2 rfl
theorem e_v149 : (W main_v149 : Arr F S32x6x561x1 .f32) = broadcastInDim S32x6x561x1 ![0, 1, 2] bcast_S32x6x561_S32x6x561x1_0_1_2 (W main_v148 : Arr F S32x6x561 .f32) :=
  h.right.right.right.left.unary 3 rfl
theorem e_v150 : (W main_v150 : Arr F S32x6x561x561 .f32) = broadcastInDim S32x6x561x561 ![0, 1, 2, 3] bcast_S32x6x561x1_S32x6x561x561_0_1_2_3 (W main_v149 : Arr F S32x6x561x1 .f32) :=
  h.right.right.right.left.unary 4 rfl
theorem e_v151 : (W main_v151 : Arr F S32x6x561x561 .f32) = Host.divf (W main_v147 : Arr F S32x6x561x561 .f32) (W main_v150 : Arr F S32x6x561x561 .f32) :=
  h.right.right.right.left.binary 5 rfl
theorem e_v152 : (W main_v152 : Arr F S32x6x561x64 .f32) = Host.dotGeneral dot_S32x6x561x561_S32x6x561x64_S32x6x561x64_3_2_2_3_01_01 none (W main_v151 : Arr F S32x6x561x561 .f32) (W main_v136 : Arr F S32x6x561x64 .f32) :=
  h.right.right.right.left.binary 6 rfl
theorem e_v153 : (W main_v153 : Arr F S32x561x6x64 .f32) = transpose S32x561x6x64 [0, 2, 1, 3] (W main_v152 : Arr F S32x6x561x64 .f32) transposes_S32x6x561x64_S32x561x6x64_0_2_1_3 :=
  h.right.right.right.left.unary 7 rfl
theorem e_v154 : (W main_v154 : Arr F S32x561x384 .f32) = shapeCast S32x561x384 (W main_v153 : Arr F S32x561x6x64 .f32) shapeCasts_S32x561x6x64_S32x561x384 :=
  h.right.right.right.left.reshape 8 rfl
theorem e_v155 : (W main_v155 : Arr F S32x561x384 .f32) = Host.dotGeneral dot_S32x561x384_S384x384_S32x561x384_2_0_01_1_n_n none (W main_v154 : Arr F S32x561x384 .f32) (W main_arg5 : Arr F S384x384 .f32) :=
  h.right.right.right.left.binary 9 rfl
theorem e_v156 : (W main_v156 : Arr F S1x1x384 .f32) = broadcastInDim S1x1x384 ![2] bcast_S384_S1x1x384_2 (W main_arg6 : Arr F S384 .f32) :=
  h.right.right.right.left.unary 10 rfl
theorem e_v157 : (W main_v157 : Arr F S32x561x384 .f32) = broadcastInDim S32x561x384 ![0, 1, 2] bcast_S1x1x384_S32x561x384_0_1_2 (W main_v156 : Arr F S1x1x384 .f32) :=
  h.right.right.right.left.unary 11 rfl
theorem e_v158 : (W main_v158 : Arr F S32x561x384 .f32) = addf (W main_v155 : Arr F S32x561x384 .f32) (W main_v157 : Arr F S32x561x384 .f32) :=
  h.right.right.right.left.binary 12 rfl
theorem e_v159 : (W main_v159 : Arr F S32x561x384 .f32) = addf (W main_v104 : Arr F S32x561x384 .f32) (W main_v158 : Arr F S32x561x384 .f32) :=
  h.right.right.right.left.binary 13 rfl
theorem e_cst_30 : (W main_cst_30 : Arr F S_ .f32) = constant S_ .f32 0x00000000#32 :=
  h.right.right.right.left.nullary 14 rfl
theorem e_v160 : (W main_v160 : Arr F S32x561 .f32) = Host.reduceAdd (W main_v159 : Arr F S32x561x384 .f32) (W main_cst_30 : Arr F S_ .f32) reducesTo_S32x561x384_S32x561_d2 h_S_ :=
  h.right.right.right.left.binary 15 rfl
theorem e_v161 : (W main_v161 : Arr F S32x561x1 .f32) = broadcastInDim S32x561x1 ![0, 1] bcast_S32x561_S32x561x1_0_1 (W main_v160 : Arr F S32x561 .f32) :=
  h.right.right.right.left.unary 16 rfl
theorem e_cst_31 : (W main_cst_31 : Arr F S_ .f32) = constant S_ .f32 0x43C00000#32 :=
  h.right.right.right.left.nullary 17 rfl
theorem e_v162 : (W main_v162 : Arr F S32x561x1 .f32) = broadcastInDim S32x561x1 ![] bcast_S_S32x561x1 (W main_cst_31 : Arr F S_ .f32) :=
  h.right.right.right.left.unary 18 rfl
theorem e_v163 : (W main_v163 : Arr F S32x561x1 .f32) = Host.divf (W main_v161 : Arr F S32x561x1 .f32) (W main_v162 : Arr F S32x561x1 .f32) :=
  h.right.right.right.left.binary 19 rfl
theorem e_c_32 : (W main_c_32 : Arr F S_ .i32) = constantI S_ 32 0#32 :=
  h.right.right.right.left.nullary 20 rfl
theorem e_call8_cst : (W main_call8_cst : Arr F S_ .f32) = constant S_ .f32 0x00000000#32 :=
  h.right.right.right.left.nullary 21 rfl
theorem e_call8_v0 : (W main_call8_v0 : Arr F S32x561 .f32) = Host.reduceAdd (W main_v159 : Arr F S32x561x384 .f32) (W main_call8_cst : Arr F S_ .f32) reducesTo_S32x561x384_S32x561_d2 h_S_ :=
  h.right.right.right.left.binary 22 rfl
theorem e_call8_v1 : (W main_call8_v1 : Arr F S32x561x1 .f32) = broadcastInDim S32x561x1 ![0, 1] bcast_S32x561_S32x561x1_0_1 (W main_call8_v0 : Arr F S32x561 .f32) :=
  h.right.right.right.left.unary 23 rfl
theorem e_call8_cst_0 : (W main_call8_cst_0 : Arr F S_ .f32) = constant S_ .f32 0x43C00000#32 :=
  h.right.right.right.left.nullary 24 rfl
theorem e_call8_v2 : (W main_call8_v2 : Arr F S32x561x1 .f32) = broadcastInDim S32x561x1 ![] bcast_S_S32x561x1 (W main_call8_cst_0 : Arr F S_ .f32) :=
  h.right.right.right.left.unary 25 rfl
theorem e_call8_v3 : (W main_call8_v3 : Arr F S32x561x1 .f32) = Host.divf (W main_call8_v1 : Arr F S32x561x1 .f32) (W main_call8_v2 : Arr F S32x561x1 .f32) :=
  h.right.right.right.left.binary 26 rfl
theorem e_call8_v4 : (W main_call8_v4 : Arr F S32x561x384 .f32) = broadcastInDim S32x561x384 ![0, 1, 2] bcast_S32x561x1_S32x561x384_0_1_2 (W main_call8_v3 : Arr F S32x561x1 .f32) :=
  h.right.right.right.left.unary 27 rfl
theorem e_call8_v5 : (W main_call8_v5 : Arr F S32x561x384 .f32) = subf (W main_v159 : Arr F S32x561x384 .f32) (W main_call8_v4 : Arr F S32x561x384 .f32) :=
  h.right.right.right.left.binary 28 rfl
theorem e_call8_v6 : (W main_call8_v6 : Arr F S32x561x384 .f32) = mulf (W main_call8_v5 : Arr F S32x561x384 .f32) (W main_call8_v5 : Arr F S32x561x384 .f32) :=
  h.right.right.right.left.binary 29 rfl
theorem e_call8_v7 : (W main_call8_v7 : Arr F S_ .f32) = sitofp .f32 (W main_c_32 : Arr F S_ .i32) :=
  h.right.right.right.right.left.unary 0 rfl
theorem e_call8_cst_1 : (W main_call8_cst_1 : Arr F S_ .f32) = constant S_ .f32 0x43C00000#32 :=
  h.right.right.right.right.left.nullary 1 rfl
theorem e_call8_v8 : (W main_call8_v8 : Arr F S_ .f32) = subf (W main_call8_cst_1 : Arr F S_ .f32) (W main_call8_v7 : Arr F S_ .f32) :=
  h.right.right.right.right.left.binary 2 rfl
theorem e_call8_cst_2 : (W main_call8_cst_2 : Arr F S_ .f32) = constant S_ .f32 0x00000000#32 :=
  h.right.right.right.right.left.nullary 3 rfl
theorem e_call8_v9 : (W main_call8_v9 : Arr F S32x561 .f32) = Host.reduceAdd (W main_call8_v6 : Arr F S32x561x384 .f32) (W main_call8_cst_2 : Arr F S_ .f32) reducesTo_S32x561x384_S32x561_d2 h_S_ :=
  h.right.right.right.right.left.binary 4 rfl
theorem e_call8_v10 : (W main_call8_v10 : Arr F S32x561x1 .f32) = broadcastInDim S32x561x1 ![0, 1] bcast_S32x561_S32x561x1_0_1 (W main_call8_v9 : Arr F S32x561 .f32) :=
  h.right.right.right.right.left.unary 5 rfl
theorem e_call8_v11 : (W main_call8_v11 : Arr F S32x561x1 .f32) = broadcastInDim S32x561x1 ![] bcast_S_S32x561x1 (W main_call8_v8 : Arr F S_ .f32) :=
  h.right.right.right.right.left.unary 6 rfl
theorem e_call8_v12 : (W main_call8_v12 : Arr F S32x561x1 .f32) = Host.divf (W main_call8_v10 : Arr F S32x561x1 .f32) (W main_call8_v11 : Arr F S32x561x1 .f32) :=
  h.right.right.right.right.left.binary 7 rfl
theorem e_call8_cst_3 : (W main_call8_cst_3 : Arr F S_ .f32) = constant S_ .f32 0x00000000#32 :=
  h.right.right.right.right.left.nullary 8 rfl
theorem e_call8_v13 : (W main_call8_v13 : Arr F S_ .i1) = cmpf .ogt (W main_call8_v8 : Arr F S_ .f32) (W main_call8_cst_3 : Arr F S_ .f32) :=
  h.right.right.right.right.left.binary 9 rfl
theorem e_call8_cst_4 : (W main_call8_cst_4 : Arr F S_ .f32) = constant S_ .f32 0x7FC00000#32 :=
  h.right.right.right.right.left.nullary 10 rfl
theorem e_call8_call0_v0 : (W main_call8_call0_v0 : Arr F S_ .f32) = id (W main_call8_cst_4 : Arr F S_ .f32) :=
  h.right.right.right.right.left.unary 11 rfl
theorem e_call8_call0_v1 : (W main_call8_call0_v1 : Arr F S32x561x1 .f32) = broadcastInDim S32x561x1 ![] bcast_S_S32x561x1 (W main_call8_call0_v0 : Arr F S_ .f32) :=
  h.right.right.right.right.left.unary 12 rfl
theorem e_v164 : (W main_v164 : Arr F S32x561x1 .f32) = select (broadcastInDim S32x561x1 ![] bcast_S_S32x561x1 (W main_call8_v13 : Arr F S_ .i1)) (W main_call8_v12 : Arr F S32x561x1 .f32) (W main_call8_call0_v1 : Arr F S32x561x1 .f32) :=
  h.right.right.right.right.left.ternary 13 rfl
theorem e_v165 : (W main_v165 : Arr F S32x561x384 .f32) = broadcastInDim S32x561x384 ![0, 1, 2] bcast_S32x561x1_S32x561x384_0_1_2 (W main_v163 : Arr F S32x561x1 .f32) :=
  h.right.right.right.right.left.unary 14 rfl
theorem e_v166 : (W main_v166 : Arr F S32x561x384 .f32) = subf (W main_v159 : Arr F S32x561x384 .f32) (W main_v165 : Arr F S32x561x384 .f32) :=
  h.right.right.right.right.left.binary 15 rfl
theorem e_cst_33 : (W main_cst_33 : Arr F S_ .f32) = constant S_ .f32 0x358637BD#32 :=
  h.right.right.right.right.left.nullary 16 rfl
theorem e_v167 : (W main_v167 : Arr F S32x561x1 .f32) = broadcastInDim S32x561x1 ![] bcast_S_S32x561x1 (W main_cst_33 : Arr F S_ .f32) :=
  h.right.right.right.right.left.unary 17 rfl
theorem e_v168 : (W main_v168 : Arr F S32x561x1 .f32) = addf (W main_v164 : Arr F S32x561x1 .f32) (W main_v167 : Arr F S32x561x1 .f32) :=
  h.right.right.right.right.left.binary 18 rfl
theorem e_v169 : (W main_v169 : Arr F S32x561x1 .f32) = Host.sqrt (W main_v168 : Arr F S32x561x1 .f32) :=
  h.right.right.right.right.left.unary 19 rfl
theorem e_v170 : (W main_v170 : Arr F S32x561x384 .f32) = broadcastInDim S32x561x384 ![0, 1, 2] bcast_S32x561x1_S32x561x384_0_1_2 (W main_v169 : Arr F S32x561x1 .f32) :=
  h.right.right.right.right.left.unary 20 rfl
theorem e_v171 : (W main_v171 : Arr F S32x561x384 .f32) = Host.divf (W main_v166 : Arr F S32x561x384 .f32) (W main_v170 : Arr F S32x561x384 .f32) :=
  h.right.right.right.right.left.binary 21 rfl
theorem e_v172 : (W main_v172 : Arr F S1x1x384 .f32) = broadcastInDim S1x1x384 ![2] bcast_S384_S1x1x384_2 (W main_arg7 : Arr F S384 .f32) :=
  h.right.right.right.right.left.unary 22 rfl
theorem e_v173 : (W main_v173 : Arr F S32x561x384 .f32) = broadcastInDim S32x561x384 ![0, 1, 2] bcast_S1x1x384_S32x561x384_0_1_2 (W main_v172 : Arr F S1x1x384 .f32) :=
  h.right.right.right.right.left.unary 23 rfl
theorem e_v174 : (W main_v174 : Arr F S32x561x384 .f32) = mulf (W main_v171 : Arr F S32x561x384 .f32) (W main_v173 : Arr F S32x561x384 .f32) :=
  h.right.right.right.right.left.binary 24 rfl
theorem e_v175 : (W main_v175 : Arr F S1x1x384 .f32) = broadcastInDim S1x1x384 ![2] bcast_S384_S1x1x384_2 (W main_arg8 : Arr F S384 .f32) :=
  h.right.right.right.right.left.unary 25 rfl
theorem e_v176 : (W main_v176 : Arr F S32x561x384 .f32) = broadcastInDim S32x561x384 ![0, 1, 2] bcast_S1x1x384_S32x561x384_0_1_2 (W main_v175 : Arr F S1x1x384 .f32) :=
  h.right.right.right.right.left.unary 26 rfl
theorem e_v177 : (W main_v177 : Arr F S32x561x384 .f32) = addf (W main_v174 : Arr F S32x561x384 .f32) (W main_v176 : Arr F S32x561x384 .f32) :=
  h.right.right.right.right.left.binary 27 rfl
theorem e_v178 : (W main_v178 : Arr F S32x561x1536 .f32) = Host.dotGeneral dot_S32x561x384_S384x1536_S32x561x1536_2_0_01_1_n_n none (W main_v177 : Arr F S32x561x384 .f32) (W main_arg9 : Arr F S384x1536 .f32) :=
  h.right.right.right.right.left.binary 28 rfl
theorem e_v179 : (W main_v179 : Arr F S1x1x1536 .f32) = broadcastInDim S1x1x1536 ![2] bcast_S1536_S1x1x1536_2 (W main_arg10 : Arr F S1536 .f32) :=
  h.right.right.right.right.left.unary 29 rfl
theorem e_v180 : (W main_v180 : Arr F S32x561x1536 .f32) = broadcastInDim S32x561x1536 ![0, 1, 2] bcast_S1x1x1536_S32x561x1536_0_1_2 (W main_v179 : Arr F S1x1x1536 .f32) :=
  h.right.right.right.right.right.unary 0 rfl
theorem e_v181 : (W main_v181 : Arr F S32x561x1536 .f32) = addf (W main_v178 : Arr F S32x561x1536 .f32) (W main_v180 : Arr F S32x561x1536 .f32) :=
  h.right.right.right.right.right.binary 1 rfl
theorem e_cst_34 : (W main_cst_34 : Arr F S_ .f32) = constant S_ .f32 0x3F000000#32 :=
  h.right.right.right.right.right.nullary 2 rfl
theorem e_v182 : (W main_v182 : Arr F S32x561x1536 .f32) = broadcastInDim S32x561x1536 ![] bcast_S_S32x561x1536 (W main_cst_34 : Arr F S_ .f32) :=
  h.right.right.right.right.right.unary 3 rfl
theorem e_v183 : (W main_v183 : Arr F S32x561x1536 .f32) = mulf (W main_v182 : Arr F S32x561x1536 .f32) (W main_v181 : Arr F S32x561x1536 .f32) :=
  h.right.right.right.right.right.binary 4 rfl
theorem e_v184 : (W main_v184 : Arr F S32x561x1536 .f32) = Host.negf (W main_v181 : Arr F S32x561x1536 .f32) :=
  h.right.right.right.right.right.unary 5 rfl
theorem e_cst_35 : (W main_cst_35 : Arr F S_ .f32) = constant S_ .f32 0x3F3504F3#32 :=
  h.right.right.right.right.right.nullary 6 rfl
theorem e_v185 : (W main_v185 : Arr F S32x561x1536 .f32) = broadcastInDim S32x561x1536 ![] bcast_S_S32x561x1536 (W main_cst_35 : Arr F S_ .f32) :=
  h.right.right.right.right.right.unary 7 rfl
theorem e_v186 : (W main_v186 : Arr F S32x561x1536 .f32) = mulf (W main_v184 : Arr F S32x561x1536 .f32) (W main_v185 : Arr F S32x561x1536 .f32) :=
  h.right.right.right.right.right.binary 8 rfl
theorem e_v187 : (W main_v187 : Arr F S32x561x1536 .f32) = Host.erfc (W main_v186 : Arr F S32x561x1536 .f32) :=
  h.right.right.right.right.right.unary 9 rfl
theorem e_v188 : (W main_v188 : Arr F S32x561x1536 .f32) = mulf (W main_v183 : Arr F S32x561x1536 .f32) (W main_v187 : Arr F S32x561x1536 .f32) :=
  h.right.right.right.right.right.binary 10 rfl
theorem e_v189 : (W main_v189 : Arr F S32x561x384 .f32) = Host.dotGeneral dot_S32x561x1536_S1536x384_S32x561x384_2_0_01_1_n_n none (W main_v188 : Arr F S32x561x1536 .f32) (W main_arg11 : Arr F S1536x384 .f32) :=
  h.right.right.right.right.right.binary 11 rfl
theorem e_v190 : (W main_v190 : Arr F S1x1x384 .f32) = broadcastInDim S1x1x384 ![2] bcast_S384_S1x1x384_2 (W main_arg12 : Arr F S384 .f32) :=
  h.right.right.right.right.right.unary 12 rfl
theorem e_v191 : (W main_v191 : Arr F S32x561x384 .f32) = broadcastInDim S32x561x384 ![0, 1, 2] bcast_S1x1x384_S32x561x384_0_1_2 (W main_v190 : Arr F S1x1x384 .f32) :=
  h.right.right.right.right.right.unary 13 rfl
theorem e_v192 : (W main_v192 : Arr F S32x561x384 .f32) = addf (W main_v189 : Arr F S32x561x384 .f32) (W main_v191 : Arr F S32x561x384 .f32) :=
  h.right.right.right.right.right.binary 14 rfl
theorem e_v193 : (W main_v193 : Arr F S32x561x384 .f32) = addf (W main_v159 : Arr F S32x561x384 .f32) (W main_v192 : Arr F S32x561x384 .f32) :=
  h.right.right.right.right.right.binary 15 rfl

end Cert.ReferenceIdeal.Run

end
-- ==== Proof.Select.lean ====
/- The kernel and the reference choose the same tokens to merge. -/
module

public import proofs.«01_k».proof.Proof.KernelEqs
public import proofs.«01_k».proof.Proof.ReferenceEqs
public import proofs.«01_k».proof.Proof.Spec
public import Idealize.ShloMosaic.Lib.Pointwise

@[expose] public section

set_option maxRecDepth 16384

noncomputable section

namespace Cert.ReferenceIdeal.Run

open Cert.ReferenceIdeal Cert.ReferenceIdeal.Gen Idealize.ShloMosaic Idealize.ShloMosaic.TcCoe Idealize.ShloMosaic.StableHlo Cert.Settled Cert.Spec
open scoped BigOperators

variable {W : Valuation τ sig (Elt Ideal)} (h : Settled line W)
include h

theorem mean0 (b : Fin 32) (r : Fin 577) :
    (W main_v3 : Arr Ideal S32x577x1 .f32) (ix3 b r (0 : Fin 1)) = mean fun k => (W main_arg0 : Arr Ideal S32x577x384 .f32) (ix3 b r k) := by
  rw [e_v3 h, e_v2 h, e_cst_0 h, e_v1 h, e_v0 h, e_cst h]
  pointwise []
  rfl

theorem mean0' (b : Fin 32) (r : Fin 577) :
    (W main_call0_v3 : Arr Ideal S32x577x1 .f32) (ix3 b r (0 : Fin 1)) = mean fun k => (W main_arg0 : Arr Ideal S32x577x384 .f32) (ix3 b r k) := by
  rw [e_call0_v3 h, e_call0_v2 h, e_call0_cst_0 h, e_call0_v1 h, e_call0_v0 h, e_call0_cst h]
  pointwise []
  rfl

theorem count0 (j : S_.Idx) : (W main_call0_v8 : Arr Ideal S_ .f32) j = Ideal.ofBits .f32 0x43C00000#32 := by
  rw [e_call0_v8 h, e_call0_cst_1 h, e_call0_v7 h, e_c h]
  have : ((0#32 : BitVec 32).toInt : ℝ) = 0 := by norm_num
  show Ideal.ofBits .f32 0x43C00000#32 - (((0#32 : BitVec 32).toInt : ℝ) : EReal) = _
  rw [this]
  simp

theorem var0 (b : Fin 32) (r : Fin 577) :
    (W main_v4 : Arr Ideal S32x577x1 .f32) (ix3 b r (0 : Fin 1)) = var fun k => (W main_arg0 : Arr Ideal S32x577x384 .f32) (ix3 b r k) := by
  have hm := mean0' h b r
  have hc := count0 h
  rw [e_v4 h, e_call0_call0_v1 h, e_call0_v13 h, e_call0_cst_3 h, e_call0_v12 h, e_call0_v11 h, e_call0_v10 h, e_call0_v9 h,
    e_call0_cst_2 h, e_call0_v6 h, e_call0_v5 h, e_call0_v4 h]
  generalize (W main_call0_v3 : Arr Ideal S32x577x1 .f32) = m at hm ⊢
  generalize (W main_call0_v8 : Arr Ideal S_ .f32) = c at hc ⊢
  generalize (W main_arg0 : Arr Ideal S32x577x384 .f32) = x at hm ⊢
  pointwise []
  simp only [hm, hc]
  rw [if_pos (by rw [c384_eq]; exact_mod_cast (by norm_num : (0 : ℝ) < 384))]
  rfl

theorem norm0 (b : Fin 32) (r : Fin 577) (k : Fin 384) :
    (W main_v17 : Arr Ideal S32x577x384 .f32) (ix3 b r k)
      = ln (fun k => (W main_arg1 : Arr Ideal S384 .f32) (ix1 k)) (fun k => (W main_arg2 : Arr Ideal S384 .f32) (ix1 k))
          (fun k => (W main_arg0 : Arr Ideal S32x577x384 .f32) (ix3 b r k)) k := by
  have hm := mean0 h b r
  have hv := var0 h b r
  rw [e_v17 h, e_v16 h, e_v15 h, e_v14 h, e_v13 h, e_v12 h, e_v11 h, e_v10 h, e_v9 h, e_v8 h, e_v7 h, e_cst_1 h, e_v6 h, e_v5 h]
  generalize (W main_v3 : Arr Ideal S32x577x1 .f32) = m at hm ⊢
  generalize (W main_v4 : Arr Ideal S32x577x1 .f32) = v at hv ⊢
  generalize (W main_arg0 : Arr Ideal S32x577x384 .f32) = x at hm hv ⊢
  generalize (W main_arg1 : Arr Ideal S384 .f32) = g
  generalize (W main_arg2 : Arr Ideal S384 .f32) = c
  pointwise []
  simp only [hm, hv]
  exact ln_div (fun k => g (ix1 k)) (fun k => c (ix1 k)) (fun k => x (ix3 b r k)) k

end Cert.ReferenceIdeal.Run

namespace Cert.KernelIdeal.Host

open Cert.KernelIdeal Cert.KernelIdeal.Gen Idealize.ShloMosaic Idealize.ShloMosaic.TcCoe Idealize.ShloMosaic.StableHlo Cert.Settled Cert.Spec
open scoped BigOperators

variable {W : Valuation τ sig (Elt Ideal)} (h : Settled (List.flatten [hostOps0, hostOps0_1, hostOps0_2, hostOps0_3, hostOps0_4, hostOps0_5, hostOps0_6, hostOps0_7, hostOps0_8]) W)
include h

theorem mean0 (b : Fin 32) (r : Fin 577) :
    (W main_v3 : Arr Ideal S32x577x1 .f32) (ix3 b r (0 : Fin 1)) = mean fun k => (W main_arg0 : Arr Ideal S32x577x384 .f32) (ix3 b r k) := by
  rw [e_v3 h, e_v2 h, e_cst_0 h, e_v1 h, e_v0 h, e_cst h]
  pointwise []
  rfl

theorem var0 (b : Fin 32) (r : Fin 577) :
    (W main_v12 : Arr Ideal S32x577x1 .f32) (ix3 b r (0 : Fin 1)) = var fun k => (W main_arg0 : Arr Ideal S32x577x384 .f32) (ix3 b r k) := by
  have hm := mean0 h b r
  rw [e_v12 h, e_v11 h, e_cst_2 h, e_v10 h, e_v9 h, e_cst_1 h, e_v8 h, e_v7 h, e_v6 h, e_v5 h, e_v4 h]
  generalize (W main_v3 : Arr Ideal S32x577x1 .f32) = m at hm ⊢
  generalize (W main_arg0 : Arr Ideal S32x577x384 .f32) = x at hm ⊢
  pointwise []
  simp only [hm]
  rfl

theorem norm0 (b : Fin 32) (r : Fin 577) (k : Fin 384) :
    (W main_v25 : Arr Ideal S32x577x384 .f32) (ix3 b r k)
      = ln (fun k => (W main_arg1 : Arr Ideal S384 .f32) (ix1 k)) (fun k => (W main_arg2 : Arr Ideal S384 .f32) (ix1 k))
          (fun k => (W main_arg0 : Arr Ideal S32x577x384 .f32) (ix3 b r k)) k := by
  have hm := mean0 h b r
  have hv := var0 h b r
  rw [e_v25 h, e_v24 h, e_v23 h, e_v22 h, e_v21 h, e_v20 h, e_v19 h, e_v18 h, e_v17 h, e_v16 h, e_v15 h, e_cst_3 h, e_v14 h, e_v13 h]
  generalize (W main_v3 : Arr Ideal S32x577x1 .f32) = m at hm ⊢
  generalize (W main_v12 : Arr Ideal S32x577x1 .f32) = v at hv ⊢
  generalize (W main_arg0 : Arr Ideal S32x577x384 .f32) = x at hm hv ⊢
  generalize (W main_arg1 : Arr Ideal S384 .f32) = g
  generalize (W main_arg2 : Arr Ideal S384 .f32) = c
  pointwise []
  simp only [hm, hv]
  rfl

end Cert.KernelIdeal.Host

namespace Cert.Select

open Idealize.ShloMosaic Idealize.ShloMosaic.TcCoe Idealize.ShloMosaic.StableHlo Cert.Settled Cert.Spec
open Cert.KernelIdeal.Gen (hostOps0 hostOps0_1 hostOps0_2 hostOps0_3 hostOps0_4 hostOps0_5 hostOps0_6 hostOps0_7 hostOps0_8)

local notation "KA" => Valuation Cert.KernelIdeal.τ Cert.KernelIdeal.sig (Elt Ideal)
local notation "RA" => Valuation Cert.ReferenceIdeal.τ Cert.ReferenceIdeal.sig (Elt Ideal)

variable {U : KA} {W : RA}
  (h : Settled (List.flatten [hostOps0, hostOps0_1, hostOps0_2, hostOps0_3, hostOps0_4, hostOps0_5, hostOps0_6, hostOps0_7, hostOps0_8]) U)
  (h' : Settled Cert.ReferenceIdeal.Run.line W)
  (a0 : @Eq (Arr Ideal Cert.KernelIdeal.S32x577x384 .f32) (U Cert.KernelIdeal.main_arg0) (W Cert.ReferenceIdeal.main_arg0))
  (a1 : @Eq (Arr Ideal Cert.KernelIdeal.S384 .f32) (U Cert.KernelIdeal.main_arg1) (W Cert.ReferenceIdeal.main_arg1))
  (a2 : @Eq (Arr Ideal Cert.KernelIdeal.S384 .f32) (U Cert.KernelIdeal.main_arg2) (W Cert.ReferenceIdeal.main_arg2))
  (a3 : @Eq (Arr Ideal Cert.KernelIdeal.S384x1152 .f32) (U Cert.KernelIdeal.main_arg3) (W Cert.ReferenceIdeal.main_arg3))
  (a4 : @Eq (Arr Ideal Cert.KernelIdeal.S1152 .f32) (U Cert.KernelIdeal.main_arg4) (W Cert.ReferenceIdeal.main_arg4))
include h h' a0 a1 a2

theorem norm_eq : @Eq (Arr Ideal Cert.KernelIdeal.S32x577x384 .f32) (U Cert.KernelIdeal.main_v25) (W Cert.ReferenceIdeal.main_v17) := by
  funext j
  obtain ⟨b, r, k, rfl⟩ : ∃ (b : Fin 32) (r : Fin 577) (k : Fin 384), j = ValueIdx.ix3 b r k := ⟨j 0, j 1, j 2, ValueIdx.eq_ix3 j⟩
  refine (Cert.KernelIdeal.Host.norm0 h b r k).trans (Eq.trans ?_ (Cert.ReferenceIdeal.Run.norm0 h' b r k).symm)
  rw [a0, a1, a2]

include a3 a4

theorem key_eq : @Eq (Arr Ideal Cert.KernelIdeal.S32x576x64 .f32) (U Cert.KernelIdeal.main_v36) (W Cert.ReferenceIdeal.main_v30) := by
  open Cert.KernelIdeal.Host in
  rw [e_v36 h, e_v35 h, e_v34 h, e_cst_5 h, e_v33 h, e_cst_4 h, e_v32 h, e_v31 h, e_v30 h, e_v29 h, e_v28 h, e_v27 h, e_v26 h]
  open Cert.ReferenceIdeal.Run in
  rw [e_v30 h', e_v27 h', e_v26 h', e_cst_3 h', e_v25 h', e_cst_2 h', e_v24 h', e_v23 h', e_v22 h', e_v21 h', e_v20 h', e_v19 h', e_v18 h']
  rw [norm_eq h h' a0 a1 a2, a3, a4]
  rfl

theorem score_eq : @Eq (Arr Ideal Cert.KernelIdeal.S32x288x288 .f32) (U Cert.KernelIdeal.main_v44) (W Cert.ReferenceIdeal.main_v38) := by
  open Cert.KernelIdeal.Host in
  rw [e_v44 h, e_v43 h, e_v42 h, e_v41 h, e_v40 h, e_v39 h, e_v38 h, e_cst_6 h, e_v37 h, e_call0_v2 h, e_call0_v1 h, e_call0_cst h, e_call0_v0 h]
  open Cert.ReferenceIdeal.Run in
  rw [e_v38 h', e_v37 h', e_v36 h', e_v35 h', e_v34 h', e_v33 h', e_v32 h', e_cst_4 h', e_v31 h', e_call1_v2 h', e_call1_v1 h', e_call1_cst h', e_call1_v0 h']
  rw [key_eq h h' a0 a1 a2 a3 a4]
  rfl

/-- Each odd token's even match is the same. -/
theorem match_eq : @Eq (Arr Ideal Cert.KernelIdeal.S32x288 .i32) (U Cert.KernelIdeal.main_v46) (W Cert.ReferenceIdeal.main_v40) := by
  open Cert.KernelIdeal.Host in
  rw [e_v46 h, e_call1_v0 h, e_call1_cst h, e_call1_c h]
  open Cert.ReferenceIdeal.Run in
  rw [e_v40 h', e_call2_v0 h', e_call2_cst h', e_call2_c h']
  rw [score_eq h h' a0 a1 a2 a3 a4]
  rfl

/-- The merged tokens are the same, in the same order. -/
theorem picks_eq : @Eq (Arr Ideal Cert.KernelIdeal.S32x16 .i32) (U Cert.KernelIdeal.main_indices) (W Cert.ReferenceIdeal.main_indices) := by
  open Cert.KernelIdeal.Host in
  rw [e_indices h, e_v45 h, e_cst_7 h]
  open Cert.ReferenceIdeal.Run in
  rw [e_indices h', e_v39 h', e_cst_5 h']
  rw [score_eq h h' a0 a1 a2 a3 a4]

end Cert.Select

end
-- ==== Proof.KernelHost.lean ====
/- The host operations before the kernel's launch and those after it, settled. -/
module

public import proofs.«01_k».proof.Proof.Gen.KernelIdeal.Launch
public import proofs.«01_k».proof.Proof.Settled

@[expose] public section

set_option maxRecDepth 16384

noncomputable section

namespace Cert.KernelIdeal.Host

open Cert.KernelIdeal Cert.KernelIdeal.Gen Idealize.ShloMosaic Idealize.ShloMosaic.TcCoe Idealize.ShloMosaic.StableHlo Cert.Settled

variable {F : FTy → Type} [FloatOps F]

set_option maxHeartbeats 8000000 in
/-- Every buffer is written once, above its operands: read off the operations, one by one. -/
theorem pre_ordered : Ordered 13 (List.flatten [hostOps0 (F := F), hostOps0_1, hostOps0_2, hostOps0_3, hostOps0_4, hostOps0_5, hostOps0_6, hostOps0_7, hostOps0_8]) 125 := by
  simp only [List.flatten_cons, List.flatten_nil, List.append_nil]
  refine Ordered.append (m := 57) ?_ (.append (m := 62) ?_ (.append (m := 72) ?_ (.append (m := 77) ?_ (.append (m := 107) ?_ (.append (m := 110) ?_ (.append (m := 117) ?_ (.append (m := 119) ?_ ?_)))))))
  all_goals repeat' first
    | exact show (_ : ℕ) ≤ _ by decide
    | refine ⟨_, show (_ : ℕ) ≤ _ by decide, At.nullary _ _, ?_⟩
    | refine ⟨_, show (_ : ℕ) ≤ _ by decide, At.unary _ _ _ (by decide), ?_⟩
    | refine ⟨_, show (_ : ℕ) ≤ _ by decide, At.binary _ _ _ _ (by decide), ?_⟩
    | refine ⟨_, show (_ : ℕ) ≤ _ by decide, At.ternary _ _ _ _ _ (by decide), ?_⟩
    | refine ⟨_, show (_ : ℕ) ≤ _ by decide, At.reshape _ _ _ _ (by decide), ?_⟩
    | refine ⟨_, show (_ : ℕ) ≤ _ by decide, At.quaternary _ _ _ _ _ _ (by decide), ?_⟩
    | refine ⟨_, show (_ : ℕ) ≤ _ by decide, At.nary _ _ _ _ (by decide), ?_⟩

theorem pre_settled (V : Valuation τ sig (Elt F)) : Settled (List.flatten [hostOps0, hostOps0_1, hostOps0_2, hostOps0_3, hostOps0_4, hostOps0_5, hostOps0_6, hostOps0_7, hostOps0_8]) (after (List.flatten [hostOps0, hostOps0_1, hostOps0_2, hostOps0_3, hostOps0_4, hostOps0_5, hostOps0_6, hostOps0_7, hostOps0_8]) V) := pre_ordered.settled V

/-- The arguments keep their contents. -/
theorem pre_keep (V : Valuation τ sig (Elt F)) (r : Ref sig .tc) (h : r.idx.val < 13) :
    after (List.flatten [hostOps0, hostOps0_1, hostOps0_2, hostOps0_3, hostOps0_4, hostOps0_5, hostOps0_6, hostOps0_7, hostOps0_8]) V (Proc.devRef .tc r) = V (Proc.devRef .tc r) := pre_ordered.keep r h V

theorem post_ordered : Ordered 126 (hostOps1 (F := F)) 129 := by
  repeat' first
    | exact show (_ : ℕ) ≤ _ by decide
    | refine ⟨_, show (_ : ℕ) ≤ _ by decide, At.nullary _ _, ?_⟩
    | refine ⟨_, show (_ : ℕ) ≤ _ by decide, At.unary _ _ _ (by decide), ?_⟩
    | refine ⟨_, show (_ : ℕ) ≤ _ by decide, At.binary _ _ _ _ (by decide), ?_⟩
    | refine ⟨_, show (_ : ℕ) ≤ _ by decide, At.ternary _ _ _ _ _ (by decide), ?_⟩
    | refine ⟨_, show (_ : ℕ) ≤ _ by decide, At.reshape _ _ _ _ (by decide), ?_⟩
    | refine ⟨_, show (_ : ℕ) ≤ _ by decide, At.quaternary _ _ _ _ _ _ (by decide), ?_⟩
    | refine ⟨_, show (_ : ℕ) ≤ _ by decide, At.nary _ _ _ _ (by decide), ?_⟩

theorem post_settled (V : Valuation τ sig (Elt F)) : Settled hostOps1 (after hostOps1 V) := post_ordered.settled V

theorem post_keep (V : Valuation τ sig (Elt F)) (r : Ref sig .tc) (h : r.idx.val < 126) :
    after hostOps1 V (Proc.devRef .tc r) = V (Proc.devRef .tc r) := post_ordered.keep r h V

section suffix
variable {W : Valuation τ sig (Elt F)} (h : Settled hostOps1 W)
include h
theorem e_v82 : (W main_v82 : Arr F S32x1x384 .f32) = extractStridedSlice S32x1x384 ![0, 560, 0] (W main_v81 : Arr F S32x576x384 .f32) slices_S32x576x384_S32x1x384_0_560_0 :=
  h.unary 0 rfl
theorem e_v83 : (W main_v83 : Arr F S32x560x384 .f32) = extractStridedSlice S32x560x384 ![0, 0, 0] (W main_v81 : Arr F S32x576x384 .f32) slices_S32x576x384_S32x560x384_0_0_0 :=
  h.unary 1 rfl
theorem e_v84 : (W main_v84 : Arr F S32x561x384 .f32) = concatenate S32x561x384 1 [⟨S32x1x384, (W main_v82 : Arr F S32x1x384 .f32)⟩, ⟨S32x560x384, (W main_v83 : Arr F S32x560x384 .f32)⟩] concatenates_S32x1x384_S32x560x384_S32x561x384_d1 :=
  h.binary 2 rfl

end suffix

end Cert.KernelIdeal.Host

end
-- ==== Proof.Region.lean ====
/- What the launch leaves in its result, from the blocks that each grid point is given. -/
module

public import proofs.«01_k».proof.Proof.Out
public import proofs.«01_k».proof.Proof.KernelHost
public import Idealize.ShloMosaic.Lib.Pipeline.Value
public import Idealize.ShloMosaic.Lib.Pointwise

@[expose] public section

set_option maxRecDepth 16384

noncomputable section

namespace Cert.KernelIdeal.Region

open Cert.KernelIdeal Cert.KernelIdeal.Gen Idealize.ShloMosaic Idealize.ShloMosaic.TcCoe Idealize.ShloMosaic.StableHlo Cert.Settled Idealize.SL.Sem

variable (m : (ℓ : Loc nD τ sig) → Buf (Elt Ideal) ℓ)

theorem points : grid0.N = 32 := by decide

/-- The grid point of a batch row. -/
def pt (b : Fin 32) : Fin cfg0.N := ⟨b.val, by have := b.isLt; have : cfg0.N = 32 := points; omega⟩

/-- What a grid point leaves in its output block. -/
def outs (c : Dev nD) (t : Fin cfg0.N) : Vec Ideal S1x576x384 .f32 :=
  out0_15 (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)

/-- The launch's result, block by block. -/
def whole (c : Dev nD) : Arr Ideal S32x576x384 .f32 := fun j => outs m c (pt (j 0)) (ix3 (0 : Fin 1) (j 1) (j 2))

theorem idx_rows : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_15.index t (0 : Fin 3) = t.val ∧ win0_15.index t (1 : Fin 3) = 0 ∧ win0_15.index t (2 : Fin 3) = 0 :=
  (by decide +kernel : ∀ t : Fin grid0.N, _)

theorem idx_rest : ∀ t : Fin cfg0.N, (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0)
    ∧ (∀ a, win0_11.index t a = 0) ∧ (∀ a, win0_12.index t a = 0) ∧ (∀ a, win0_13.index t a = 0) ∧ (∀ a, win0_14.index t a = 0) :=
  (by decide +kernel : ∀ t : Fin grid0.N, _)

theorem emb15 (t : Fin cfg0.N) (j : S1x576x384.Idx) :
    (win0_15.blk t).view.emb j = ix3 (⟨t.val, by have := t.isLt; have : cfg0.N = 32 := points; omega⟩ : Fin 32) (j 1) (j 2) := by
  obtain ⟨-, -, -, -, -, -, -, -, -, e0, e1, e2⟩ := idx_rows t
  have hj : (j 0).val < 1 := (j 0).isLt
  refine funext fun a => Fin.ext ?_
  match a with
  | ⟨0, _⟩ => show win0_15.index t (0 : Fin 3) * 1 + 1 * (j 0).val = t.val; omega
  | ⟨1, _⟩ => show win0_15.index t (1 : Fin 3) * 576 + 1 * (j 1).val = (j 1).val; omega
  | ⟨2, _⟩ => show win0_15.index t (2 : Fin 3) * 384 + 1 * (j 2).val = (j 2).val; omega

theorem whole_at (c : Dev nD) (t : Fin cfg0.N) (j : S1x576x384.Idx) :
    whole m c (ix3 (⟨t.val, by have := t.isLt; have : cfg0.N = 32 := points; omega⟩ : Fin 32) (j 1) (j 2)) = outs m c t j := by
  have hj : (j 0).val < 1 := (j 0).isLt
  show outs m c t (ix3 (0 : Fin 1) (j 1) (j 2)) = outs m c t j
  generalize outs m c t = X
  refine congrArg X (funext fun a => ?_)
  match a with
  | ⟨0, _⟩ => exact Fin.ext (show 0 = (j 0).val by omega)
  | ⟨1, _⟩ => rfl
  | ⟨2, _⟩ => rfl

theorem after15 (c : Dev nD) (t : Fin cfg0.N) : (dats m 0 c).after 15 t = outs m c t := after0_15 m c t

theorem read15 (t : Fin cfg0.N) (G : Arr Ideal S32x576x384 .f32) (X : Vec Ideal S1x576x384 .f32) (h : ∀ j : S1x576x384.Idx, X j = G ((win0_15.blk t).view.emb j)) :
    (cfg0.win 15).cut (grid0.coords t) X = ((cfg0.win 15).blk t).view.read (Elt Ideal) G := by
  funext j
  exact h j

theorem outs_eq (c : Dev nD) (t : Fin cfg0.N) (j : S1x576x384.Idx) : outs m c t j = whole m c ((win0_15.blk t).view.emb j) :=
  (whole_at m c t j).symm.trans (congrArg (whole m c) (emb15 t j).symm)

theorem flushed15 (c : Dev nD) (t : Fin cfg0.N) : (dats m 0 c).flushed 15 t = ((cfg0.win 15).blk t).view.read (Elt Ideal) (whole m c) := by
  rw [← read15 t (whole m c) (outs m c t) (outs_eq m c t), ← after15]

theorem covered15 (i : S32x576x384.Idx) : ∃ t : Fin cfg0.N, (cfg0.win 15).flush t = true ∧ i ∈ ((cfg0.win 15).blk t).view.set := by
  refine ⟨pt (i 0), flush0_15 _, ?_⟩
  have h : (win0_15.blk (pt (i 0))).view.emb (ix3 (0 : Fin 1) (i 1) (i 2)) ∈ (win0_15.blk (pt (i 0))).view.set := (win0_15.blk (pt (i 0))).view.emb_mem_set _
  have e : (win0_15.blk (pt (i 0))).view.emb (ix3 (0 : Fin 1) (i 1) (i 2)) = i := (emb15 (pt (i 0)) _).trans (ValueIdx.eq_ix3 i).symm
  rw [e] at h
  exact h

/-- The launch's result array. -/
theorem final15 (c : Dev nD) : (dats m 0 c).arrAt 15 cfg0.N = whole m c :=
  (dats m 0 c).arrAt_eq_of_cover 15 (whole m c) (fun t _ => flushed15 m c t) covered15

/-! ### The blocks that a grid point is given -/

theorem iblk_tok (c : Dev nD) (b : Fin 32) (r : Fin 288) (d : Fin 768) :
    (iblk m c 0 (pt b) : Vec Ideal S1x288x768 .f32) (ix3 (0 : Fin 1) r d) = (V m c main_v77 : Arr Ideal S32x288x768 .f32) (ix3 b r d) := by
  obtain ⟨e0, e1, e2, -⟩ := idx_rows (pt b)
  refine congrArg (V m c main_v77 : Arr Ideal S32x288x768 .f32) (funext fun a => Fin.ext ?_)
  match a with
  | ⟨0, _⟩ => show win0_0.index (pt b) (0 : Fin 3) * 1 + 1 * 0 = b.val; rw [e0]; show b.val * 1 + 1 * 0 = _; omega
  | ⟨1, _⟩ => show win0_0.index (pt b) (1 : Fin 3) * 288 + 1 * r.val = r.val; omega
  | ⟨2, _⟩ => show win0_0.index (pt b) (2 : Fin 3) * 768 + 1 * d.val = d.val; omega

theorem iblk_class (c : Dev nD) (b : Fin 32) (r : Fin 16) (d : Fin 384) :
    (iblk m c 1 (pt b) : Vec Ideal S1x16x384 .f32) (ix3 (0 : Fin 1) r d) = (V m c main_v80 : Arr Ideal S32x16x384 .f32) (ix3 b r d) := by
  obtain ⟨-, -, -, e0, e1, e2, -⟩ := idx_rows (pt b)
  refine congrArg (V m c main_v80 : Arr Ideal S32x16x384 .f32) (funext fun a => Fin.ext ?_)
  match a with
  | ⟨0, _⟩ => show win0_1.index (pt b) (0 : Fin 3) * 1 + 1 * 0 = b.val; rw [e0]; show b.val * 1 + 1 * 0 = _; omega
  | ⟨1, _⟩ => show win0_1.index (pt b) (1 : Fin 3) * 16 + 1 * r.val = r.val; omega
  | ⟨2, _⟩ => show win0_1.index (pt b) (2 : Fin 3) * 384 + 1 * d.val = d.val; omega

theorem iblk_marks (c : Dev nD) (b : Fin 32) (r : Fin 8) (d : Fin 288) :
    (iblk m c 2 (pt b) : Vec Ideal S1x8x288 .f32) (ix3 (0 : Fin 1) r d) = (V m c main_v75 : Arr Ideal S32x8x288 .f32) (ix3 b r d) := by
  obtain ⟨-, -, -, -, -, -, e0, e1, e2, -⟩ := idx_rows (pt b)
  refine congrArg (V m c main_v75 : Arr Ideal S32x8x288 .f32) (funext fun a => Fin.ext ?_)
  match a with
  | ⟨0, _⟩ => show win0_2.index (pt b) (0 : Fin 3) * 1 + 1 * 0 = b.val; rw [e0]; show b.val * 1 + 1 * 0 = _; omega
  | ⟨1, _⟩ => show win0_2.index (pt b) (1 : Fin 3) * 8 + 1 * r.val = r.val; omega
  | ⟨2, _⟩ => show win0_2.index (pt b) (2 : Fin 3) * 288 + 1 * d.val = d.val; omega

/-- A window whose block index is zero on every axis is given its array's elements in place. -/
theorem at_zero {w : Pipeline.Window sig grid0} {t : Fin grid0.N} (h : ∀ a, w.index t a = 0) (j : (w.xblock (grid0.coords t)).Idx) (a : Fin w.shape.rank) :
    ((w.rect t).emb j a : ℕ) = j a := Pipeline.Window.rect_emb_val_of_index_zero w t a (h a) j

theorem iblk_3 (c : Dev nD) (t : Fin cfg0.N) : (iblk m c 3 t : Vec Ideal S384 .f32) = (V m c main_arg1 : Arr Ideal S384 .f32) :=
  funext fun j => congrArg (V m c main_arg1 : Arr Ideal S384 .f32) (funext fun a => Fin.ext (at_zero (w := win0_3) (idx_rest t).1 j a))
theorem iblk_4 (c : Dev nD) (t : Fin cfg0.N) : (iblk m c 4 t : Vec Ideal S384 .f32) = (V m c main_arg2 : Arr Ideal S384 .f32) :=
  funext fun j => congrArg (V m c main_arg2 : Arr Ideal S384 .f32) (funext fun a => Fin.ext (at_zero (w := win0_4) (idx_rest t).2.1 j a))
theorem iblk_5 (c : Dev nD) (t : Fin cfg0.N) : (iblk m c 5 t : Vec Ideal S384x1152 .f32) = (V m c main_arg3 : Arr Ideal S384x1152 .f32) :=
  funext fun j => congrArg (V m c main_arg3 : Arr Ideal S384x1152 .f32) (funext fun a => Fin.ext (at_zero (w := win0_5) (idx_rest t).2.2.1 j a))
theorem iblk_6 (c : Dev nD) (t : Fin cfg0.N) : (iblk m c 6 t : Vec Ideal S1152 .f32) = (V m c main_arg4 : Arr Ideal S1152 .f32) :=
  funext fun j => congrArg (V m c main_arg4 : Arr Ideal S1152 .f32) (funext fun a => Fin.ext (at_zero (w := win0_6) (idx_rest t).2.2.2.1 j a))
theorem iblk_7 (c : Dev nD) (t : Fin cfg0.N) : (iblk m c 7 t : Vec Ideal S384x384 .f32) = (V m c main_arg5 : Arr Ideal S384x384 .f32) :=
  funext fun j => congrArg (V m c main_arg5 : Arr Ideal S384x384 .f32) (funext fun a => Fin.ext (at_zero (w := win0_7) (idx_rest t).2.2.2.2.1 j a))
theorem iblk_8 (c : Dev nD) (t : Fin cfg0.N) : (iblk m c 8 t : Vec Ideal S384 .f32) = (V m c main_arg6 : Arr Ideal S384 .f32) :=
  funext fun j => congrArg (V m c main_arg6 : Arr Ideal S384 .f32) (funext fun a => Fin.ext (at_zero (w := win0_8) (idx_rest t).2.2.2.2.2.1 j a))
theorem iblk_9 (c : Dev nD) (t : Fin cfg0.N) : (iblk m c 9 t : Vec Ideal S384 .f32) = (V m c main_arg7 : Arr Ideal S384 .f32) :=
  funext fun j => congrArg (V m c main_arg7 : Arr Ideal S384 .f32) (funext fun a => Fin.ext (at_zero (w := win0_9) (idx_rest t).2.2.2.2.2.2.1 j a))
theorem iblk_10 (c : Dev nD) (t : Fin cfg0.N) : (iblk m c 10 t : Vec Ideal S384 .f32) = (V m c main_arg8 : Arr Ideal S384 .f32) :=
  funext fun j => congrArg (V m c main_arg8 : Arr Ideal S384 .f32) (funext fun a => Fin.ext (at_zero (w := win0_10) (idx_rest t).2.2.2.2.2.2.2.1 j a))
theorem iblk_11 (c : Dev nD) (t : Fin cfg0.N) : (iblk m c 11 t : Vec Ideal S384x1536 .f32) = (V m c main_arg9 : Arr Ideal S384x1536 .f32) :=
  funext fun j => congrArg (V m c main_arg9 : Arr Ideal S384x1536 .f32) (funext fun a => Fin.ext (at_zero (w := win0_11) (idx_rest t).2.2.2.2.2.2.2.2.1 j a))
theorem iblk_12 (c : Dev nD) (t : Fin cfg0.N) : (iblk m c 12 t : Vec Ideal S1536 .f32) = (V m c main_arg10 : Arr Ideal S1536 .f32) :=
  funext fun j => congrArg (V m c main_arg10 : Arr Ideal S1536 .f32) (funext fun a => Fin.ext (at_zero (w := win0_12) (idx_rest t).2.2.2.2.2.2.2.2.2.1 j a))
theorem iblk_13 (c : Dev nD) (t : Fin cfg0.N) : (iblk m c 13 t : Vec Ideal S1536x384 .f32) = (V m c main_arg11 : Arr Ideal S1536x384 .f32) :=
  funext fun j => congrArg (V m c main_arg11 : Arr Ideal S1536x384 .f32) (funext fun a => Fin.ext (at_zero (w := win0_13) (idx_rest t).2.2.2.2.2.2.2.2.2.2.1 j a))
theorem iblk_14 (c : Dev nD) (t : Fin cfg0.N) : (iblk m c 14 t : Vec Ideal S384 .f32) = (V m c main_arg12 : Arr Ideal S384 .f32) :=
  funext fun j => congrArg (V m c main_arg12 : Arr Ideal S384 .f32) (funext fun a => Fin.ext (at_zero (w := win0_14) (idx_rest t).2.2.2.2.2.2.2.2.2.2.2 j a))

end Cert.KernelIdeal.Region
end
-- ==== Proof.Take.lean ====
module

public import proofs.«01_k».proof.Proof.ReferenceEqs
public import proofs.«01_k».proof.Proof.Order
public import Idealize.ShloMosaic.Lib.Pointwise
public import Idealize.ShloMosaic.Lib.SortFacts
public import Idealize.ShloMosaic.Lib.Routing.OpsPair
public import Idealize.ShloMosaic.Lib.Routing.OpsSet

/-! What the reference's gathers and scatters read and write, at an index. -/

@[expose] public section

set_option maxRecDepth 16384

noncomputable section

namespace Cert.ReferenceIdeal.Take

open Cert.ReferenceIdeal Cert.ReferenceIdeal.Gen Idealize.ShloMosaic Idealize.ShloMosaic.TcCoe Idealize.ShloMosaic.StableHlo Cert.Settled

theorem take_word (x : IVec S32x288 32) (idx : IVec S32x16x1 32) (b : Fin 32) (j : Fin 16) :
    Host.gather gather_S32x288_S32x16x1_S32x16_n_1_0_0_1_2_11 x idx (ix2 b j)
      = x (ix2 b ⟨min (idx (ix3 b j (0 : Fin 1))).toInt.toNat 287, by omega⟩) := by
  unfold Host.gather
  congr 1
  funext a
  refine Fin.ext ?_
  fin_cases a
  · show 0 + b.val + 0 = b.val
    omega
  · refine congrArg (fun i : S32x16x1.Idx => min (idx i).toInt.toNat 287) (?_ : _ = ix3 b j (0 : Fin 1))
    funext a
    fin_cases a <;> rfl

theorem take_row {α : Type} (x : S32x288x384.Idx → α) (idx : IVec S32x16x1 32) (b : Fin 32) (j : Fin 16) (d : Fin 384) :
    Host.gather gather_S32x288x384_S32x16x1_S32x16x384_2_1_0_0_1_2_11384 x idx (ix3 b j d)
      = x (ix3 b ⟨min (idx (ix3 b j (0 : Fin 1))).toInt.toNat 287, by omega⟩ d) := by
  unfold Host.gather
  congr 1
  funext a
  refine Fin.ext ?_
  fin_cases a
  · show 0 + b.val + 0 = b.val
    omega
  · refine congrArg (fun i : S32x16x1.Idx => min (idx i).toInt.toNat 287) (?_ : _ = ix3 b j (0 : Fin 1))
    funext a
    fin_cases a <;> rfl
  · show 0 + 0 + d.val = d.val
    omega

theorem take_rest {α : Type} (x : S32x288x384.Idx → α) (idx : IVec S32x272x1 32) (b : Fin 32) (j : Fin 272) (d : Fin 384) :
    Host.gather gather_S32x288x384_S32x272x1_S32x272x384_2_1_0_0_1_2_11384 x idx (ix3 b j d)
      = x (ix3 b ⟨min (idx (ix3 b j (0 : Fin 1))).toInt.toNat 287, by omega⟩ d) := by
  unfold Host.gather
  congr 1
  funext a
  refine Fin.ext ?_
  fin_cases a
  · show 0 + b.val + 0 = b.val
    omega
  · refine congrArg (fun i : S32x272x1.Idx => min (idx i).toInt.toNat 287) (?_ : _ = ix3 b j (0 : Fin 1))
    funext a
    fin_cases a <;> rfl
  · show 0 + 0 + d.val = d.val
    omega

/-- Where an update of the row scatter lands. -/
theorem lands_row (idx : IVec S32x16x2 32) (b : Fin 32) (j : Fin 16) (d : Fin 384) (b' : Fin 32) (r : Fin 288) (d' : Fin 384) :
    scatter_S32x288x384_S32x16x2_S32x16x384_2_01_01_2.resultIdx? (ix3 b j d) idx = some (ix3 b' r d')
      ↔ (idx (ix3 b j (0 : Fin 2))).toInt = b'.val ∧ (idx (ix3 b j (1 : Fin 2))).toInt = r.val ∧ d = d' := by
  rw [Routing.resultIdx?_eq_some]
  have s0 : scatter_S32x288x384_S32x16x2_S32x16x384_2_01_01_2.start (ix3 b j d) idx 0 = (idx (ix3 b j (0 : Fin 2))).toInt :=
    congrArg (fun i : S32x16x2.Idx => (idx i).toInt) (by funext a; fin_cases a <;> rfl)
  have s1 : scatter_S32x288x384_S32x16x2_S32x16x384_2_01_01_2.start (ix3 b j d) idx 1 = (idx (ix3 b j (1 : Fin 2))).toInt :=
    congrArg (fun i : S32x16x2.Idx => (idx i).toInt) (by funext a; fin_cases a <;> rfl)
  constructor
  · intro h
    have h0 := h 0
    have h1 := h 1
    have h2 : (0 : Int) + (d.val : Int) = d'.val := h 2
    rw [s0] at h0
    rw [s1] at h1
    exact ⟨(add_zero _).symm.trans h0, (add_zero _).symm.trans h1, Fin.ext (by omega)⟩
  · rintro ⟨h0, h1, rfl⟩ a
    fin_cases a
    · exact (congrArg (· + (0 : Int)) s0).trans ((add_zero _).trans h0)
    · exact (congrArg (· + (0 : Int)) s1).trans ((add_zero _).trans h1)
    · exact zero_add _

/-- Where an update of the count scatter lands. -/
theorem lands_count (idx : IVec S32x16x2 32) (b : Fin 32) (j : Fin 16) (b' : Fin 32) (r : Fin 288) :
    scatter_S32x288x1_S32x16x2_S32x16x1_2_01_01_2.resultIdx? (ix3 b j (0 : Fin 1)) idx = some (ix3 b' r (0 : Fin 1))
      ↔ (idx (ix3 b j (0 : Fin 2))).toInt = b'.val ∧ (idx (ix3 b j (1 : Fin 2))).toInt = r.val := by
  rw [Routing.resultIdx?_eq_some]
  have s0 : scatter_S32x288x1_S32x16x2_S32x16x1_2_01_01_2.start (ix3 b j (0 : Fin 1)) idx 0 = (idx (ix3 b j (0 : Fin 2))).toInt :=
    congrArg (fun i : S32x16x2.Idx => (idx i).toInt) (by funext a; fin_cases a <;> rfl)
  have s1 : scatter_S32x288x1_S32x16x2_S32x16x1_2_01_01_2.start (ix3 b j (0 : Fin 1)) idx 1 = (idx (ix3 b j (1 : Fin 2))).toInt :=
    congrArg (fun i : S32x16x2.Idx => (idx i).toInt) (by funext a; fin_cases a <;> rfl)
  constructor
  · intro h
    have h0 := h 0
    have h1 := h 1
    rw [s0] at h0
    rw [s1] at h1
    exact ⟨(add_zero _).symm.trans h0, (add_zero _).symm.trans h1⟩
  · rintro ⟨h0, h1⟩ a
    fin_cases a
    · exact (congrArg (· + (0 : Int)) s0).trans ((add_zero _).trans h0)
    · exact (congrArg (· + (0 : Int)) s1).trans ((add_zero _).trans h1)
    · exact zero_add _

/-- The word a fold of the choice between two entries ends at: the one it started at or one of the entries'. -/
theorem choice_mem (l : List (Ideal .f32 × BitVec 32)) (a : Ideal .f32 × BitVec 32) (p : BitVec 32 → Prop) (ha : p a.2) (hl : ∀ x ∈ l, p x.2) :
    p (l.foldl reducer_argmax_f32_i32 a).2 := by
  induction l generalizing a with
  | nil => exact ha
  | cons x l ih =>
    refine ih _ ?_ fun y hy => hl y (List.mem_cons_of_mem _ hy)
    have hx := hl x List.mem_cons_self
    unfold reducer_argmax_f32_i32
    dsimp only
    unfold Scalar.select
    split
    · exact ha
    · exact hx

theorem argmax_lt (s : FVec Ideal S32x288x288 .f32) (b : Fin 32) (i : Fin 288) :
    (Host.argReduce reducer_argmax_f32_i32 s (iotaInDim S32x288x288 32 2) (constant S_ .f32 0xFF800000#32) (constantI S_ 32 0#32)
      reducesTo_S32x288x288_S32x288_d2 h_S_ (ix2 b i)).2.toNat < 288 := by
  rw [Idealize.ShloMosaic.Ideal.argReduce_eq_reduce2, Host.reduce2_eq_foldl_fiber]
  refine choice_mem _ _ (fun w => w.toNat < 288) ?_ ?_
  · show (0#32 : BitVec 32).toNat < 288
    decide
  · intro x hx
    unfold Host.argReduceFiber at hx
    obtain ⟨n, _, rfl⟩ := List.mem_map.1 hx
    show (BitVec.ofNat 32 ((S32x288x288.rowMajor.symm n) 2).val).toNat < 288
    have := ((S32x288x288.rowMajor.symm n) 2).isLt
    have h2 : ((S32x288x288.rowMajor.symm n) 2).val < 288 := this
    rw [BitVec.toNat_ofNat, Nat.mod_eq_of_lt (by omega)]
    exact h2

/-- The places of the sixteen largest, before the cut. -/
def ranking (s : FVec Ideal S32x288 .f32) (b : Fin 32) (p : Fin 288) : Fin 288 :=
  sortedFrom (fun k k' => FloatOps.cmpfTotal .gt (s (ix2 b k)) (s (ix2 b k')) == 1#1) p

theorem ranking_injective (s : FVec Ideal S32x288 .f32) (b : Fin 32) : Function.Injective (ranking s b) := sortedFrom_injective _

/-- The carried operand of a sort, at an index. -/
theorem sort2_snd {s : Shape} {d : Nat} (hd : d < s.rank) {α β : Type} (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

theorem one_lt : 1 < S32x288.rank := by decide

theorem along_row (b : Fin 32) (p k : Fin 288) : (ix2 b p : S32x288.Idx).along ⟨1, one_lt⟩ k = ix2 b k := by
  funext a
  fin_cases a <;> rfl

/-- The positions of a sorted row, when they are known. -/
theorem iota_along (b : Fin 32) (p : Fin 288) (y : IVec S32x288 32) (hy : ∀ k : Fin 288, y (ix2 b k) = BitVec.ofNat 32 k.val) (q q' : Fin 288) (h : q = q') :
    y ((ix2 b p : S32x288.Idx).along ⟨1, one_lt⟩ q) = BitVec.ofNat 32 q'.val := by
  rw [along_row, hy, h]

theorem first_at (g : IVec S32x288 32) (b : Fin 32) (j : Fin 16) :
    extractStridedSlice S32x16 (fun _ => 0) g sliceFits_S32x288_S32x16 (ix2 b j) = g (ix2 b (⟨j.val, by omega⟩ : Fin 288)) :=
  congrArg g (by funext a; fin_cases a <;> exact Fin.ext (Nat.zero_add _))

theorem largest_at (s : FVec Ideal S32x288 .f32) (b : Fin 32) (j : Fin 16) :
    (Host.topK S32x16 1 (FloatOps.cmpfTotal .gt) s sliceFits_S32x288_S32x16).2 (ix2 b j)
      = BitVec.ofNat 32 (ranking s b ⟨j.val, by omega⟩).val := by
  unfold Host.topK
  have hi : ∀ k : Fin 288, (fun i : S32x288.Idx => if hd : 1 < S32x288.rank then iotaInDim S32x288 32 ⟨1, hd⟩ i else 0#32) (ix2 b k) = BitVec.ofNat 32 k.val := fun k => by
    dsimp only
    rw [dif_pos one_lt]
    rfl
  revert hi
  generalize (fun i : S32x288.Idx => if hd : 1 < S32x288.rank then iotaInDim S32x288 32 ⟨1, hd⟩ i else 0#32) = y
  intro hi
  dsimp only
  refine (first_at _ b j).trans ?_
  refine (sort2_snd one_lt _ _ _ _).trans ?_
  refine iota_along b _ y hi _ _ ?_
  refine congrArg (fun f => sortedFrom f (⟨j.val, by omega⟩ : Fin 288)) (funext fun k => funext fun k' => ?_)
  exact congrArg₂ (fun u v => FloatOps.cmpfTotal .gt (s u) (s v) == 1#1) (along_row b _ k) (along_row b _ k')

/-- Sorting a table of marks keeps, at each place, the place it came from. -/
theorem sorted_at (s : IVec S32x288 32) (M : Fin 288 → Prop) [DecidablePred M] (b : Fin 32)
    (hs : ∀ i, s (ix2 b i) = if M i then 1#32 else 0#32) (p : Fin 288) :
    (Host.sort2 S32x288 1 comparator_i32_i32_d1 s (iotaInDim S32x288 32 1)).2 (ix2 b p)
      = BitVec.ofNat 32 (Order.place M p).val := by
  have c : ∀ (k k' : Fin 288) (u v : BitVec 32), (comparator_i32_i32_d1 (s (ix2 b k), u) (s (ix2 b k'), v) == 1#1)
      = Order.less (Order.mark M) k k' := fun k k' u v => by
    unfold comparator_i32_i32_d1 Order.less Order.mark
    dsimp only
    rw [hs, hs]
    by_cases h : M k <;> by_cases h' : M k' <;> simp [h, h'] <;> decide
  have hi : ∀ k : Fin 288, iotaInDim S32x288 32 1 (ix2 b k) = BitVec.ofNat 32 k.val := fun k => rfl
  revert hi
  generalize iotaInDim S32x288 32 1 = y
  intro hi
  refine (sort2_snd one_lt _ _ _ _).trans ?_
  refine iota_along b _ _ hi _ _ ?_
  refine congrArg (fun f => sortedFrom f p) (funext fun k => funext fun k' => ?_)
  rw [← c k k' _ _]
  exact congrArg₂ (fun u v => comparator_i32_i32_d1 (s u, _) (s v, _) == 1#1) (along_row b _ k) (along_row b _ k')

end Cert.ReferenceIdeal.Take
end
-- ==== Proof.RefMerge.lean ====
/- The reference's merged tokens, at an index. -/
module

public import proofs.«01_k».proof.Proof.Take
public import proofs.«01_k».proof.Proof.Words
public import proofs.«01_k».proof.Proof.Merge

@[expose] public section

set_option maxRecDepth 16384

noncomputable section

namespace Cert.ReferenceIdeal.Run

open Cert.ReferenceIdeal Cert.ReferenceIdeal.Gen Idealize.ShloMosaic Idealize.ShloMosaic.TcCoe Idealize.ShloMosaic.StableHlo Cert.Settled Cert.Spec Cert.ReferenceIdeal.Take Cert.Words
open scoped BigOperators

/-- A conjunction of ones. -/
theorem all_ones {s t : Shape} {axes : List (Fin s.rank)} (x : IVec s 1) (hx : ∀ i, x i = 1#1) (h : s.ReducesTo axes t) (j : t.Idx) :
    Host.reduce IntOp.andi x (constantI S_ 1 1#1) h h_S_ j = 1#1 := by
  unfold Host.reduce
  show List.foldl _ (1#1) _ = 1#1
  generalize (List.filter _ _) = l
  induction l with
  | nil => rfl
  | cons n l ih =>
    rw [List.foldl_cons, hx]
    exact ih

/-- Rows added into a table at the rows their words name. -/
theorem rows_scattered (x : FVec Ideal S32x288x384 .f32) (idx : IVec S32x16x2 32) (u : FVec Ideal S32x16x384 .f32) (t : Fin 32 → Fin 16 → Fin 288)
    (h0 : ∀ b j, idx (ix3 b j (0 : Fin 2)) = BitVec.ofNat 32 b.val) (h1 : ∀ b j, idx (ix3 b j (1 : Fin 2)) = word (t b j)) (b : Fin 32) (r : Fin 288) (d : Fin 384) :
    Host.scatterAdd scatter_S32x288x384_S32x16x2_S32x16x384_2_01_01_2 x idx u (ix3 b r d)
      = x (ix3 b r d) + ∑ j : Fin 16, if t b j = r then u (ix3 b j d) else 0 := by
  show x (ix3 b r d) + ∑ k ∈ Finset.univ.filter (fun k =>
    scatter_S32x288x384_S32x16x2_S32x16x384_2_01_01_2.resultIdx? k idx = some (ix3 b r d)), u k = _
  have e : (Finset.univ.filter fun k => scatter_S32x288x384_S32x16x2_S32x16x384_2_01_01_2.resultIdx? k idx = some (ix3 b r d))
      = (Finset.univ.filter fun j : Fin 16 => t b j = r).image fun j => ix3 b j d := by
    ext k
    obtain ⟨p, q, z, rfl⟩ : ∃ (p : Fin 32) (q : Fin 16) (z : Fin 384), k = ix3 p q z := ⟨k 0, k 1, k 2, ValueIdx.eq_ix3 k⟩
    simp only [Finset.mem_filter, Finset.mem_univ, true_and, Finset.mem_image]
    rw [lands_row, h0, h1, batch_toInt, word_toInt]
    constructor
    · rintro ⟨g0, g1, rfl⟩
      obtain rfl : p = b := Fin.ext (by exact_mod_cast g0)
      exact ⟨q, Fin.ext (by exact_mod_cast g1), rfl⟩
    · rintro ⟨j, hj, ej⟩
      have e0 : b = p := congrFun ej 0
      have e1 : j = q := congrFun ej 1
      have e2 : d = z := congrFun ej 2
      subst e0 e1 e2
      exact ⟨rfl, by rw [hj], rfl⟩
  rw [e, Finset.sum_image fun i _ j _ hij => (congrFun hij 1 : i = j), Finset.sum_filter]

/-- The same for a table of one column. -/
theorem counts_scattered (x : FVec Ideal S32x288x1 .f32) (idx : IVec S32x16x2 32) (u : FVec Ideal S32x16x1 .f32) (t : Fin 32 → Fin 16 → Fin 288)
    (h0 : ∀ b j, idx (ix3 b j (0 : Fin 2)) = BitVec.ofNat 32 b.val) (h1 : ∀ b j, idx (ix3 b j (1 : Fin 2)) = word (t b j)) (b : Fin 32) (r : Fin 288) :
    Host.scatterAdd scatter_S32x288x1_S32x16x2_S32x16x1_2_01_01_2 x idx u (ix3 b r (0 : Fin 1))
      = x (ix3 b r (0 : Fin 1)) + ∑ j : Fin 16, if t b j = r then u (ix3 b j (0 : Fin 1)) else 0 := by
  show x (ix3 b r (0 : Fin 1)) + ∑ k ∈ Finset.univ.filter (fun k =>
    scatter_S32x288x1_S32x16x2_S32x16x1_2_01_01_2.resultIdx? k idx = some (ix3 b r (0 : Fin 1))), u k = _
  have e : (Finset.univ.filter fun k => scatter_S32x288x1_S32x16x2_S32x16x1_2_01_01_2.resultIdx? k idx = some (ix3 b r (0 : Fin 1)))
      = (Finset.univ.filter fun j : Fin 16 => t b j = r).image fun j => ix3 b j (0 : Fin 1) := by
    ext k
    obtain ⟨p, q, z, rfl⟩ : ∃ (p : Fin 32) (q : Fin 16) (z : Fin 1), k = ix3 p q z := ⟨k 0, k 1, k 2, ValueIdx.eq_ix3 k⟩
    obtain rfl : z = 0 := Subsingleton.elim _ _
    simp only [Finset.mem_filter, Finset.mem_univ, true_and, Finset.mem_image]
    rw [lands_count, h0, h1, batch_toInt, word_toInt]
    constructor
    · rintro ⟨g0, g1⟩
      obtain rfl : p = b := Fin.ext (by exact_mod_cast g0)
      exact ⟨q, Fin.ext (by exact_mod_cast g1), rfl⟩
    · rintro ⟨j, hj, ej⟩
      have e0 : b = p := congrFun ej 0
      have e1 : j = q := congrFun ej 1
      subst e0 e1
      exact ⟨rfl, by rw [hj]⟩
  rw [e, Finset.sum_image fun i _ j _ hij => (congrFun hij 1 : i = j), Finset.sum_filter]

/-- Joining the three groups of rows. -/
theorem joined (x : FVec Ideal S32x1x384 .f32) (y : FVec Ideal S32x288x384 .f32) (z : FVec Ideal S32x272x384 .f32) (b : Fin 32) (i : Fin 561) (d : Fin 384) :
    concatenate S32x561x384 1 [⟨S32x1x384, x⟩, ⟨S32x560x384, concatenate S32x560x384 1 [⟨S32x288x384, y⟩, ⟨S32x272x384, z⟩]
        concatenates_S32x288x384_S32x272x384_S32x560x384_d1⟩] concatenates_S32x1x384_S32x560x384_S32x561x384_d1 (ix3 b i d)
      = if i.val = 0 then x (ix3 b (0 : Fin 1) d) else if h : i.val ≤ 288 then y (ix3 b ⟨i.val - 1, by omega⟩ d) else z (ix3 b ⟨i.val - 289, by omega⟩ d) := by
  pointwise []
  by_cases h0 : i.val = 0
  · rw [dif_pos (by omega), if_pos h0]
    exact congrArg (fun q => x (ix3 b q d)) (Fin.ext h0)
  · rw [dif_neg (by omega), if_neg h0]
    by_cases h1 : i.val ≤ 288
    · rw [dif_pos (by omega), dif_pos h1]
    · rw [dif_neg (by omega), dif_neg h1]
      exact congrArg (fun q => z (ix3 b q d)) (Fin.ext (show i.val - 1 - 288 = i.val - 289 by omega))

variable {W : Valuation τ sig (Elt Ideal)} (h : Settled line W)

/-! ### The choice -/

/-- The even token nearest to an odd one. -/
def near (W : Valuation τ sig (Elt Ideal)) (b : Fin 32) (i : Fin 288) : Fin 288 :=
  Fin.ofNat 288 ((W main_v40 : Arr Ideal S32x288 .i32) (ix2 b i)).toNat

/-- The sixteen odd tokens that are merged. -/
def picks (W : Valuation τ sig (Elt Ideal)) (b : Fin 32) (j : Fin 16) : Fin 288 :=
  ranking (W main_v39 : Arr Ideal S32x288 .f32) b ⟨j.val, by omega⟩

theorem picks_injective (b : Fin 32) : Function.Injective (picks W b) := fun i j e =>
  Fin.ext (congrArg (fun q : Fin 288 => q.val) (ranking_injective _ b e))

include h

theorem near_word (b : Fin 32) (i : Fin 288) : (W main_v40 : Arr Ideal S32x288 .i32) (ix2 b i) = word (near W b i) := by
  have hl : ((W main_v40 : Arr Ideal S32x288 .i32) (ix2 b i)).toNat < 288 := by
    rw [e_v40 h, e_call2_v0 h, e_call2_cst h, e_call2_c h]
    exact argmax_lt _ b i
  unfold word near
  apply BitVec.eq_of_toNat_eq
  rw [BitVec.toNat_ofNat]
  show _ = (((W main_v40 : Arr Ideal S32x288 .i32) (ix2 b i)).toNat % 288) % 2 ^ 32
  rw [Nat.mod_eq_of_lt hl, Nat.mod_eq_of_lt (by omega)]

theorem picks_word (b : Fin 32) (j : Fin 16) : (W main_indices : Arr Ideal S32x16 .i32) (ix2 b j) = word (picks W b j) := by
  rw [e_indices h]
  exact largest_at _ b j

/-! ### The words gathered -/

theorem wrap_picks (b : Fin 32) (j : Fin 16) : (W main_call3_v4 : Arr Ideal S32x16 .i32) (ix2 b j) = word (picks W b j) := by
  rw [e_call3_v4 h, e_call3_v3 h, e_call3_v2 h, e_call3_c_0 h, e_call3_v1 h, e_call3_v0 h, e_call3_c h]
  pointwise []
  rw [picks_word h]
  exact word_wrap _ _

theorem cast_picks (b : Fin 32) (j : Fin 16) : (W main_call3_v5 : Arr Ideal S32x16x1 .i32) (ix3 b j (0 : Fin 1)) = word (picks W b j) := by
  rw [e_call3_v5 h]
  pointwise []
  exact wrap_picks h b j

theorem target_word (b : Fin 32) (j : Fin 16) : (W main_v45 : Arr Ideal S32x16 .i32) (ix2 b j) = word (near W b (picks W b j)) := by
  have e : (W main_call3_v12 : Arr Ideal S32x16 .i1) (ix2 b j) = 1#1 := by
    rw [e_call3_v12 h, e_call3_c_3 h]
    refine all_ones _ (fun i => ?_) _ _
    obtain ⟨p, q, z, rfl⟩ : ∃ (p : Fin 32) (q : Fin 16) (z : Fin 1), i = ix3 p q z := ⟨i 0, i 1, i 2, ValueIdx.eq_ix3 i⟩
    obtain rfl : z = 0 := Subsingleton.elim _ _
    rw [e_call3_v11 h, e_call3_v10 h, e_call3_v9 h, e_call3_v8 h, e_call3_c_1 h, e_call3_v7 h, e_call3_v6 h, e_call3_c_2 h]
    pointwise []
    rw [cast_picks h]
    exact word_inside _
  rw [e_v45 h]
  show Scalar.select ((W main_call3_v12 : Arr Ideal S32x16 .i1) (ix2 b j)) ((W main_call3_v13 : Arr Ideal S32x16 .i32) (ix2 b j)) _ = _
  rw [e, e_call3_v13 h, take_word, word_row (cast_picks h b j), near_word h]
  rfl

/-! ### The rows gathered -/

theorem odd_at (b : Fin 32) (r : Fin 288) (d : Fin 384) :
    (W main_v42 : Arr Ideal S32x288x384 .f32) (ix3 b r d) = Merge.tok (fun i k => (W main_arg0 : Arr Ideal S32x577x384 .f32) (ix3 b i k)) 1 r d := by
  rw [e_v42 h, e_v29 h]
  pointwise []
  refine congrArg (fun r => (W main_arg0 : Arr Ideal S32x577x384 .f32) (ix3 b r d)) (Fin.ext ?_)
  first | exact (show 1 + (1 + 2 * r.val) = 1 + (2 * r.val + 1) by omega) | rfl

theorem even_at (b : Fin 32) (r : Fin 288) (d : Fin 384) :
    (W main_v41 : Arr Ideal S32x288x384 .f32) (ix3 b r d) = Merge.tok (fun i k => (W main_arg0 : Arr Ideal S32x577x384 .f32) (ix3 b i k)) 0 r d := by
  rw [e_v41 h, e_v29 h]
  pointwise []
  refine congrArg (fun r => (W main_arg0 : Arr Ideal S32x577x384 .f32) (ix3 b r d)) (Fin.ext ?_)
  first | exact (show 1 + (1 + 2 * r.val) = 1 + (2 * r.val + 1) by omega) | rfl

theorem rows_picks (b : Fin 32) (j : Fin 16) : (W main_call4_v4 : Arr Ideal S32x16x1 .i32) (ix3 b j (0 : Fin 1)) = word (picks W b j) := by
  rw [e_call4_v4 h, e_call4_v3 h, e_call4_v2 h, e_call4_c_0 h, e_call4_v1 h, e_call4_v0 h, e_call4_c h, e_v46 h]
  pointwise []
  rw [picks_word h]
  exact word_wrap _ _

theorem source_at (b : Fin 32) (j : Fin 16) (d : Fin 384) :
    (W main_v47 : Arr Ideal S32x16x384 .f32) (ix3 b j d) = Merge.tok (fun i k => (W main_arg0 : Arr Ideal S32x577x384 .f32) (ix3 b i k)) 1 (picks W b j) d := by
  have e : (W main_call4_v13 : Arr Ideal S32x16x384 .i1) (ix3 b j d) = 1#1 := by
    rw [e_call4_v13 h]
    show (W main_call4_v11 : Arr Ideal S32x16 .i1) _ = 1#1
    rw [e_call4_v11 h, e_call4_c_3 h]
    refine all_ones _ (fun i => ?_) _ _
    obtain ⟨p, q, z, rfl⟩ : ∃ (p : Fin 32) (q : Fin 16) (z : Fin 1), i = ix3 p q z := ⟨i 0, i 1, i 2, ValueIdx.eq_ix3 i⟩
    obtain rfl : z = 0 := Subsingleton.elim _ _
    rw [e_call4_v10 h, e_call4_v9 h, e_call4_v8 h, e_call4_v7 h, e_call4_c_1 h, e_call4_v6 h, e_call4_v5 h, e_call4_c_2 h]
    pointwise []
    rw [rows_picks h]
    exact word_inside _
  rw [e_v47 h]
  show Scalar.select ((W main_call4_v13 : Arr Ideal S32x16x384 .i1) (ix3 b j d)) ((W main_call4_v12 : Arr Ideal S32x16x384 .f32) (ix3 b j d)) _ = _
  rw [e, e_call4_v12 h, take_row, word_row (rows_picks h b j), odd_at h]
  rfl

/-! ### The even tokens -/

theorem total_index0 (b : Fin 32) (j : Fin 16) : (W main_v61 : Arr Ideal S32x16x2 .i32) (ix3 b j (0 : Fin 2)) = BitVec.ofNat 32 b.val := by
  rw [e_v61 h, e_v59 h, e_v58 h, e_v52 h, e_v51 h, e_v50 h, e_c_7 h, e_v49 h, e_v48 h, e_c_6 h, e_v44 h, e_v43 h]
  generalize (W main_v60 : Arr Ideal S32x16x1 .i32) = z
  pointwise []
  exact batch_wrap b _

theorem total_index1 (b : Fin 32) (j : Fin 16) : (W main_v61 : Arr Ideal S32x16x2 .i32) (ix3 b j (1 : Fin 2)) = word (near W b (picks W b j)) := by
  rw [e_v61 h, e_v60 h, e_v57 h, e_v56 h, e_v55 h, e_c_9 h, e_v54 h, e_v53 h, e_c_8 h]
  generalize (W main_v59 : Arr Ideal S32x16x1 .i32) = z
  pointwise []
  rw [target_word h]
  exact word_wrap _ _

theorem count_index0 (b : Fin 32) (j : Fin 16) : (W main_v77 : Arr Ideal S32x16x2 .i32) (ix3 b j (0 : Fin 2)) = BitVec.ofNat 32 b.val := by
  rw [e_v77 h, e_v75 h, e_v74 h, e_v68 h, e_v67 h, e_v66 h, e_c_12 h, e_v65 h, e_v64 h, e_c_11 h, e_v44 h, e_v43 h]
  generalize (W main_v76 : Arr Ideal S32x16x1 .i32) = z
  pointwise []
  exact batch_wrap b _

theorem count_index1 (b : Fin 32) (j : Fin 16) : (W main_v77 : Arr Ideal S32x16x2 .i32) (ix3 b j (1 : Fin 2)) = word (near W b (picks W b j)) := by
  rw [e_v77 h, e_v76 h, e_v73 h, e_v72 h, e_v71 h, e_c_14 h, e_v70 h, e_v69 h, e_c_13 h]
  generalize (W main_v75 : Arr Ideal S32x16x1 .i32) = z
  pointwise []
  rw [target_word h]
  exact word_wrap _ _

/-- The even tokens with those merged into them. -/
theorem total_at (b : Fin 32) (r : Fin 288) (d : Fin 384) :
    (W main_v62 : Arr Ideal S32x288x384 .f32) (ix3 b r d)
      = Merge.total (fun i k => (W main_arg0 : Arr Ideal S32x577x384 .f32) (ix3 b i k)) (near W b) (picks W b) r d := by
  rw [e_v62 h, rows_scattered _ _ _ (fun b j => near W b (picks W b j)) (total_index0 h) (total_index1 h), even_at h]
  simp only [source_at h]
  rfl

/-- The number of tokens in each even one. -/
theorem size_at (b : Fin 32) (r : Fin 288) :
    (W main_v79 : Arr Ideal S32x288x1 .f32) (ix3 b r (0 : Fin 1)) = Merge.size (near W b) (picks W b) r := by
  have one : ∀ k, (W main_v78 : Arr Ideal S32x16x1 .f32) k = (1 : EReal) := fun k => by
    rw [e_v78 h, e_cst_15 h]
    exact one_eq
  have one' : (W main_v63 : Arr Ideal S32x288x1 .f32) (ix3 b r (0 : Fin 1)) = (1 : EReal) := by
    rw [e_v63 h, e_cst_10 h]
    exact one_eq
  rw [e_v79 h, counts_scattered _ _ _ (fun b j => near W b (picks W b j)) (count_index0 h) (count_index1 h), one']
  simp only [one]
  rfl

theorem mean_at (b : Fin 32) (r : Fin 288) (d : Fin 384) :
    (W main_v81 : Arr Ideal S32x288x384 .f32) (ix3 b r d)
      = Ideal.div (Merge.total (fun i k => (W main_arg0 : Arr Ideal S32x577x384 .f32) (ix3 b i k)) (near W b) (picks W b) r d) (Merge.size (near W b) (picks W b) r) := by
  rw [← total_at h, ← size_at h, e_v81 h, e_v80 h]
  generalize (W main_v62 : Arr Ideal S32x288x384 .f32) = t
  generalize (W main_v79 : Arr Ideal S32x288x1 .f32) = n
  pointwise []

/-! ### The odd tokens that are left -/

theorem mark_index0 (b : Fin 32) (j : Fin 16) : (W main_v96 : Arr Ideal S32x16x2 .i32) (ix3 b j (0 : Fin 2)) = BitVec.ofNat 32 b.val := by
  rw [e_v96 h, e_v94 h, e_v93 h, e_v87 h, e_v86 h, e_v85 h, e_c_18 h, e_v84 h, e_v83 h, e_c_17 h, e_v44 h, e_v43 h]
  generalize (W main_v95 : Arr Ideal S32x16x1 .i32) = z
  pointwise []
  exact batch_wrap b _

theorem mark_index1 (b : Fin 32) (j : Fin 16) : (W main_v96 : Arr Ideal S32x16x2 .i32) (ix3 b j (1 : Fin 2)) = word (picks W b j) := by
  rw [e_v96 h, e_v95 h, e_v92 h, e_v91 h, e_v90 h, e_c_20 h, e_v89 h, e_v88 h, e_c_19 h]
  generalize (W main_v94 : Arr Ideal S32x16x1 .i32) = z
  pointwise []
  rw [picks_word h]
  exact word_wrap _ _

theorem mark_at (b : Fin 32) (i : Fin 288) :
    (W main_v98 : Arr Ideal S32x288 .i32) (ix2 b i) = if Merge.Gone (picks W b) i then 1#32 else 0#32 := by
  rw [e_v98 h]
  have land : ∀ (p : Fin 32) (j : Fin 16), scatter_S32x288_S32x16x2_S32x16_n_01_01_2.resultIdx? (ix2 p j) (W main_v96 : Arr Ideal S32x16x2 .i32) = some (ix2 b i)
      ↔ p = b ∧ picks W p j = i := fun p j => by
    refine (Routing.scatter_lands2 scatter_S32x288_S32x16x2_S32x16_n_01_01_2 rfl rfl rfl (W main_v96 : Arr Ideal S32x16x2 .i32) p j b i).trans ?_
    have e0 : ((W main_v96 : Arr Ideal S32x16x2 .i32) (ix3 p j (0 : Fin 2))).toInt = p.val := by rw [mark_index0 h, batch_toInt]
    have e1 : ((W main_v96 : Arr Ideal S32x16x2 .i32) (ix3 p j (1 : Fin 2))).toInt = (picks W p j).val := by rw [mark_index1 h, word_toInt]
    constructor
    · rintro ⟨g0, g1⟩
      exact ⟨Fin.ext (by exact_mod_cast e0.symm.trans g0), Fin.ext (by exact_mod_cast e1.symm.trans g1)⟩
    · rintro ⟨rfl, rfl⟩
      exact ⟨e0, e1⟩
  by_cases hg : Merge.Gone (picks W b) i
  · rw [if_pos hg]
    obtain ⟨j, hj⟩ := hg
    refine Routing.scatter_set_hit _ _ _ _ _ _ (fun k _ => ?_) (ix2 b j) ((land b j).2 ⟨rfl, hj⟩)
    rw [e_v97 h, e_c_21 h]
    rfl
  · rw [if_neg hg, Routing.scatter_set_miss _ _ _ _ _ fun k hk => ?_]
    · rw [e_v82 h, e_c_16 h]
      rfl
    · obtain ⟨p, j, rfl⟩ : ∃ (p : Fin 32) (j : Fin 16), k = ix2 p j := ⟨k 0, k 1, ValueIdx.eq_ix2 k⟩
      obtain ⟨rfl, hj⟩ := (land p j).1 hk
      exact hg ⟨j, hj⟩

theorem left_word (b : Fin 32) (p : Fin 272) :
    (W main_v101 : Arr Ideal S32x272x1 .i32) (ix3 b p (0 : Fin 1)) = word (Order.place (Merge.Gone (picks W b)) ⟨p.val, by omega⟩) := by
  rw [e_v101 h, e_v100 h]
  have e := sorted_at (W main_v98 : Arr Ideal S32x288 .i32) (Merge.Gone (picks W b)) b (mark_at h b) ⟨p.val, by omega⟩
  rw [← e_call5_v0 h, ← e_v99 h] at e
  refine Eq.trans ?_ e
  generalize (W main_v99 : Arr Ideal S32x288 .i32) = z
  pointwise []

theorem left_wrap (b : Fin 32) (p : Fin 272) :
    (W main_call6_v4 : Arr Ideal S32x272x1 .i32) (ix3 b p (0 : Fin 1)) = word (Order.place (Merge.Gone (picks W b)) ⟨p.val, by omega⟩) := by
  rw [e_call6_v4 h, e_call6_v3 h, e_call6_v2 h, e_call6_c_0 h, e_call6_v1 h, e_call6_v0 h, e_call6_c h]
  pointwise []
  rw [left_word h]
  exact word_wrap _ _

theorem left_at (b : Fin 32) (p : Fin 272) (d : Fin 384) :
    (W main_v102 : Arr Ideal S32x272x384 .f32) (ix3 b p d)
      = Merge.tok (fun i k => (W main_arg0 : Arr Ideal S32x577x384 .f32) (ix3 b i k)) 1 (Order.place (Merge.Gone (picks W b)) ⟨p.val, by omega⟩) d := by
  have e : (W main_call6_v13 : Arr Ideal S32x272x384 .i1) (ix3 b p d) = 1#1 := by
    rw [e_call6_v13 h]
    show (W main_call6_v11 : Arr Ideal S32x272 .i1) _ = 1#1
    rw [e_call6_v11 h, e_call6_c_3 h]
    refine all_ones _ (fun i => ?_) _ _
    obtain ⟨p, q, z, rfl⟩ : ∃ (p : Fin 32) (q : Fin 272) (z : Fin 1), i = ix3 p q z := ⟨i 0, i 1, i 2, ValueIdx.eq_ix3 i⟩
    obtain rfl : z = 0 := Subsingleton.elim _ _
    rw [e_call6_v10 h, e_call6_v9 h, e_call6_v8 h, e_call6_v7 h, e_call6_c_1 h, e_call6_v6 h, e_call6_v5 h, e_call6_c_2 h]
    pointwise []
    rw [left_wrap h]
    exact word_inside _
  rw [e_v102 h]
  show Scalar.select ((W main_call6_v13 : Arr Ideal S32x272x384 .i1) (ix3 b p d)) ((W main_call6_v12 : Arr Ideal S32x272x384 .f32) (ix3 b p d)) _ = _
  rw [e, e_call6_v12 h, take_rest, word_row (left_wrap h b p), odd_at h]
  rfl

/-! ### All of them -/

theorem merged_at (b : Fin 32) (i : Fin 561) (d : Fin 384) :
    (W main_v104 : Arr Ideal S32x561x384 .f32) (ix3 b i d)
      = Merge.row (fun i k => (W main_arg0 : Arr Ideal S32x577x384 .f32) (ix3 b i k)) (near W b) (picks W b) i d := by
  have h0 : (W main_v28 : Arr Ideal S32x1x384 .f32) (ix3 b (0 : Fin 1) d) = (W main_arg0 : Arr Ideal S32x577x384 .f32) (ix3 b (0 : Fin 577) d) := by
    rw [e_v28 h]
    pointwise []
  rw [e_v104 h, e_v103 h, joined]
  simp only [h0, mean_at h, left_at h]
  rfl

end Cert.ReferenceIdeal.Run
end
-- ==== Proof.RefBlock.lean ====
/- The reference's transformer block on the merged tokens, at an index. -/
module

public import proofs.«01_k».proof.Proof.ReferenceEqs
public import proofs.«01_k».proof.Proof.Spec
public import Idealize.ShloMosaic.Lib.Pointwise

@[expose] public section

set_option maxRecDepth 16384

noncomputable section

namespace Cert.ReferenceIdeal.Run

open Cert.ReferenceIdeal Cert.ReferenceIdeal.Gen Idealize.ShloMosaic Idealize.ShloMosaic.TcCoe Idealize.ShloMosaic.StableHlo Cert.Settled Cert.Spec
open scoped BigOperators

/-- The mean of every row. -/
def means (T : FVec Ideal S32x561x384 .f32) : FVec Ideal S32x561x1 .f32 :=
  Host.divf (broadcastInDim S32x561x1 ![0, 1] bcast_S32x561_S32x561x1_0_1
      (Host.reduceAdd T (constant S_ .f32 0x00000000#32) reducesTo_S32x561x384_S32x561_d2 h_S_))
    (broadcastInDim S32x561x1 ![] bcast_S_S32x561x1 (constant S_ .f32 0x43C00000#32))

theorem means_apply (T : FVec Ideal S32x561x384 .f32) (b : Fin 32) (r : Fin 561) :
    means T (ix3 b r (0 : Fin 1)) = mean (fun k => T (ix3 b r k)) := by
  pointwise [means]
  rfl

/-- The length of a row less the integer 0. -/
def count : FVec Ideal S_ .f32 := subf (constant S_ .f32 0x43C00000#32) (sitofp .f32 (constantI S_ 32 0#32))

theorem count_eq (j : S_.Idx) : count j = Ideal.ofBits .f32 0x43C00000#32 := by
  have : ((0#32 : BitVec 32).toInt : ℝ) = 0 := by norm_num
  show Ideal.ofBits .f32 0x43C00000#32 - (((0#32 : BitVec 32).toInt : ℝ) : EReal) = _
  rw [this]; simp

/-- The variance of every row. -/
def vars (T : FVec Ideal S32x561x384 .f32) : FVec Ideal S32x561x1 .f32 :=
  select (broadcastInDim S32x561x1 ![] bcast_S_S32x561x1 (cmpf .ogt count (constant S_ .f32 0x00000000#32)))
    (Host.divf (broadcastInDim S32x561x1 ![0, 1] bcast_S32x561_S32x561x1_0_1
        (Host.reduceAdd (mulf (subf T (broadcastInDim S32x561x384 ![0, 1, 2] bcast_S32x561x1_S32x561x384_0_1_2 (means T)))
            (subf T (broadcastInDim S32x561x384 ![0, 1, 2] bcast_S32x561x1_S32x561x384_0_1_2 (means T))))
          (constant S_ .f32 0x00000000#32) reducesTo_S32x561x384_S32x561_d2 h_S_))
      (broadcastInDim S32x561x1 ![] bcast_S_S32x561x1 count))
    (broadcastInDim S32x561x1 ![] bcast_S_S32x561x1 (id (constant S_ .f32 0x7FC00000#32)))

theorem vars_apply (T : FVec Ideal S32x561x384 .f32) (b : Fin 32) (r : Fin 561) :
    vars T (ix3 b r (0 : Fin 1)) = var (fun k => T (ix3 b r k)) := by
  have hm := means_apply T b r
  generalize ht : means T = mt at hm
  unfold vars
  rw [ht]
  pointwise []
  simp only [hm, count_eq]
  rw [if_pos (by rw [c384_eq]; exact_mod_cast (by norm_num : (0 : ℝ) < 384))]
  rfl

/-- The layer norm of every row. -/
def norm (T : FVec Ideal S32x561x384 .f32) (g b : FVec Ideal S384 .f32) : FVec Ideal S32x561x384 .f32 :=
  addf (mulf (Host.divf (subf T (broadcastInDim S32x561x384 ![0, 1, 2] bcast_S32x561x1_S32x561x384_0_1_2 (means T)))
      (broadcastInDim S32x561x384 ![0, 1, 2] bcast_S32x561x1_S32x561x384_0_1_2
        (Host.sqrt (addf (vars T) (broadcastInDim S32x561x1 ![] bcast_S_S32x561x1 (constant S_ .f32 0x358637BD#32))))))
      (broadcastInDim S32x561x384 ![0, 1, 2] bcast_S1x1x384_S32x561x384_0_1_2 (broadcastInDim S1x1x384 ![2] bcast_S384_S1x1x384_2 g)))
    (broadcastInDim S32x561x384 ![0, 1, 2] bcast_S1x1x384_S32x561x384_0_1_2 (broadcastInDim S1x1x384 ![2] bcast_S384_S1x1x384_2 b))

theorem norm_apply (T : FVec Ideal S32x561x384 .f32) (g b : FVec Ideal S384 .f32) (i : Fin 32) (r : Fin 561) (k : Fin 384) :
    norm T g b (ix3 i r k) = ln (fun k => g (ix1 k)) (fun k => b (ix1 k)) (fun k => T (ix3 i r k)) k := by
  have hm := means_apply T i r
  have hv := vars_apply T i r
  unfold norm
  generalize means T = mt at hm ⊢
  generalize vars T = vt at hv ⊢
  pointwise []
  simp only [hm, hv]
  exact ln_div (fun k => g (ix1 k)) (fun k => b (ix1 k)) (fun k => T (ix3 i r k)) k

theorem drop4 (a : Fin 32) (b : Fin 6) (c d : Fin 561) : reducesTo_S32x6x561x561_S32x6x561_d3.drop (ix4 a b c d) = ix3 a b c := by
  funext x
  fin_cases x <;> rfl

/-- A fold over the entries of a row of scores is the fold over the keys. -/
theorem max_row (c : EReal) (s : FVec Ideal S32x6x561x561 .f32) (b : Fin 32) (n : Fin 6) (i : Fin 561)
    [DecidablePred fun j => reducesTo_S32x6x561x561_S32x6x561_d3.drop j = ix3 b n i] :
    Finset.fold max c s {j | reducesTo_S32x6x561x561_S32x6x561_d3.drop j = ix3 b n i}
      = Finset.fold max c (fun j : Fin 561 => s (ix4 b n i j)) Finset.univ := by
  have e : (Finset.univ.filter fun j => reducesTo_S32x6x561x561_S32x6x561_d3.drop j = ix3 b n i)
      = Finset.univ.image fun j : Fin 561 => ix4 b n i j := by
    ext j
    simp only [Finset.mem_filter, Finset.mem_univ, true_and, Finset.mem_image]
    constructor
    · intro hj
      obtain ⟨p, q, u, v, rfl⟩ : ∃ (p : Fin 32) (q : Fin 6) (u v : Fin 561), j = ix4 p q u v :=
        ⟨j 0, j 1, j 2, j 3, ValueIdx.eq_ix4 j⟩
      rw [drop4] at hj
      refine ⟨v, ?_⟩
      rw [show p = b from congrFun hj 0, show q = n from congrFun hj 1, show u = i from congrFun hj 2]
    · rintro ⟨x, rfl⟩
      exact drop4 b n i x
  rw [e]
  refine Finset.fold_image fun x _ y _ hxy => ?_
  exact congrFun hxy 3

/-- The largest entry of each row. -/
def maxes (s : FVec Ideal S32x6x561x561 .f32) : FVec Ideal S32x6x561 .f32 :=
  Host.reduce FloatOps.maximumf s (constant S_ .f32 0xFF800000#32) reducesTo_S32x6x561x561_S32x6x561_d3 h_S_

theorem maxes_apply (s : FVec Ideal S32x6x561x561 .f32) (b : Fin 32) (n : Fin 6) (i : Fin 561) :
    maxes s (ix3 b n i) = Finset.univ.sup fun j => (show EReal from s (ix4 b n i j)) := by
  unfold maxes
  pointwise []
  simp only [max_row, negInf_eq, fold_max]

/-- The exponentials of a row's entries, less the largest. -/
def exps (s : FVec Ideal S32x6x561x561 .f32) (t : FVec Ideal S32x6x561 .f32) : FVec Ideal S32x6x561x561 .f32 :=
  Host.exp (subf s (broadcastInDim S32x6x561x561 ![0, 1, 2, 3] bcast_S32x6x561x1_S32x6x561x561_0_1_2_3
    (broadcastInDim S32x6x561x1 ![0, 1, 2] bcast_S32x6x561_S32x6x561x1_0_1_2
      (maximumf (broadcastInDim S32x6x561 ![] bcast_S_S32x6x561 (constant S_ .f32 0xFF800000#32)) t))))

theorem exps_apply (s : FVec Ideal S32x6x561x561 .f32) (t : FVec Ideal S32x6x561 .f32) (b : Fin 32) (n : Fin 6) (i j : Fin 561) :
    exps s t (ix4 b n i j) = Ideal.exp (s (ix4 b n i j) - t (ix3 b n i)) := by
  unfold exps
  pointwise []
  simp only [negInf_eq, max_bot_left]

/-- The soft maximum of each row. -/
def softs (s : FVec Ideal S32x6x561x561 .f32) : FVec Ideal S32x6x561x561 .f32 :=
  Host.divf (exps s (maxes s)) (broadcastInDim S32x6x561x561 ![0, 1, 2, 3] bcast_S32x6x561x1_S32x6x561x561_0_1_2_3
    (broadcastInDim S32x6x561x1 ![0, 1, 2] bcast_S32x6x561_S32x6x561x1_0_1_2
      (Host.reduceAdd (exps s (maxes s)) (constant S_ .f32 0x00000000#32) reducesTo_S32x6x561x561_S32x6x561_d3 h_S_)))

theorem softs_apply (s : FVec Ideal S32x6x561x561 .f32) (b : Fin 32) (n : Fin 6) (i j : Fin 561) :
    softs s (ix4 b n i j)
      = Ideal.div (Ideal.exp (s (ix4 b n i j) - Finset.univ.sup fun j => (show EReal from s (ix4 b n i j))))
          (∑ x, Ideal.exp (s (ix4 b n i x) - Finset.univ.sup fun j => (show EReal from s (ix4 b n i j)))) := by
  simp only [← maxes_apply, ← exps_apply]
  unfold softs
  generalize exps s (maxes s) = e
  pointwise []

variable {W : Valuation τ sig (Elt Ideal)} (h : Settled line W)
include h

theorem norm1 : (W main_v122 : Arr Ideal S32x561x384 .f32) = norm (W main_v104 : Arr Ideal S32x561x384 .f32) (W main_arg1 : Arr Ideal S384 .f32) (W main_arg2 : Arr Ideal S384 .f32) := by
  rw [e_v122 h, e_v121 h, e_v120 h, e_v119 h, e_v118 h, e_v117 h, e_v116 h, e_v115 h, e_v114 h, e_v113 h, e_v112 h, e_cst_25 h,
    e_v111 h, e_v110 h, e_v109 h, e_v108 h, e_v107 h, e_v106 h, e_v105 h, e_cst_22 h, e_cst_23 h, e_call7_v13 h, e_call7_v12 h,
    e_call7_call0_v1 h, e_call7_call0_v0 h, e_call7_cst_4 h, e_call7_cst_3 h, e_call7_v11 h, e_call7_v10 h, e_call7_v9 h,
    e_call7_cst_2 h, e_call7_v8 h, e_call7_cst_1 h, e_call7_v7 h, e_c_24 h, e_call7_v6 h, e_call7_v5 h, e_call7_v4 h, e_call7_v3 h,
    e_call7_v2 h, e_call7_cst_0 h, e_call7_v1 h, e_call7_v0 h, e_call7_cst h]
  rfl

theorem norm2 : (W main_v177 : Arr Ideal S32x561x384 .f32) = norm (W main_v159 : Arr Ideal S32x561x384 .f32) (W main_arg7 : Arr Ideal S384 .f32) (W main_arg8 : Arr Ideal S384 .f32) := by
  rw [e_v177 h, e_v176 h, e_v175 h, e_v174 h, e_v173 h, e_v172 h, e_v171 h, e_v170 h, e_v169 h, e_v168 h, e_v167 h, e_cst_33 h,
    e_v166 h, e_v165 h, e_v164 h, e_v163 h, e_v162 h, e_v161 h, e_v160 h, e_cst_30 h, e_cst_31 h, e_call8_v13 h, e_call8_v12 h,
    e_call8_call0_v1 h, e_call8_call0_v0 h, e_call8_cst_4 h, e_call8_cst_3 h, e_call8_v11 h, e_call8_v10 h, e_call8_v9 h,
    e_call8_cst_2 h, e_call8_v8 h, e_call8_cst_1 h, e_call8_v7 h, e_c_32 h, e_call8_v6 h, e_call8_v5 h, e_call8_v4 h, e_call8_v3 h,
    e_call8_v2 h, e_call8_cst_0 h, e_call8_v1 h, e_call8_v0 h, e_call8_cst h]
  rfl

theorem qkv_row (b : Fin 32) (r : Fin 561) (j : Fin 1152) :
    (W main_v126 : Arr Ideal S32x561x1152 .f32) (ix3 b r j)
      = lin (fun k j => (W main_arg3 : Arr Ideal S384x1152 .f32) (ix2 k j)) (fun j => (W main_arg4 : Arr Ideal S1152 .f32) (ix1 j))
          (fun k => (W main_v122 : Arr Ideal S32x561x384 .f32) (ix3 b r k)) j := by
  rw [e_v126 h, e_v125 h, e_v124 h, e_v123 h]
  generalize (W main_v122 : Arr Ideal S32x561x384 .f32) = T
  generalize (W main_arg3 : Arr Ideal S384x1152 .f32) = w
  generalize (W main_arg4 : Arr Ideal S1152 .f32) = c
  pointwise []
  rfl

theorem mid_row (b : Fin 32) (r : Fin 561) (k : Fin 384) :
    (W main_v159 : Arr Ideal S32x561x384 .f32) (ix3 b r k)
      = (show EReal from (W main_v104 : Arr Ideal S32x561x384 .f32) (ix3 b r k))
        + lin (fun k j => (W main_arg5 : Arr Ideal S384x384 .f32) (ix2 k j)) (fun j => (W main_arg6 : Arr Ideal S384 .f32) (ix1 j))
          (fun k => (W main_v154 : Arr Ideal S32x561x384 .f32) (ix3 b r k)) k := by
  rw [e_v159 h, e_v158 h, e_v157 h, e_v156 h, e_v155 h]
  generalize (W main_v104 : Arr Ideal S32x561x384 .f32) = T
  generalize (W main_v154 : Arr Ideal S32x561x384 .f32) = A
  generalize (W main_arg5 : Arr Ideal S384x384 .f32) = w
  generalize (W main_arg6 : Arr Ideal S384 .f32) = c
  pointwise []
  rfl

theorem fin_row (b : Fin 32) (r : Fin 561) (k : Fin 384) :
    (W main_v193 : Arr Ideal S32x561x384 .f32) (ix3 b r k)
      = (show EReal from (W main_v159 : Arr Ideal S32x561x384 .f32) (ix3 b r k))
        + lin (fun k j => (W main_arg11 : Arr Ideal S1536x384 .f32) (ix2 k j)) (fun j => (W main_arg12 : Arr Ideal S384 .f32) (ix1 j))
          (fun j => gelu (lin (fun k j => (W main_arg9 : Arr Ideal S384x1536 .f32) (ix2 k j)) (fun j => (W main_arg10 : Arr Ideal S1536 .f32) (ix1 j))
            (fun k => (W main_v177 : Arr Ideal S32x561x384 .f32) (ix3 b r k)) j)) k := by
  rw [e_v193 h, e_v192 h, e_v191 h, e_v190 h, e_v189 h, e_v188 h, e_v187 h, e_v186 h, e_v185 h, e_cst_35 h, e_v184 h, e_v183 h, e_v182 h, e_cst_34 h,
    e_v181 h, e_v180 h, e_v179 h, e_v178 h]
  generalize (W main_v159 : Arr Ideal S32x561x384 .f32) = T
  generalize (W main_v177 : Arr Ideal S32x561x384 .f32) = A
  generalize (W main_arg9 : Arr Ideal S384x1536 .f32) = w1
  generalize (W main_arg10 : Arr Ideal S1536 .f32) = c1
  generalize (W main_arg11 : Arr Ideal S1536x384 .f32) = w2
  generalize (W main_arg12 : Arr Ideal S384 .f32) = c2
  pointwise []
  simp only [gelu_erfc]
  rfl

theorem score_at (b : Fin 32) (n : Fin 6) (i j : Fin 561) :
    (show EReal from (W main_v140 : Arr Ideal S32x6x561x561 .f32) (ix4 b n i j))
      = score (fun c => (W main_v126 : Arr Ideal S32x561x1152 .f32) (ix3 b i ⟨n.val * 64 + c.val, by omega⟩))
          (fun j c => (W main_v126 : Arr Ideal S32x561x1152 .f32) (ix3 b j ⟨384 + n.val * 64 + c.val, by omega⟩)) j := by
  rw [e_v140 h, e_v139 h, e_cst_26 h, e_v138 h, e_v137 h, e_v133 h, e_v132 h, e_v131 h, e_v130 h, e_v129 h, e_v128 h, e_v127 h]
  generalize (W main_v126 : Arr Ideal S32x561x1152 .f32) = Q
  pointwise []
  rfl

theorem soft_at (b : Fin 32) (n : Fin 6) (i j : Fin 561) :
    (show EReal from (W main_v151 : Arr Ideal S32x6x561x561 .f32) (ix4 b n i j))
      = softs (W main_v140 : Arr Ideal S32x6x561x561 .f32) (ix4 b n i j) := by
  rw [e_v151 h, e_v150 h, e_v149 h, e_v148 h, e_cst_29 h, e_v147 h, e_v146 h, e_v145 h, e_v144 h, e_v143 h, e_v142 h, e_cst_28 h, e_v141 h, e_cst_27 h]
  rfl

theorem value_at (b : Fin 32) (r : Fin 561) (k : Fin 384) :
    (show EReal from (W main_v154 : Arr Ideal S32x561x384 .f32) (ix3 b r k))
      = ∑ x : Fin 561, (show EReal from (W main_v151 : Arr Ideal S32x6x561x561 .f32) (ix4 b ⟨k.val / 64, by omega⟩ r x))
          * (show EReal from (W main_v126 : Arr Ideal S32x561x1152 .f32) (ix3 b x ⟨768 + k.val / 64 * 64 + k.val % 64, by omega⟩)) := by
  rw [e_v154 h, e_v153 h, e_v152 h, e_v136 h, e_v135 h, e_v134 h, e_v127 h]
  generalize (W main_v126 : Arr Ideal S32x561x1152 .f32) = Q
  generalize (W main_v151 : Arr Ideal S32x6x561x561 .f32) = s
  pointwise []

theorem attn_row (b : Fin 32) (r : Fin 561) (k : Fin 384) :
    (W main_v154 : Arr Ideal S32x561x384 .f32) (ix3 b r k)
      = attn (fun i j => (W main_v126 : Arr Ideal S32x561x1152 .f32) (ix3 b i j)) r k := by
  refine (value_at h b r k).trans ?_
  have hs : ∀ x, (show EReal from (W main_v140 : Arr Ideal S32x6x561x561 .f32) (ix4 b ⟨k.val / 64, by omega⟩ r x))
      = score (fun c => (W main_v126 : Arr Ideal S32x561x1152 .f32) (ix3 b r (headCol 0 k c)))
          (fun j c => (W main_v126 : Arr Ideal S32x561x1152 .f32) (ix3 b j (headCol 1 k c))) x := fun x => by
    rw [score_at h]
    congr 1
    · funext c
      congr 3
      exact (show k.val / 64 * 64 + c.val = 0 * 384 + k.val / 64 * 64 + c.val by omega)
  unfold attn soft
  refine Finset.sum_congr rfl fun x _ => ?_
  rw [soft_at h, softs_apply]
  simp only [hs]
  congr 3

/-- The parameters. -/
def parOf (W : Valuation τ sig (Elt Ideal)) : Par where
  g1 k := (W main_arg1 : Arr Ideal S384 .f32) (ix1 k)
  b1 k := (W main_arg2 : Arr Ideal S384 .f32) (ix1 k)
  qkvw k j := (W main_arg3 : Arr Ideal S384x1152 .f32) (ix2 k j)
  qkvb j := (W main_arg4 : Arr Ideal S1152 .f32) (ix1 j)
  projw k j := (W main_arg5 : Arr Ideal S384x384 .f32) (ix2 k j)
  projb j := (W main_arg6 : Arr Ideal S384 .f32) (ix1 j)
  g2 k := (W main_arg7 : Arr Ideal S384 .f32) (ix1 k)
  b2 k := (W main_arg8 : Arr Ideal S384 .f32) (ix1 k)
  fc1w k j := (W main_arg9 : Arr Ideal S384x1536 .f32) (ix2 k j)
  fc1b j := (W main_arg10 : Arr Ideal S1536 .f32) (ix1 j)
  fc2w k j := (W main_arg11 : Arr Ideal S1536x384 .f32) (ix2 k j)
  fc2b j := (W main_arg12 : Arr Ideal S384 .f32) (ix1 j)

/-- The reference's result is the block of the merged tokens. -/
theorem result_row (b : Fin 32) (r : Fin 561) (k : Fin 384) :
    (W main_v193 : Arr Ideal S32x561x384 .f32) (ix3 b r k)
      = (parOf W).block (fun i k => (W main_v104 : Arr Ideal S32x561x384 .f32) (ix3 b i k)) r k := by
  rw [fin_row h, norm2 h]
  simp only [norm_apply, mid_row h, attn_row h, qkv_row h, norm1 h]
  rfl

end Cert.ReferenceIdeal.Run
end
-- ==== Proof.Value.lean ====
/- The kernel's result and the reference's result, element by element. -/
module

public import proofs.«01_k».proof.Proof.KerRows
public import proofs.«01_k».proof.Proof.KerHost
public import proofs.«01_k».proof.Proof.Select
public import proofs.«01_k».proof.Proof.Region
public import proofs.«01_k».proof.Proof.RefMerge
public import proofs.«01_k».proof.Proof.RefBlock

@[expose] public section

set_option maxRecDepth 16384

noncomputable section

namespace Cert.Value

open Idealize.ShloMosaic Idealize.ShloMosaic.TcCoe Idealize.ShloMosaic.StableHlo Cert.Settled Cert.Spec Cert.Words
open Cert.KernelIdeal (τ sig nD)
open Cert.KernelIdeal.Body Cert.KernelIdeal.Region
open Cert.ReferenceIdeal.Run (line parOf near picks)

section Suffix

open Cert.KernelIdeal Cert.KernelIdeal.Gen Cert.KernelIdeal.Host

/-- The result takes the class token from row 560 of the launch's result and the others from rows 0 to 559. -/
theorem suffix_at {U : Valuation τ sig (Elt Ideal)} (h : Settled hostOps1 U) (b : Fin 32) (i : Fin 561) (k : Fin 384) :
    (U main_v84 : Arr Ideal S32x561x384 .f32) (ix3 b i k) = (U main_v81 : Arr Ideal S32x576x384 .f32) (ix3 b (seat i) k) := by
  rw [e_v84 h, e_v83 h, e_v82 h]
  generalize (U main_v81 : Arr Ideal S32x576x384 .f32) = x
  by_cases h0 : i.val = 0
  · have hs : seat i = (560 : Fin 576) := Fin.ext ((congrArg Fin.val (dif_pos h0) : (seatFn i).val = 560))
    rw [hs]
    have hi : i = (0 : Fin 561) := Fin.ext h0
    subst hi
    pointwise []
  · have hs : seat i = (⟨i.val - 1, by omega⟩ : Fin 576) := Fin.ext (congrArg Fin.val (dif_neg h0 : seatFn i = ⟨i.val - 1, by omega⟩) : (seatFn i).val = i.val - 1)
    rw [hs]
    pointwise []
    exact dif_neg (by omega)

end Suffix

/-- The parameters that the launch is given are the reference's. -/
theorem par_eq (W : Valuation Cert.ReferenceIdeal.τ Cert.ReferenceIdeal.sig (Elt Ideal)) {x3 x4 : Vec Ideal Cert.KernelIdeal.S384 .f32} {x5 : Vec Ideal Cert.KernelIdeal.S384x1152 .f32}
    {x6 : Vec Ideal Cert.KernelIdeal.S1152 .f32} {x7 : Vec Ideal Cert.KernelIdeal.S384x384 .f32}
    {x8 x9 x10 : Vec Ideal Cert.KernelIdeal.S384 .f32} {x11 : Vec Ideal Cert.KernelIdeal.S384x1536 .f32} {x12 : Vec Ideal Cert.KernelIdeal.S1536 .f32}
    {x13 : Vec Ideal Cert.KernelIdeal.S1536x384 .f32} {x14 : Vec Ideal Cert.KernelIdeal.S384 .f32}
    (e3 : x3 = (W Cert.ReferenceIdeal.main_arg1 : Arr Ideal Cert.ReferenceIdeal.S384 .f32))
    (e4 : x4 = (W Cert.ReferenceIdeal.main_arg2 : Arr Ideal Cert.ReferenceIdeal.S384 .f32))
    (e5 : x5 = (W Cert.ReferenceIdeal.main_arg3 : Arr Ideal Cert.ReferenceIdeal.S384x1152 .f32))
    (e6 : x6 = (W Cert.ReferenceIdeal.main_arg4 : Arr Ideal Cert.ReferenceIdeal.S1152 .f32))
    (e7 : x7 = (W Cert.ReferenceIdeal.main_arg5 : Arr Ideal Cert.ReferenceIdeal.S384x384 .f32))
    (e8 : x8 = (W Cert.ReferenceIdeal.main_arg6 : Arr Ideal Cert.ReferenceIdeal.S384 .f32))
    (e9 : x9 = (W Cert.ReferenceIdeal.main_arg7 : Arr Ideal Cert.ReferenceIdeal.S384 .f32))
    (e10 : x10 = (W Cert.ReferenceIdeal.main_arg8 : Arr Ideal Cert.ReferenceIdeal.S384 .f32))
    (e11 : x11 = (W Cert.ReferenceIdeal.main_arg9 : Arr Ideal Cert.ReferenceIdeal.S384x1536 .f32))
    (e12 : x12 = (W Cert.ReferenceIdeal.main_arg10 : Arr Ideal Cert.ReferenceIdeal.S1536 .f32))
    (e13 : x13 = (W Cert.ReferenceIdeal.main_arg11 : Arr Ideal Cert.ReferenceIdeal.S1536x384 .f32))
    (e14 : x14 = (W Cert.ReferenceIdeal.main_arg12 : Arr Ideal Cert.ReferenceIdeal.S384 .f32)) :
    par x3 x4 x5 x6 x7 x8 x9 x10 x11 x12 x13 x14 = parOf W := by
  subst e3 e4 e5 e6 e7 e8 e9 e10 e11 e12 e13 e14
  rfl

/-- A grid point's output row, from what its blocks hold. -/
theorem row_value {P : Par} (hP : P.Nums) {X : Fin 577 → Fin 384 → EReal} {A : Fin 288 → Fin 288} {I : Fin 16 → Fin 288}
    {x0 : Vec Ideal Cert.KernelIdeal.S1x288x768 .f32} {x1 : Vec Ideal Cert.KernelIdeal.S1x16x384 .f32} {x2 : Vec Ideal Cert.KernelIdeal.S1x8x288 .f32}
    {x3 x4 : Vec Ideal Cert.KernelIdeal.S384 .f32} {x5 : Vec Ideal Cert.KernelIdeal.S384x1152 .f32}
    {x6 : Vec Ideal Cert.KernelIdeal.S1152 .f32} {x7 : Vec Ideal Cert.KernelIdeal.S384x384 .f32}
    {x8 x9 x10 : Vec Ideal Cert.KernelIdeal.S384 .f32} {x11 : Vec Ideal Cert.KernelIdeal.S384x1536 .f32} {x12 : Vec Ideal Cert.KernelIdeal.S1536 .f32}
    {x13 : Vec Ideal Cert.KernelIdeal.S1536x384 .f32} {x14 : Vec Ideal Cert.KernelIdeal.S384 .f32}
    (hp : par x3 x4 x5 x6 x7 x8 x9 x10 x11 x12 x13 x14 = P)
    (hr : ∀ i d, rows x0 x1 x2 (ix2 (seat i) d) = Merge.row X A I i d) (r : Fin 561) (k : Fin 384) :
    Cert.KernelIdeal.Gen.out0_15 x0 x1 x2 x3 x4 x5 x6 x7 x8 x9 x10 x11 x12 x13 x14 (ix3 (0 : Fin 1) (seat r) k) = P.block (Merge.row X A I) r k := by
  rw [out_apply, hp]
  exact congrFun (block_seat P hP (fun i d => rows x0 x1 x2 (ix2 i d)) (Merge.row X A I) (fun i => funext (hr i)) r) k

/-- The arguments are the reference's. -/
def Same (U : Valuation τ sig (Elt Ideal)) (W : Valuation Cert.ReferenceIdeal.τ Cert.ReferenceIdeal.sig (Elt Ideal)) : Prop :=
  (@Eq (Arr Ideal Cert.KernelIdeal.S32x577x384 .f32) (U Cert.KernelIdeal.main_arg0) (W Cert.ReferenceIdeal.main_arg0))
    ∧ (@Eq (Arr Ideal Cert.KernelIdeal.S384 .f32) (U Cert.KernelIdeal.main_arg1) (W Cert.ReferenceIdeal.main_arg1))
    ∧ (@Eq (Arr Ideal Cert.KernelIdeal.S384 .f32) (U Cert.KernelIdeal.main_arg2) (W Cert.ReferenceIdeal.main_arg2))
    ∧ (@Eq (Arr Ideal Cert.KernelIdeal.S384x1152 .f32) (U Cert.KernelIdeal.main_arg3) (W Cert.ReferenceIdeal.main_arg3))
    ∧ (@Eq (Arr Ideal Cert.KernelIdeal.S1152 .f32) (U Cert.KernelIdeal.main_arg4) (W Cert.ReferenceIdeal.main_arg4))
    ∧ (@Eq (Arr Ideal Cert.KernelIdeal.S384x384 .f32) (U Cert.KernelIdeal.main_arg5) (W Cert.ReferenceIdeal.main_arg5))
    ∧ (@Eq (Arr Ideal Cert.KernelIdeal.S384 .f32) (U Cert.KernelIdeal.main_arg6) (W Cert.ReferenceIdeal.main_arg6))
    ∧ (@Eq (Arr Ideal Cert.KernelIdeal.S384 .f32) (U Cert.KernelIdeal.main_arg7) (W Cert.ReferenceIdeal.main_arg7))
    ∧ (@Eq (Arr Ideal Cert.KernelIdeal.S384 .f32) (U Cert.KernelIdeal.main_arg8) (W Cert.ReferenceIdeal.main_arg8))
    ∧ (@Eq (Arr Ideal Cert.KernelIdeal.S384x1536 .f32) (U Cert.KernelIdeal.main_arg9) (W Cert.ReferenceIdeal.main_arg9))
    ∧ (@Eq (Arr Ideal Cert.KernelIdeal.S1536 .f32) (U Cert.KernelIdeal.main_arg10) (W Cert.ReferenceIdeal.main_arg10))
    ∧ (@Eq (Arr Ideal Cert.KernelIdeal.S1536x384 .f32) (U Cert.KernelIdeal.main_arg11) (W Cert.ReferenceIdeal.main_arg11))
    ∧ (@Eq (Arr Ideal Cert.KernelIdeal.S384 .f32) (U Cert.KernelIdeal.main_arg12) (W Cert.ReferenceIdeal.main_arg12))

/-- What a query, a key and a value are made of, besides their token, are numbers. -/
def Finite (W : Valuation Cert.ReferenceIdeal.τ Cert.ReferenceIdeal.sig (Elt Ideal)) : Prop :=
  (∀ i, Num ((W Cert.ReferenceIdeal.main_arg1 : Arr Ideal Cert.ReferenceIdeal.S384 .f32) i))
    ∧ (∀ i, Num ((W Cert.ReferenceIdeal.main_arg2 : Arr Ideal Cert.ReferenceIdeal.S384 .f32) i))
    ∧ (∀ i, Num ((W Cert.ReferenceIdeal.main_arg3 : Arr Ideal Cert.ReferenceIdeal.S384x1152 .f32) i))
    ∧ (∀ i, Num ((W Cert.ReferenceIdeal.main_arg4 : Arr Ideal Cert.ReferenceIdeal.S1152 .f32) i))

theorem Finite.nums {W : Valuation Cert.ReferenceIdeal.τ Cert.ReferenceIdeal.sig (Elt Ideal)} (n : Finite W) : (parOf W).Nums := by
  obtain ⟨n1, n2, n3, n4⟩ := n
  exact ⟨fun k => n1 _, fun k => n2 _, fun k j => n3 _, fun j => n4 _⟩

variable (m : (ℓ : Loc nD τ sig) → Buf (Elt Ideal) ℓ) (c : Dev nD)
  {W : Valuation Cert.ReferenceIdeal.τ Cert.ReferenceIdeal.sig (Elt Ideal)} (h' : Settled line W)
  (a : Same (Cert.KernelIdeal.Gen.V0 m c) W) (n : Finite W)

section Prefix
include h' a

theorem match_word (b : Fin 32) (i : Fin 288) :
    (Cert.KernelIdeal.Gen.V0 m c Cert.KernelIdeal.main_v46 : Arr Ideal Cert.KernelIdeal.S32x288 .i32) (ix2 b i) = word (near W b i) :=
  (congrFun (Select.match_eq (Cert.KernelIdeal.Host.pre_settled _) h' a.1 a.2.1 a.2.2.1 a.2.2.2.1 a.2.2.2.2.1) (ix2 b i)).trans (Cert.ReferenceIdeal.Run.near_word h' b i)

theorem picks_word (b : Fin 32) (j : Fin 16) :
    (Cert.KernelIdeal.Gen.V0 m c Cert.KernelIdeal.main_indices : Arr Ideal Cert.KernelIdeal.S32x16 .i32) (ix2 b j) = word (picks W b j) :=
  (congrFun (Select.picks_eq (Cert.KernelIdeal.Host.pre_settled _) h' a.1 a.2.1 a.2.2.1 a.2.2.2.1 a.2.2.2.2.1) (ix2 b j)).trans (Cert.ReferenceIdeal.Run.picks_word h' b j)

theorem rows_at (b : Fin 32) (i : Fin 561) (d : Fin 384) :
    rows (Cert.KernelIdeal.Gen.iblk m c 0 (pt b)) (Cert.KernelIdeal.Gen.iblk m c 1 (pt b)) (Cert.KernelIdeal.Gen.iblk m c 2 (pt b)) (ix2 (seat i) d)
      = Merge.row (fun i k => (W Cert.ReferenceIdeal.main_arg0 : Arr Ideal Cert.ReferenceIdeal.S32x577x384 .f32) (ix3 b i k)) (near W b) (picks W b) i d := by
  rw [← a.1]
  have hs := Cert.KernelIdeal.Host.pre_settled (F := Ideal) (fun b => m (c, b))
  exact rows_seat (Cert.ReferenceIdeal.Run.picks_injective b)
    (fun r d => (iblk_tok m c b r _).trans (Cert.KernelIdeal.Host.even_at hs b r d))
    (fun r d => (iblk_tok m c b r _).trans (Cert.KernelIdeal.Host.odd_at hs b r d))
    (fun d => (iblk_class m c b 0 d).trans (Cert.KernelIdeal.Host.class_at hs b d))
    (fun x => (iblk_marks m c b 0 x).trans (Cert.KernelIdeal.Host.meta_match hs (match_word m c h' a) b x))
    (fun x => (iblk_marks m c b 1 x).trans (Cert.KernelIdeal.Host.meta_mark hs (picks_word m c h' a) b x))
    (fun x => (iblk_marks m c b 2 x).trans (Cert.KernelIdeal.Host.meta_rank hs (picks_word m c h' a) b x)) i d

include n

/-- The launch's result is the reference's, each row at its seat. -/
theorem whole_value (b : Fin 32) (i : Fin 561) (k : Fin 384) :
    whole m c (ix3 b (seat i) k) = (W Cert.ReferenceIdeal.main_v193 : Arr Ideal Cert.ReferenceIdeal.S32x561x384 .f32) (ix3 b i k) := by
  have e : outs m c (pt b) (ix3 (0 : Fin 1) (seat i) k) = (parOf W).block (Merge.row (fun i k => (W Cert.ReferenceIdeal.main_arg0 : Arr Ideal Cert.ReferenceIdeal.S32x577x384 .f32) (ix3 b i k)) (near W b) (picks W b)) i k :=
    row_value n.nums
      (par_eq W ((iblk_3 m c _).trans a.2.1) ((iblk_4 m c _).trans a.2.2.1) ((iblk_5 m c _).trans a.2.2.2.1) ((iblk_6 m c _).trans a.2.2.2.2.1)
        ((iblk_7 m c _).trans a.2.2.2.2.2.1) ((iblk_8 m c _).trans a.2.2.2.2.2.2.1) ((iblk_9 m c _).trans a.2.2.2.2.2.2.2.1) ((iblk_10 m c _).trans a.2.2.2.2.2.2.2.2.1)
        ((iblk_11 m c _).trans a.2.2.2.2.2.2.2.2.2.1) ((iblk_12 m c _).trans a.2.2.2.2.2.2.2.2.2.2.1) ((iblk_13 m c _).trans a.2.2.2.2.2.2.2.2.2.2.2.1) ((iblk_14 m c _).trans a.2.2.2.2.2.2.2.2.2.2.2.2))
      (rows_at m c h' a b) i k
  rw [Cert.ReferenceIdeal.Run.result_row h' b i k, show (fun (i : Fin 561) (k : Fin 384) => (W Cert.ReferenceIdeal.main_v104 : Arr Ideal Cert.ReferenceIdeal.S32x561x384 .f32) (ix3 b i k)) = _ from
    funext fun i => funext fun d => Cert.ReferenceIdeal.Run.merged_at h' b i d]
  exact e

end Prefix

end Cert.Value
end
-- ==== Proof.Algebraic.lean ====
/- The value claim: on parameters that are numbers, the kernel's result is the reference's. -/
module

public import proofs.«01_k».proof.Proof.Frames
public import proofs.«01_k».proof.Proof.Finite
public import proofs.«01_k».proof.Proof.Value

@[expose] public section

set_option maxRecDepth 16384

noncomputable section

namespace Cert.Proof

open Idealize.ShloMosaic Idealize.ShloMosaic.TcCoe Idealize.ShloMosaic.StableHlo Idealize.SL.Sem Cert.Settled Cert.Spec Cert.Value

theorem joined {T : Type} {x y z w : T} (h : x = y) (h' : z = w) (e : w = y) : x = z := h.trans (h'.trans e).symm

section Kernel

open Cert.KernelIdeal Cert.KernelIdeal.Gen Cert.KernelIdeal.Region Cert.KernelIdeal.Host Cert.KernelIdeal.Body

variable (m : (ℓ : Loc nD τ sig) → Buf (Elt Ideal) ℓ) (c : Dev nD)

theorem arrays_distinct : Function.Injective (Pipeline.arrRef (cfgs 0).spec) := by
  decide

/-- What the lines after the launch leave in the kernel's result. -/
theorem tail_value {W : Valuation Cert.ReferenceIdeal.τ Cert.ReferenceIdeal.sig (Elt Ideal)} (h' : Settled Cert.ReferenceIdeal.Run.line W) (a : Same (V0 m c) W) (n : Finite W) :
    @Eq (Arr Ideal S32x561x384 .f32) (Pipeline.afterTail₀ cfgs (dats m) 0 (V0 m) [hostOps1] c main_v84) (W Cert.ReferenceIdeal.main_v193) := by
  have hl : List.flatten [hostOps1 (F := Ideal)] = hostOps1 := by rw [List.flatten_cons, List.flatten_nil, List.append_nil]
  unfold Pipeline.afterTail₀
  rw [hl]
  have e : @Eq (Arr Ideal S32x576x384 .f32) (after hostOps1 (Pipeline.withArrays (cfgs 0).spec c (V0 m c) fun w => (dats m 0 c).arrAt w (cfgs 0).N) (Proc.devRef .tc main_v81)) (whole m c) :=
    (post_keep _ main_v81 (by decide)).trans ((Pipeline.withArrays_arr (cfgs 0).spec arrays_distinct c (V0 m c) (fun w => (dats m 0 c).arrAt w (cfgs 0).N) 15).trans (final15 m c))
  have s := post_settled (Pipeline.withArrays (cfgs 0).spec c (V0 m c) fun w => (dats m 0 c).arrAt w (cfgs 0).N)
  generalize after hostOps1 (Pipeline.withArrays (cfgs 0).spec c (V0 m c) fun w => (dats m 0 c).arrAt w (cfgs 0).N) = U at e s ⊢
  funext j
  obtain ⟨b, i, k, rfl⟩ : ∃ (b : Fin 32) (i : Fin 561) (k : Fin 384), j = ValueIdx.ix3 b i k := ⟨j 0, j 1, j 2, ValueIdx.eq_ix3 j⟩
  exact (suffix_at s b i k).trans ((congrFun e _).trans (whole_value m c h' a n b i k))

end Kernel

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem same_start (c : Dev Cert.KernelIdeal.nD)
    (e0 : @Eq (Arr Ideal Cert.KernelIdeal.S32x577x384 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0)))
    (e1 : @Eq (Arr Ideal Cert.KernelIdeal.S384 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1)))
    (e2 : @Eq (Arr Ideal Cert.KernelIdeal.S384 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2)))
    (e3 : @Eq (Arr Ideal Cert.KernelIdeal.S384x1152 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3)))
    (e4 : @Eq (Arr Ideal Cert.KernelIdeal.S1152 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4)))
    (e5 : @Eq (Arr Ideal Cert.KernelIdeal.S384x384 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5)))
    (e6 : @Eq (Arr Ideal Cert.KernelIdeal.S384 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6)))
    (e7 : @Eq (Arr Ideal Cert.KernelIdeal.S384 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7)))
    (e8 : @Eq (Arr Ideal Cert.KernelIdeal.S384 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8)))
    (e9 : @Eq (Arr Ideal Cert.KernelIdeal.S384x1536 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9)))
    (e10 : @Eq (Arr Ideal Cert.KernelIdeal.S1536 .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10)))
    (e11 : @Eq (Arr Ideal Cert.KernelIdeal.S1536x384 .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11)))
    (e12 : @Eq (Arr Ideal Cert.KernelIdeal.S384 .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12)))
    : Same (Cert.KernelIdeal.Gen.V0 m c) (after Cert.ReferenceIdeal.Run.line (launchContents m' c)) :=
  ⟨joined (T := Arr Ideal Cert.KernelIdeal.S32x577x384 .f32) (Cert.KernelIdeal.Gen.V_main_arg0 m c) (Cert.ReferenceIdeal.Run.keep (launchContents m' c) Cert.ReferenceIdeal.main_arg0 (by decide)) e0,
    joined (T := Arr Ideal Cert.KernelIdeal.S384 .f32) (Cert.KernelIdeal.Gen.V_main_arg1 m c) (Cert.ReferenceIdeal.Run.keep (launchContents m' c) Cert.ReferenceIdeal.main_arg1 (by decide)) e1,
    joined (T := Arr Ideal Cert.KernelIdeal.S384 .f32) (Cert.KernelIdeal.Gen.V_main_arg2 m c) (Cert.ReferenceIdeal.Run.keep (launchContents m' c) Cert.ReferenceIdeal.main_arg2 (by decide)) e2,
    joined (T := Arr Ideal Cert.KernelIdeal.S384x1152 .f32) (Cert.KernelIdeal.Gen.V_main_arg3 m c) (Cert.ReferenceIdeal.Run.keep (launchContents m' c) Cert.ReferenceIdeal.main_arg3 (by decide)) e3,
    joined (T := Arr Ideal Cert.KernelIdeal.S1152 .f32) (Cert.KernelIdeal.Gen.V_main_arg4 m c) (Cert.ReferenceIdeal.Run.keep (launchContents m' c) Cert.ReferenceIdeal.main_arg4 (by decide)) e4,
    joined (T := Arr Ideal Cert.KernelIdeal.S384x384 .f32) (Cert.KernelIdeal.Gen.V_main_arg5 m c) (Cert.ReferenceIdeal.Run.keep (launchContents m' c) Cert.ReferenceIdeal.main_arg5 (by decide)) e5,
    joined (T := Arr Ideal Cert.KernelIdeal.S384 .f32) (Cert.KernelIdeal.Gen.V_main_arg6 m c) (Cert.ReferenceIdeal.Run.keep (launchContents m' c) Cert.ReferenceIdeal.main_arg6 (by decide)) e6,
    joined (T := Arr Ideal Cert.KernelIdeal.S384 .f32) (Cert.KernelIdeal.Gen.V_main_arg7 m c) (Cert.ReferenceIdeal.Run.keep (launchContents m' c) Cert.ReferenceIdeal.main_arg7 (by decide)) e7,
    joined (T := Arr Ideal Cert.KernelIdeal.S384 .f32) (Cert.KernelIdeal.Gen.V_main_arg8 m c) (Cert.ReferenceIdeal.Run.keep (launchContents m' c) Cert.ReferenceIdeal.main_arg8 (by decide)) e8,
    joined (T := Arr Ideal Cert.KernelIdeal.S384x1536 .f32) (Cert.KernelIdeal.Gen.V_main_arg9 m c) (Cert.ReferenceIdeal.Run.keep (launchContents m' c) Cert.ReferenceIdeal.main_arg9 (by decide)) e9,
    joined (T := Arr Ideal Cert.KernelIdeal.S1536 .f32) (Cert.KernelIdeal.Gen.V_main_arg10 m c) (Cert.ReferenceIdeal.Run.keep (launchContents m' c) Cert.ReferenceIdeal.main_arg10 (by decide)) e10,
    joined (T := Arr Ideal Cert.KernelIdeal.S1536x384 .f32) (Cert.KernelIdeal.Gen.V_main_arg11 m c) (Cert.ReferenceIdeal.Run.keep (launchContents m' c) Cert.ReferenceIdeal.main_arg11 (by decide)) e11,
    joined (T := Arr Ideal Cert.KernelIdeal.S384 .f32) (Cert.KernelIdeal.Gen.V_main_arg12 m c) (Cert.ReferenceIdeal.Run.keep (launchContents m' c) Cert.ReferenceIdeal.main_arg12 (by decide)) e12⟩

theorem finite_start (c : Dev Cert.KernelIdeal.nD) (a : Same (Cert.KernelIdeal.Gen.V0 m c) (after Cert.ReferenceIdeal.Run.line (launchContents m' c)))
    (h : @Cert.Pre_KernelIdeal_finite Cert.Pre_finite.facts m) : Finite (after Cert.ReferenceIdeal.Run.line (launchContents m' c)) := by
  obtain ⟨n1, n2, n3, n4⟩ := @Cert.Pre_finite.nums Cert.Pre_finite.facts _ _ _ _ _ _ _ _ _ _ _ _ _ (h c)
  obtain ⟨-, a1, a2, a3, a4, -⟩ := a
  have v1 := (Cert.KernelIdeal.Gen.V_main_arg1 m c).symm.trans a1
  have v2 := (Cert.KernelIdeal.Gen.V_main_arg2 m c).symm.trans a2
  have v3 := (Cert.KernelIdeal.Gen.V_main_arg3 m c).symm.trans a3
  have v4 := (Cert.KernelIdeal.Gen.V_main_arg4 m c).symm.trans a4
  exact ⟨fun i => (congrFun v1 i).subst (motive := Num) (n1 i), fun i => (congrFun v2 i).subst (motive := Num) (n2 i),
    fun i => (congrFun v3 i).subst (motive := Num) (n3 i), fun i => (congrFun v4 i).subst (motive := Num) (n4 i)⟩

theorem algebraic : @Cert.algebraic_KernelIdeal_ReferenceIdeal_pre_finite Cert.KernelIdeal.Gen.facts Cert.ReferenceIdeal.Gen.facts Cert.Pre_finite.facts := by
  intro m g m' g' hp ha
  have hs : ∀ c, Same (Cert.KernelIdeal.Gen.V0 m c) (after Cert.ReferenceIdeal.Run.line (launchContents m' c)) := fun c => by
    obtain ⟨e0, e1, e2, e3, e4, e5, e6, e7, e8, e9, e10, e11, e12⟩ := ha c
    exact same_start m m' c e0 e1 e2 e3 e4 e5 e6 e7 e8 e9 e10 e11 e12
  refine ⟨fun c => after Cert.ReferenceIdeal.Run.line (launchContents m' c) (Proc.devRef .tc Cert.ReferenceIdeal.main_v193), ?_, ?_⟩
  · refine (θ_run _ _ _).mono (fun r h c => ?_) (θ_run_and (Cert.KernelIdeal.Gen.run_main m g) (Cert.KernelIdeal.Gen.unchanged m g))
    exact ⟨((h.1 c).2 Cert.KernelIdeal.main_v84 (Pipeline.mem_restRefs_of Cert.KernelIdeal.main_v84 (by decide) (by decide))).trans
      (tail_value m c (Cert.ReferenceIdeal.Run.settled _) (hs c) (finite_start m m' c (hs c) hp)), h.2 c⟩
  · refine (θ_run _ _ _).mono (fun r h c => ?_) (Cert.ReferenceIdeal.Run.run m' g')
    refine ⟨h c _, ?_, ?_, ?_, ?_, ?_, ?_, ?_, ?_, ?_, ?_, ?_, ?_, ?_⟩ <;>
    exact (h c _).trans ((Cert.ReferenceIdeal.Run.keep _ _ (by decide)).trans rfl)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.facts,
  quiescent_kernel, quiescent_kernelIdeal, quiescent_kernelIdeal_finite, quiescent_referenceIdeal, quiescent_referenceIdeal_finite, preserves_kernel, algebraic⟩

end Cert.Proof

end
